-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33)
      ∧ r.2.mem ((c.tc : Thread Cert.Kernel7.nD Cert.Kernel7.τ).loc Cert.Kernel7.main_arg34) = m ((c.tc : Thread Cert.Kernel7.nD Cert.Kernel7.τ).loc Cert.Kernel7.main_arg34)
      ∧ r.2.mem ((c.tc : Thread Cert.Kernel7.nD Cert.Kernel7.τ).loc Cert.Kernel7.main_arg35) = m ((c.tc : Thread Cert.Kernel7.nD Cert.Kernel7.τ).loc Cert.Kernel7.main_arg35)
      ∧ r.2.mem ((c.tc : Thread Cert.Kernel7.nD Cert.Kernel7.τ).loc Cert.Kernel7.main_arg36) = m ((c.tc : Thread Cert.Kernel7.nD Cert.Kernel7.τ).loc Cert.Kernel7.main_arg36)
      ∧ r.2.mem ((c.tc : Thread Cert.Kernel7.nD Cert.Kernel7.τ).loc Cert.Kernel7.main_arg37) = m ((c.tc : Thread Cert.Kernel7.nD Cert.Kernel7.τ).loc Cert.Kernel7.main_arg37)
      ∧ r.2.mem ((c.tc : Thread Cert.Kernel7.nD Cert.Kernel7.τ).loc Cert.Kernel7.main_arg38) = m ((c.tc : Thread Cert.Kernel7.nD Cert.Kernel7.τ).loc Cert.Kernel7.main_arg38)
      ∧ r.2.mem ((c.tc : Thread Cert.Kernel7.nD Cert.Kernel7.τ).loc Cert.Kernel7.main_arg39) = m ((c.tc : Thread Cert.Kernel7.nD Cert.Kernel7.τ).loc Cert.Kernel7.main_arg39)
      ∧ r.2.mem ((c.tc : Thread Cert.Kernel7.nD Cert.Kernel7.τ).loc Cert.Kernel7.main_arg40) = m ((c.tc : Thread Cert.Kernel7.nD Cert.Kernel7.τ).loc Cert.Kernel7.main_arg40)
      ∧ r.2.mem ((c.tc : Thread Cert.Kernel7.nD Cert.Kernel7.τ).loc Cert.Kernel7.main_arg41) = m ((c.tc : Thread Cert.Kernel7.nD Cert.Kernel7.τ).loc Cert.Kernel7.main_arg41)
      ∧ r.2.mem ((c.tc : Thread Cert.Kernel7.nD Cert.Kernel7.τ).loc Cert.Kernel7.main_arg42) = m ((c.tc : Thread Cert.Kernel7.nD Cert.Kernel7.τ).loc Cert.Kernel7.main_arg42)
      ∧ r.2.mem ((c.tc : Thread Cert.Kernel7.nD Cert.Kernel7.τ).loc Cert.Kernel7.main_arg43) = m ((c.tc : Thread Cert.Kernel7.nD Cert.Kernel7.τ).loc Cert.Kernel7.main_arg43)
      ∧ r.2.mem ((c.tc : Thread Cert.Kernel7.nD Cert.Kernel7.τ).loc Cert.Kernel7.main_arg44) = m ((c.tc : Thread Cert.Kernel7.nD Cert.Kernel7.τ).loc Cert.Kernel7.main_arg44)
      ∧ r.2.mem ((c.tc : Thread Cert.Kernel7.nD Cert.Kernel7.τ).loc Cert.Kernel7.main_arg45) = m ((c.tc : Thread Cert.Kernel7.nD Cert.Kernel7.τ).loc Cert.Kernel7.main_arg45)
      ∧ r.2.mem ((c.tc : Thread Cert.Kernel7.nD Cert.Kernel7.τ).loc Cert.Kernel7.main_arg46) = m ((c.tc : Thread Cert.Kernel7.nD Cert.Kernel7.τ).loc Cert.Kernel7.main_arg46)
      ∧ r.2.mem ((c.tc : Thread Cert.Kernel7.nD Cert.Kernel7.τ).loc Cert.Kernel7.main_arg47) = m ((c.tc : Thread Cert.Kernel7.nD Cert.Kernel7.τ).loc Cert.Kernel7.main_arg47)
      ∧ r.2.mem ((c.tc : Thread Cert.Kernel7.nD Cert.Kernel7.τ).loc Cert.Kernel7.main_arg48) = m ((c.tc : Thread Cert.Kernel7.nD Cert.Kernel7.τ).loc Cert.Kernel7.main_arg48)
      ∧ r.2.mem ((c.tc : Thread Cert.Kernel7.nD Cert.Kernel7.τ).loc Cert.Kernel7.main_arg49) = m ((c.tc : Thread Cert.Kernel7.nD Cert.Kernel7.τ).loc Cert.Kernel7.main_arg49)
      ∧ r.2.mem ((c.tc : Thread Cert.Kernel7.nD Cert.Kernel7.τ).loc Cert.Kernel7.main_arg50) = m ((c.tc : Thread Cert.Kernel7.nD Cert.Kernel7.τ).loc Cert.Kernel7.main_arg50)
      ∧ r.2.mem ((c.tc : Thread Cert.Kernel7.nD Cert.Kernel7.τ).loc Cert.Kernel7.main_arg51) = m ((c.tc : Thread Cert.Kernel7.nD Cert.Kernel7.τ).loc Cert.Kernel7.main_arg51))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
      ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
      ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
      ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
      ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
      ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
      ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
      ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
      ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
      ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
      ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
      ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
      ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
      ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
      ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
      ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
      ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
      ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
      ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33)
      ∧ r.2.mem ((c.tc : Thread Cert.Reference7Ideal.nD Cert.Reference7Ideal.τ).loc Cert.Reference7Ideal.main_arg34) = m ((c.tc : Thread Cert.Reference7Ideal.nD Cert.Reference7Ideal.τ).loc Cert.Reference7Ideal.main_arg34)
      ∧ r.2.mem ((c.tc : Thread Cert.Reference7Ideal.nD Cert.Reference7Ideal.τ).loc Cert.Reference7Ideal.main_arg35) = m ((c.tc : Thread Cert.Reference7Ideal.nD Cert.Reference7Ideal.τ).loc Cert.Reference7Ideal.main_arg35)
      ∧ r.2.mem ((c.tc : Thread Cert.Reference7Ideal.nD Cert.Reference7Ideal.τ).loc Cert.Reference7Ideal.main_arg36) = m ((c.tc : Thread Cert.Reference7Ideal.nD Cert.Reference7Ideal.τ).loc Cert.Reference7Ideal.main_arg36)
      ∧ r.2.mem ((c.tc : Thread Cert.Reference7Ideal.nD Cert.Reference7Ideal.τ).loc Cert.Reference7Ideal.main_arg37) = m ((c.tc : Thread Cert.Reference7Ideal.nD Cert.Reference7Ideal.τ).loc Cert.Reference7Ideal.main_arg37)
      ∧ r.2.mem ((c.tc : Thread Cert.Reference7Ideal.nD Cert.Reference7Ideal.τ).loc Cert.Reference7Ideal.main_arg38) = m ((c.tc : Thread Cert.Reference7Ideal.nD Cert.Reference7Ideal.τ).loc Cert.Reference7Ideal.main_arg38)
      ∧ r.2.mem ((c.tc : Thread Cert.Reference7Ideal.nD Cert.Reference7Ideal.τ).loc Cert.Reference7Ideal.main_arg39) = m ((c.tc : Thread Cert.Reference7Ideal.nD Cert.Reference7Ideal.τ).loc Cert.Reference7Ideal.main_arg39)
      ∧ r.2.mem ((c.tc : Thread Cert.Reference7Ideal.nD Cert.Reference7Ideal.τ).loc Cert.Reference7Ideal.main_arg40) = m ((c.tc : Thread Cert.Reference7Ideal.nD Cert.Reference7Ideal.τ).loc Cert.Reference7Ideal.main_arg40)
      ∧ r.2.mem ((c.tc : Thread Cert.Reference7Ideal.nD Cert.Reference7Ideal.τ).loc Cert.Reference7Ideal.main_arg41) = m ((c.tc : Thread Cert.Reference7Ideal.nD Cert.Reference7Ideal.τ).loc Cert.Reference7Ideal.main_arg41)
      ∧ r.2.mem ((c.tc : Thread Cert.Reference7Ideal.nD Cert.Reference7Ideal.τ).loc Cert.Reference7Ideal.main_arg42) = m ((c.tc : Thread Cert.Reference7Ideal.nD Cert.Reference7Ideal.τ).loc Cert.Reference7Ideal.main_arg42)
      ∧ r.2.mem ((c.tc : Thread Cert.Reference7Ideal.nD Cert.Reference7Ideal.τ).loc Cert.Reference7Ideal.main_arg43) = m ((c.tc : Thread Cert.Reference7Ideal.nD Cert.Reference7Ideal.τ).loc Cert.Reference7Ideal.main_arg43)
      ∧ r.2.mem ((c.tc : Thread Cert.Reference7Ideal.nD Cert.Reference7Ideal.τ).loc Cert.Reference7Ideal.main_arg44) = m ((c.tc : Thread Cert.Reference7Ideal.nD Cert.Reference7Ideal.τ).loc Cert.Reference7Ideal.main_arg44)
      ∧ r.2.mem ((c.tc : Thread Cert.Reference7Ideal.nD Cert.Reference7Ideal.τ).loc Cert.Reference7Ideal.main_arg45) = m ((c.tc : Thread Cert.Reference7Ideal.nD Cert.Reference7Ideal.τ).loc Cert.Reference7Ideal.main_arg45)
      ∧ r.2.mem ((c.tc : Thread Cert.Reference7Ideal.nD Cert.Reference7Ideal.τ).loc Cert.Reference7Ideal.main_arg46) = m ((c.tc : Thread Cert.Reference7Ideal.nD Cert.Reference7Ideal.τ).loc Cert.Reference7Ideal.main_arg46)
      ∧ r.2.mem ((c.tc : Thread Cert.Reference7Ideal.nD Cert.Reference7Ideal.τ).loc Cert.Reference7Ideal.main_arg47) = m ((c.tc : Thread Cert.Reference7Ideal.nD Cert.Reference7Ideal.τ).loc Cert.Reference7Ideal.main_arg47)
      ∧ r.2.mem ((c.tc : Thread Cert.Reference7Ideal.nD Cert.Reference7Ideal.τ).loc Cert.Reference7Ideal.main_arg48) = m ((c.tc : Thread Cert.Reference7Ideal.nD Cert.Reference7Ideal.τ).loc Cert.Reference7Ideal.main_arg48)
      ∧ r.2.mem ((c.tc : Thread Cert.Reference7Ideal.nD Cert.Reference7Ideal.τ).loc Cert.Reference7Ideal.main_arg49) = m ((c.tc : Thread Cert.Reference7Ideal.nD Cert.Reference7Ideal.τ).loc Cert.Reference7Ideal.main_arg49)
      ∧ r.2.mem ((c.tc : Thread Cert.Reference7Ideal.nD Cert.Reference7Ideal.τ).loc Cert.Reference7Ideal.main_arg50) = m ((c.tc : Thread Cert.Reference7Ideal.nD Cert.Reference7Ideal.τ).loc Cert.Reference7Ideal.main_arg50)
      ∧ r.2.mem ((c.tc : Thread Cert.Reference7Ideal.nD Cert.Reference7Ideal.τ).loc Cert.Reference7Ideal.main_arg51) = m ((c.tc : Thread Cert.Reference7Ideal.nD Cert.Reference7Ideal.τ).loc Cert.Reference7Ideal.main_arg51))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v0_1) i = v1 c i)
          ∧ (∀ i : (⟨2, ![8192, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v0_2) i = v2 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v0_3) i = v3 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v0_4) i = v4 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.KernelIdeal.nD Cert.KernelIdeal.τ).loc Cert.KernelIdeal.main_v0_5) i = v5 c i)
          ∧ (∀ i : (⟨3, ![4, 512, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 i = 1#1 → r.2.mem ((c.tc : Thread Cert.KernelIdeal.nD Cert.KernelIdeal.τ).loc Cert.KernelIdeal.main_v0_6) i = v6 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 i = 1#1 → r.2.mem ((c.tc : Thread Cert.KernelIdeal.nD Cert.KernelIdeal.τ).loc Cert.KernelIdeal.main_v0_7) i = v7 c i)
          ∧ (∀ i : (⟨2, ![1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 i = 1#1 → r.2.mem ((c.tc : Thread Cert.KernelIdeal.nD Cert.KernelIdeal.τ).loc Cert.KernelIdeal.main_v0_8) i = v8 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v72) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v125) i = v1 c i)
          ∧ (∀ i : (⟨2, ![8192, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v126) i = v2 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v124) i = v3 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v93) i = v4 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.ReferenceIdeal.nD Cert.ReferenceIdeal.τ).loc Cert.ReferenceIdeal.main_v120) i = v5 c i)
          ∧ (∀ i : (⟨3, ![4, 512, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 i = 1#1 → r.2.mem ((c.tc : Thread Cert.ReferenceIdeal.nD Cert.ReferenceIdeal.τ).loc Cert.ReferenceIdeal.main_v118) i = v6 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 i = 1#1 → r.2.mem ((c.tc : Thread Cert.ReferenceIdeal.nD Cert.ReferenceIdeal.τ).loc Cert.ReferenceIdeal.main_v75) i = v7 c i)
          ∧ (∀ i : (⟨2, ![1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 i = 1#1 → r.2.mem ((c.tc : Thread Cert.ReferenceIdeal.nD Cert.ReferenceIdeal.τ).loc Cert.ReferenceIdeal.main_v127) i = v8 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v13) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_5)) (v2 : (c : Dev Cert.Kernel5Ideal.nD) → Buf (Elt Ideal) ((c.tc : Thread Cert.Kernel5Ideal.nD Cert.Kernel5Ideal.τ).loc Cert.Kernel5Ideal.main_v15_10)) (v3 : (c : Dev Cert.Kernel5Ideal.nD) → Buf (Elt Ideal) ((c.tc : Thread Cert.Kernel5Ideal.nD Cert.Kernel5Ideal.τ).loc Cert.Kernel5Ideal.main_v15_1)) (v4 : (c : Dev Cert.Kernel5Ideal.nD) → Buf (Elt Ideal) ((c.tc : Thread Cert.Kernel5Ideal.nD Cert.Kernel5Ideal.τ).loc Cert.Kernel5Ideal.main_v15_6)) (v5 : (c : Dev Cert.Kernel5Ideal.nD) → Buf (Elt Ideal) ((c.tc : Thread Cert.Kernel5Ideal.nD Cert.Kernel5Ideal.τ).loc Cert.Kernel5Ideal.main_v15_11)) (v6 : (c : Dev Cert.Kernel5Ideal.nD) → Buf (Elt Ideal) ((c.tc : Thread Cert.Kernel5Ideal.nD Cert.Kernel5Ideal.τ).loc Cert.Kernel5Ideal.main_v15_2)) (v7 : (c : Dev Cert.Kernel5Ideal.nD) → Buf (Elt Ideal) ((c.tc : Thread Cert.Kernel5Ideal.nD Cert.Kernel5Ideal.τ).loc Cert.Kernel5Ideal.main_v15_7)) (v8 : (c : Dev Cert.Kernel5Ideal.nD) → Buf (Elt Ideal) ((c.tc : Thread Cert.Kernel5Ideal.nD Cert.Kernel5Ideal.τ).loc Cert.Kernel5Ideal.main_v15_12)) (v9 : (c : Dev Cert.Kernel5Ideal.nD) → Buf (Elt Ideal) ((c.tc : Thread Cert.Kernel5Ideal.nD Cert.Kernel5Ideal.τ).loc Cert.Kernel5Ideal.main_v15_3)) (v10 : (c : Dev Cert.Kernel5Ideal.nD) → Buf (Elt Ideal) ((c.tc : Thread Cert.Kernel5Ideal.nD Cert.Kernel5Ideal.τ).loc Cert.Kernel5Ideal.main_v15_8)) (v11 : (c : Dev Cert.Kernel5Ideal.nD) → Buf (Elt Ideal) ((c.tc : Thread Cert.Kernel5Ideal.nD Cert.Kernel5Ideal.τ).loc Cert.Kernel5Ideal.main_v15_13)) (v12 : (c : Dev Cert.Kernel5Ideal.nD) → Buf (Elt Ideal) ((c.tc : Thread Cert.Kernel5Ideal.nD Cert.Kernel5Ideal.τ).loc Cert.Kernel5Ideal.main_v15_4)) (v13 : (c : Dev Cert.Kernel5Ideal.nD) → Buf (Elt Ideal) ((c.tc : Thread Cert.Kernel5Ideal.nD Cert.Kernel5Ideal.τ).loc Cert.Kernel5Ideal.main_v15_9)) (v14 : (c : Dev Cert.Kernel5Ideal.nD) → Buf (Elt Ideal) ((c.tc : Thread Cert.Kernel5Ideal.nD Cert.Kernel5Ideal.τ).loc Cert.Kernel5Ideal.main_v15_14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_5) = v1 c
          ∧ r.2.mem ((c.tc : Thread Cert.Kernel5Ideal.nD Cert.Kernel5Ideal.τ).loc Cert.Kernel5Ideal.main_v15_10) = v2 c
          ∧ r.2.mem ((c.tc : Thread Cert.Kernel5Ideal.nD Cert.Kernel5Ideal.τ).loc Cert.Kernel5Ideal.main_v15_1) = v3 c
          ∧ r.2.mem ((c.tc : Thread Cert.Kernel5Ideal.nD Cert.Kernel5Ideal.τ).loc Cert.Kernel5Ideal.main_v15_6) = v4 c
          ∧ r.2.mem ((c.tc : Thread Cert.Kernel5Ideal.nD Cert.Kernel5Ideal.τ).loc Cert.Kernel5Ideal.main_v15_11) = v5 c
          ∧ r.2.mem ((c.tc : Thread Cert.Kernel5Ideal.nD Cert.Kernel5Ideal.τ).loc Cert.Kernel5Ideal.main_v15_2) = v6 c
          ∧ r.2.mem ((c.tc : Thread Cert.Kernel5Ideal.nD Cert.Kernel5Ideal.τ).loc Cert.Kernel5Ideal.main_v15_7) = v7 c
          ∧ r.2.mem ((c.tc : Thread Cert.Kernel5Ideal.nD Cert.Kernel5Ideal.τ).loc Cert.Kernel5Ideal.main_v15_12) = v8 c
          ∧ r.2.mem ((c.tc : Thread Cert.Kernel5Ideal.nD Cert.Kernel5Ideal.τ).loc Cert.Kernel5Ideal.main_v15_3) = v9 c
          ∧ r.2.mem ((c.tc : Thread Cert.Kernel5Ideal.nD Cert.Kernel5Ideal.τ).loc Cert.Kernel5Ideal.main_v15_8) = v10 c
          ∧ r.2.mem ((c.tc : Thread Cert.Kernel5Ideal.nD Cert.Kernel5Ideal.τ).loc Cert.Kernel5Ideal.main_v15_13) = v11 c
          ∧ r.2.mem ((c.tc : Thread Cert.Kernel5Ideal.nD Cert.Kernel5Ideal.τ).loc Cert.Kernel5Ideal.main_v15_4) = v12 c
          ∧ r.2.mem ((c.tc : Thread Cert.Kernel5Ideal.nD Cert.Kernel5Ideal.τ).loc Cert.Kernel5Ideal.main_v15_9) = v13 c
          ∧ r.2.mem ((c.tc : Thread Cert.Kernel5Ideal.nD Cert.Kernel5Ideal.τ).loc Cert.Kernel5Ideal.main_v15_14) = v14 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v13) = v2 c
          ∧ r.2.mem ((c.tc : Thread Cert.Reference5Ideal.nD Cert.Reference5Ideal.τ).loc Cert.Reference5Ideal.main_v53) = v3 c
          ∧ r.2.mem ((c.tc : Thread Cert.Reference5Ideal.nD Cert.Reference5Ideal.τ).loc Cert.Reference5Ideal.main_v34) = v4 c
          ∧ r.2.mem ((c.tc : Thread Cert.Reference5Ideal.nD Cert.Reference5Ideal.τ).loc Cert.Reference5Ideal.main_v40) = v5 c
          ∧ r.2.mem ((c.tc : Thread Cert.Reference5Ideal.nD Cert.Reference5Ideal.τ).loc Cert.Reference5Ideal.main_v80) = v6 c
          ∧ r.2.mem ((c.tc : Thread Cert.Reference5Ideal.nD Cert.Reference5Ideal.τ).loc Cert.Reference5Ideal.main_v61) = v7 c
          ∧ r.2.mem ((c.tc : Thread Cert.Reference5Ideal.nD Cert.Reference5Ideal.τ).loc Cert.Reference5Ideal.main_v67) = v8 c
          ∧ r.2.mem ((c.tc : Thread Cert.Reference5Ideal.nD Cert.Reference5Ideal.τ).loc Cert.Reference5Ideal.main_v107) = v9 c
          ∧ r.2.mem ((c.tc : Thread Cert.Reference5Ideal.nD Cert.Reference5Ideal.τ).loc Cert.Reference5Ideal.main_v88) = v10 c
          ∧ r.2.mem ((c.tc : Thread Cert.Reference5Ideal.nD Cert.Reference5Ideal.τ).loc Cert.Reference5Ideal.main_v94) = v11 c
          ∧ r.2.mem ((c.tc : Thread Cert.Reference5Ideal.nD Cert.Reference5Ideal.τ).loc Cert.Reference5Ideal.main_v134) = v12 c
          ∧ r.2.mem ((c.tc : Thread Cert.Reference5Ideal.nD Cert.Reference5Ideal.τ).loc Cert.Reference5Ideal.main_v115) = v13 c
          ∧ r.2.mem ((c.tc : Thread Cert.Reference5Ideal.nD Cert.Reference5Ideal.τ).loc Cert.Reference5Ideal.main_v121) = v14 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_v29) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)
      ∧ m' ((c.tc : Thread Cert.Reference7Ideal.nD Cert.Reference7Ideal.τ).loc Cert.Reference7Ideal.main_arg34) = m ((c.tc : Thread Cert.Kernel7Ideal.nD Cert.Kernel7Ideal.τ).loc Cert.Kernel7Ideal.main_arg34)
      ∧ m' ((c.tc : Thread Cert.Reference7Ideal.nD Cert.Reference7Ideal.τ).loc Cert.Reference7Ideal.main_arg35) = m ((c.tc : Thread Cert.Kernel7Ideal.nD Cert.Kernel7Ideal.τ).loc Cert.Kernel7Ideal.main_arg35)
      ∧ m' ((c.tc : Thread Cert.Reference7Ideal.nD Cert.Reference7Ideal.τ).loc Cert.Reference7Ideal.main_arg36) = m ((c.tc : Thread Cert.Kernel7Ideal.nD Cert.Kernel7Ideal.τ).loc Cert.Kernel7Ideal.main_arg36)
      ∧ m' ((c.tc : Thread Cert.Reference7Ideal.nD Cert.Reference7Ideal.τ).loc Cert.Reference7Ideal.main_arg37) = m ((c.tc : Thread Cert.Kernel7Ideal.nD Cert.Kernel7Ideal.τ).loc Cert.Kernel7Ideal.main_arg37)
      ∧ m' ((c.tc : Thread Cert.Reference7Ideal.nD Cert.Reference7Ideal.τ).loc Cert.Reference7Ideal.main_arg38) = m ((c.tc : Thread Cert.Kernel7Ideal.nD Cert.Kernel7Ideal.τ).loc Cert.Kernel7Ideal.main_arg38)
      ∧ m' ((c.tc : Thread Cert.Reference7Ideal.nD Cert.Reference7Ideal.τ).loc Cert.Reference7Ideal.main_arg39) = m ((c.tc : Thread Cert.Kernel7Ideal.nD Cert.Kernel7Ideal.τ).loc Cert.Kernel7Ideal.main_arg39)
      ∧ m' ((c.tc : Thread Cert.Reference7Ideal.nD Cert.Reference7Ideal.τ).loc Cert.Reference7Ideal.main_arg40) = m ((c.tc : Thread Cert.Kernel7Ideal.nD Cert.Kernel7Ideal.τ).loc Cert.Kernel7Ideal.main_arg40)
      ∧ m' ((c.tc : Thread Cert.Reference7Ideal.nD Cert.Reference7Ideal.τ).loc Cert.Reference7Ideal.main_arg41) = m ((c.tc : Thread Cert.Kernel7Ideal.nD Cert.Kernel7Ideal.τ).loc Cert.Kernel7Ideal.main_arg41)
      ∧ m' ((c.tc : Thread Cert.Reference7Ideal.nD Cert.Reference7Ideal.τ).loc Cert.Reference7Ideal.main_arg42) = m ((c.tc : Thread Cert.Kernel7Ideal.nD Cert.Kernel7Ideal.τ).loc Cert.Kernel7Ideal.main_arg42)
      ∧ m' ((c.tc : Thread Cert.Reference7Ideal.nD Cert.Reference7Ideal.τ).loc Cert.Reference7Ideal.main_arg43) = m ((c.tc : Thread Cert.Kernel7Ideal.nD Cert.Kernel7Ideal.τ).loc Cert.Kernel7Ideal.main_arg43)
      ∧ m' ((c.tc : Thread Cert.Reference7Ideal.nD Cert.Reference7Ideal.τ).loc Cert.Reference7Ideal.main_arg44) = m ((c.tc : Thread Cert.Kernel7Ideal.nD Cert.Kernel7Ideal.τ).loc Cert.Kernel7Ideal.main_arg44)
      ∧ m' ((c.tc : Thread Cert.Reference7Ideal.nD Cert.Reference7Ideal.τ).loc Cert.Reference7Ideal.main_arg45) = m ((c.tc : Thread Cert.Kernel7Ideal.nD Cert.Kernel7Ideal.τ).loc Cert.Kernel7Ideal.main_arg45)
      ∧ m' ((c.tc : Thread Cert.Reference7Ideal.nD Cert.Reference7Ideal.τ).loc Cert.Reference7Ideal.main_arg46) = m ((c.tc : Thread Cert.Kernel7Ideal.nD Cert.Kernel7Ideal.τ).loc Cert.Kernel7Ideal.main_arg46)
      ∧ m' ((c.tc : Thread Cert.Reference7Ideal.nD Cert.Reference7Ideal.τ).loc Cert.Reference7Ideal.main_arg47) = m ((c.tc : Thread Cert.Kernel7Ideal.nD Cert.Kernel7Ideal.τ).loc Cert.Kernel7Ideal.main_arg47)
      ∧ m' ((c.tc : Thread Cert.Reference7Ideal.nD Cert.Reference7Ideal.τ).loc Cert.Reference7Ideal.main_arg48) = m ((c.tc : Thread Cert.Kernel7Ideal.nD Cert.Kernel7Ideal.τ).loc Cert.Kernel7Ideal.main_arg48)
      ∧ m' ((c.tc : Thread Cert.Reference7Ideal.nD Cert.Reference7Ideal.τ).loc Cert.Reference7Ideal.main_arg49) = m ((c.tc : Thread Cert.Kernel7Ideal.nD Cert.Kernel7Ideal.τ).loc Cert.Kernel7Ideal.main_arg49)
      ∧ m' ((c.tc : Thread Cert.Reference7Ideal.nD Cert.Reference7Ideal.τ).loc Cert.Reference7Ideal.main_arg50) = m ((c.tc : Thread Cert.Kernel7Ideal.nD Cert.Kernel7Ideal.τ).loc Cert.Kernel7Ideal.main_arg50)
      ∧ m' ((c.tc : Thread Cert.Reference7Ideal.nD Cert.Reference7Ideal.τ).loc Cert.Reference7Ideal.main_arg51) = m ((c.tc : Thread Cert.Kernel7Ideal.nD Cert.Kernel7Ideal.τ).loc Cert.Kernel7Ideal.main_arg51)) →
    ∃ (v0 : (c : Dev Cert.Kernel7Ideal.nD) → Buf (Elt Ideal) ((c.tc : Thread Cert.Kernel7Ideal.nD Cert.Kernel7Ideal.τ).loc Cert.Kernel7Ideal.main_v167)) (v1 : (c : Dev Cert.Kernel7Ideal.nD) → Buf (Elt Ideal) ((c.tc : Thread Cert.Kernel7Ideal.nD Cert.Kernel7Ideal.τ).loc Cert.Kernel7Ideal.main_v170)) (v2 : (c : Dev Cert.Kernel7Ideal.nD) → Buf (Elt Ideal) ((c.tc : Thread Cert.Kernel7Ideal.nD Cert.Kernel7Ideal.τ).loc Cert.Kernel7Ideal.main_v173)) (v3 : (c : Dev Cert.Kernel7Ideal.nD) → Buf (Elt Ideal) ((c.tc : Thread Cert.Kernel7Ideal.nD Cert.Kernel7Ideal.τ).loc Cert.Kernel7Ideal.main_v176)) (v4 : (c : Dev Cert.Kernel7Ideal.nD) → Buf (Elt Ideal) ((c.tc : Thread Cert.Kernel7Ideal.nD Cert.Kernel7Ideal.τ).loc Cert.Kernel7Ideal.main_v179)) (v5 : (c : Dev Cert.Kernel7Ideal.nD) → Buf (Elt Ideal) ((c.tc : Thread Cert.Kernel7Ideal.nD Cert.Kernel7Ideal.τ).loc Cert.Kernel7Ideal.main_v183)) (v6 : (c : Dev Cert.Kernel7Ideal.nD) → Buf (Elt Ideal) ((c.tc : Thread Cert.Kernel7Ideal.nD Cert.Kernel7Ideal.τ).loc Cert.Kernel7Ideal.main_v186)) (v7 : (c : Dev Cert.Kernel7Ideal.nD) → Buf (Elt Ideal) ((c.tc : Thread Cert.Kernel7Ideal.nD Cert.Kernel7Ideal.τ).loc Cert.Kernel7Ideal.main_v189)) (v8 : (c : Dev Cert.Kernel7Ideal.nD) → Buf (Elt Ideal) ((c.tc : Thread Cert.Kernel7Ideal.nD Cert.Kernel7Ideal.τ).loc Cert.Kernel7Ideal.main_v192)) (v9 : (c : Dev Cert.Kernel7Ideal.nD) → Buf (Elt Ideal) ((c.tc : Thread Cert.Kernel7Ideal.nD Cert.Kernel7Ideal.τ).loc Cert.Kernel7Ideal.main_v195)) (v10 : (c : Dev Cert.Kernel7Ideal.nD) → Buf (Elt Ideal) ((c.tc : Thread Cert.Kernel7Ideal.nD Cert.Kernel7Ideal.τ).loc Cert.Kernel7Ideal.main_v199)) (v11 : (c : Dev Cert.Kernel7Ideal.nD) → Buf (Elt Ideal) ((c.tc : Thread Cert.Kernel7Ideal.nD Cert.Kernel7Ideal.τ).loc Cert.Kernel7Ideal.main_v203)) (v12 : (c : Dev Cert.Kernel7Ideal.nD) → Buf (Elt Ideal) ((c.tc : Thread Cert.Kernel7Ideal.nD Cert.Kernel7Ideal.τ).loc Cert.Kernel7Ideal.main_v206)) (v13 : (c : Dev Cert.Kernel7Ideal.nD) → Buf (Elt Ideal) ((c.tc : Thread Cert.Kernel7Ideal.nD Cert.Kernel7Ideal.τ).loc Cert.Kernel7Ideal.main_v211)) (v14 : (c : Dev Cert.Kernel7Ideal.nD) → Buf (Elt Ideal) ((c.tc : Thread Cert.Kernel7Ideal.nD Cert.Kernel7Ideal.τ).loc Cert.Kernel7Ideal.main_v214)) (v15 : (c : Dev Cert.Kernel7Ideal.nD) → Buf (Elt Ideal) ((c.tc : Thread Cert.Kernel7Ideal.nD Cert.Kernel7Ideal.τ).loc Cert.Kernel7Ideal.main_v217)) (v16 : (c : Dev Cert.Kernel7Ideal.nD) → Buf (Elt Ideal) ((c.tc : Thread Cert.Kernel7Ideal.nD Cert.Kernel7Ideal.τ).loc Cert.Kernel7Ideal.main_v220)) (v17 : (c : Dev Cert.Kernel7Ideal.nD) → Buf (Elt Ideal) ((c.tc : Thread Cert.Kernel7Ideal.nD Cert.Kernel7Ideal.τ).loc Cert.Kernel7Ideal.main_v223)) (v18 : (c : Dev Cert.Kernel7Ideal.nD) → Buf (Elt Ideal) ((c.tc : Thread Cert.Kernel7Ideal.nD Cert.Kernel7Ideal.τ).loc Cert.Kernel7Ideal.main_v227)) (v19 : (c : Dev Cert.Kernel7Ideal.nD) → Buf (Elt Ideal) ((c.tc : Thread Cert.Kernel7Ideal.nD Cert.Kernel7Ideal.τ).loc Cert.Kernel7Ideal.main_v230)) (v20 : (c : Dev Cert.Kernel7Ideal.nD) → Buf (Elt Ideal) ((c.tc : Thread Cert.Kernel7Ideal.nD Cert.Kernel7Ideal.τ).loc Cert.Kernel7Ideal.main_v233)) (v21 : (c : Dev Cert.Kernel7Ideal.nD) → Buf (Elt Ideal) ((c.tc : Thread Cert.Kernel7Ideal.nD Cert.Kernel7Ideal.τ).loc Cert.Kernel7Ideal.main_v236)) (v22 : (c : Dev Cert.Kernel7Ideal.nD) → Buf (Elt Ideal) ((c.tc : Thread Cert.Kernel7Ideal.nD Cert.Kernel7Ideal.τ).loc Cert.Kernel7Ideal.main_v239)) (v23 : (c : Dev Cert.Kernel7Ideal.nD) → Buf (Elt Ideal) ((c.tc : Thread Cert.Kernel7Ideal.nD Cert.Kernel7Ideal.τ).loc Cert.Kernel7Ideal.main_v243)) (v24 : (c : Dev Cert.Kernel7Ideal.nD) → Buf (Elt Ideal) ((c.tc : Thread Cert.Kernel7Ideal.nD Cert.Kernel7Ideal.τ).loc Cert.Kernel7Ideal.main_v247)) (v25 : (c : Dev Cert.Kernel7Ideal.nD) → Buf (Elt Ideal) ((c.tc : Thread Cert.Kernel7Ideal.nD Cert.Kernel7Ideal.τ).loc Cert.Kernel7Ideal.main_v250)) (v26 : (c : Dev Cert.Kernel7Ideal.nD) → Buf (Elt Ideal) ((c.tc : Thread Cert.Kernel7Ideal.nD Cert.Kernel7Ideal.τ).loc Cert.Kernel7Ideal.main_v255)) (v27 : (c : Dev Cert.Kernel7Ideal.nD) → Buf (Elt Ideal) ((c.tc : Thread Cert.Kernel7Ideal.nD Cert.Kernel7Ideal.τ).loc Cert.Kernel7Ideal.main_v258)) (v28 : (c : Dev Cert.Kernel7Ideal.nD) → Buf (Elt Ideal) ((c.tc : Thread Cert.Kernel7Ideal.nD Cert.Kernel7Ideal.τ).loc Cert.Kernel7Ideal.main_v261)) (v29 : (c : Dev Cert.Kernel7Ideal.nD) → Buf (Elt Ideal) ((c.tc : Thread Cert.Kernel7Ideal.nD Cert.Kernel7Ideal.τ).loc Cert.Kernel7Ideal.main_v264)) (v30 : (c : Dev Cert.Kernel7Ideal.nD) → Buf (Elt Ideal) ((c.tc : Thread Cert.Kernel7Ideal.nD Cert.Kernel7Ideal.τ).loc Cert.Kernel7Ideal.main_v267)) (v31 : (c : Dev Cert.Kernel7Ideal.nD) → Buf (Elt Ideal) ((c.tc : Thread Cert.Kernel7Ideal.nD Cert.Kernel7Ideal.τ).loc Cert.Kernel7Ideal.main_v271)) (v32 : (c : Dev Cert.Kernel7Ideal.nD) → Buf (Elt Ideal) ((c.tc : Thread Cert.Kernel7Ideal.nD Cert.Kernel7Ideal.τ).loc Cert.Kernel7Ideal.main_v274)) (v33 : (c : Dev Cert.Kernel7Ideal.nD) → Buf (Elt Ideal) ((c.tc : Thread Cert.Kernel7Ideal.nD Cert.Kernel7Ideal.τ).loc Cert.Kernel7Ideal.main_v277)) (v34 : (c : Dev Cert.Kernel7Ideal.nD) → Buf (Elt Ideal) ((c.tc : Thread Cert.Kernel7Ideal.nD Cert.Kernel7Ideal.τ).loc Cert.Kernel7Ideal.main_v280)) (v35 : (c : Dev Cert.Kernel7Ideal.nD) → Buf (Elt Ideal) ((c.tc : Thread Cert.Kernel7Ideal.nD Cert.Kernel7Ideal.τ).loc Cert.Kernel7Ideal.main_v283)) (v36 : (c : Dev Cert.Kernel7Ideal.nD) → Buf (Elt Ideal) ((c.tc : Thread Cert.Kernel7Ideal.nD Cert.Kernel7Ideal.τ).loc Cert.Kernel7Ideal.main_v287)) (v37 : (c : Dev Cert.Kernel7Ideal.nD) → Buf (Elt Ideal) ((c.tc : Thread Cert.Kernel7Ideal.nD Cert.Kernel7Ideal.τ).loc Cert.Kernel7Ideal.main_v291)) (v38 : (c : Dev Cert.Kernel7Ideal.nD) → Buf (Elt Ideal) ((c.tc : Thread Cert.Kernel7Ideal.nD Cert.Kernel7Ideal.τ).loc Cert.Kernel7Ideal.main_v294)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v167) = v0 c
          ∧ r.2.mem ((c.tc : Thread Cert.Kernel7Ideal.nD Cert.Kernel7Ideal.τ).loc Cert.Kernel7Ideal.main_v170) = v1 c
          ∧ r.2.mem ((c.tc : Thread Cert.Kernel7Ideal.nD Cert.Kernel7Ideal.τ).loc Cert.Kernel7Ideal.main_v173) = v2 c
          ∧ r.2.mem ((c.tc : Thread Cert.Kernel7Ideal.nD Cert.Kernel7Ideal.τ).loc Cert.Kernel7Ideal.main_v176) = v3 c
          ∧ r.2.mem ((c.tc : Thread Cert.Kernel7Ideal.nD Cert.Kernel7Ideal.τ).loc Cert.Kernel7Ideal.main_v179) = v4 c
          ∧ r.2.mem ((c.tc : Thread Cert.Kernel7Ideal.nD Cert.Kernel7Ideal.τ).loc Cert.Kernel7Ideal.main_v183) = v5 c
          ∧ r.2.mem ((c.tc : Thread Cert.Kernel7Ideal.nD Cert.Kernel7Ideal.τ).loc Cert.Kernel7Ideal.main_v186) = v6 c
          ∧ r.2.mem ((c.tc : Thread Cert.Kernel7Ideal.nD Cert.Kernel7Ideal.τ).loc Cert.Kernel7Ideal.main_v189) = v7 c
          ∧ r.2.mem ((c.tc : Thread Cert.Kernel7Ideal.nD Cert.Kernel7Ideal.τ).loc Cert.Kernel7Ideal.main_v192) = v8 c
          ∧ r.2.mem ((c.tc : Thread Cert.Kernel7Ideal.nD Cert.Kernel7Ideal.τ).loc Cert.Kernel7Ideal.main_v195) = v9 c
          ∧ r.2.mem ((c.tc : Thread Cert.Kernel7Ideal.nD Cert.Kernel7Ideal.τ).loc Cert.Kernel7Ideal.main_v199) = v10 c
          ∧ r.2.mem ((c.tc : Thread Cert.Kernel7Ideal.nD Cert.Kernel7Ideal.τ).loc Cert.Kernel7Ideal.main_v203) = v11 c
          ∧ r.2.mem ((c.tc : Thread Cert.Kernel7Ideal.nD Cert.Kernel7Ideal.τ).loc Cert.Kernel7Ideal.main_v206) = v12 c
          ∧ r.2.mem ((c.tc : Thread Cert.Kernel7Ideal.nD Cert.Kernel7Ideal.τ).loc Cert.Kernel7Ideal.main_v211) = v13 c
          ∧ r.2.mem ((c.tc : Thread Cert.Kernel7Ideal.nD Cert.Kernel7Ideal.τ).loc Cert.Kernel7Ideal.main_v214) = v14 c
          ∧ r.2.mem ((c.tc : Thread Cert.Kernel7Ideal.nD Cert.Kernel7Ideal.τ).loc Cert.Kernel7Ideal.main_v217) = v15 c
          ∧ r.2.mem ((c.tc : Thread Cert.Kernel7Ideal.nD Cert.Kernel7Ideal.τ).loc Cert.Kernel7Ideal.main_v220) = v16 c
          ∧ r.2.mem ((c.tc : Thread Cert.Kernel7Ideal.nD Cert.Kernel7Ideal.τ).loc Cert.Kernel7Ideal.main_v223) = v17 c
          ∧ r.2.mem ((c.tc : Thread Cert.Kernel7Ideal.nD Cert.Kernel7Ideal.τ).loc Cert.Kernel7Ideal.main_v227) = v18 c
          ∧ r.2.mem ((c.tc : Thread Cert.Kernel7Ideal.nD Cert.Kernel7Ideal.τ).loc Cert.Kernel7Ideal.main_v230) = v19 c
          ∧ r.2.mem ((c.tc : Thread Cert.Kernel7Ideal.nD Cert.Kernel7Ideal.τ).loc Cert.Kernel7Ideal.main_v233) = v20 c
          ∧ r.2.mem ((c.tc : Thread Cert.Kernel7Ideal.nD Cert.Kernel7Ideal.τ).loc Cert.Kernel7Ideal.main_v236) = v21 c
          ∧ r.2.mem ((c.tc : Thread Cert.Kernel7Ideal.nD Cert.Kernel7Ideal.τ).loc Cert.Kernel7Ideal.main_v239) = v22 c
          ∧ r.2.mem ((c.tc : Thread Cert.Kernel7Ideal.nD Cert.Kernel7Ideal.τ).loc Cert.Kernel7Ideal.main_v243) = v23 c
          ∧ r.2.mem ((c.tc : Thread Cert.Kernel7Ideal.nD Cert.Kernel7Ideal.τ).loc Cert.Kernel7Ideal.main_v247) = v24 c
          ∧ r.2.mem ((c.tc : Thread Cert.Kernel7Ideal.nD Cert.Kernel7Ideal.τ).loc Cert.Kernel7Ideal.main_v250) = v25 c
          ∧ r.2.mem ((c.tc : Thread Cert.Kernel7Ideal.nD Cert.Kernel7Ideal.τ).loc Cert.Kernel7Ideal.main_v255) = v26 c
          ∧ r.2.mem ((c.tc : Thread Cert.Kernel7Ideal.nD Cert.Kernel7Ideal.τ).loc Cert.Kernel7Ideal.main_v258) = v27 c
          ∧ r.2.mem ((c.tc : Thread Cert.Kernel7Ideal.nD Cert.Kernel7Ideal.τ).loc Cert.Kernel7Ideal.main_v261) = v28 c
          ∧ r.2.mem ((c.tc : Thread Cert.Kernel7Ideal.nD Cert.Kernel7Ideal.τ).loc Cert.Kernel7Ideal.main_v264) = v29 c
          ∧ r.2.mem ((c.tc : Thread Cert.Kernel7Ideal.nD Cert.Kernel7Ideal.τ).loc Cert.Kernel7Ideal.main_v267) = v30 c
          ∧ r.2.mem ((c.tc : Thread Cert.Kernel7Ideal.nD Cert.Kernel7Ideal.τ).loc Cert.Kernel7Ideal.main_v271) = v31 c
          ∧ r.2.mem ((c.tc : Thread Cert.Kernel7Ideal.nD Cert.Kernel7Ideal.τ).loc Cert.Kernel7Ideal.main_v274) = v32 c
          ∧ r.2.mem ((c.tc : Thread Cert.Kernel7Ideal.nD Cert.Kernel7Ideal.τ).loc Cert.Kernel7Ideal.main_v277) = v33 c
          ∧ r.2.mem ((c.tc : Thread Cert.Kernel7Ideal.nD Cert.Kernel7Ideal.τ).loc Cert.Kernel7Ideal.main_v280) = v34 c
          ∧ r.2.mem ((c.tc : Thread Cert.Kernel7Ideal.nD Cert.Kernel7Ideal.τ).loc Cert.Kernel7Ideal.main_v283) = v35 c
          ∧ r.2.mem ((c.tc : Thread Cert.Kernel7Ideal.nD Cert.Kernel7Ideal.τ).loc Cert.Kernel7Ideal.main_v287) = v36 c
          ∧ r.2.mem ((c.tc : Thread Cert.Kernel7Ideal.nD Cert.Kernel7Ideal.τ).loc Cert.Kernel7Ideal.main_v291) = v37 c
          ∧ r.2.mem ((c.tc : Thread Cert.Kernel7Ideal.nD Cert.Kernel7Ideal.τ).loc Cert.Kernel7Ideal.main_v294) = v38 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
          ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
          ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
          ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
          ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
          ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
          ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
          ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
          ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
          ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
          ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
          ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
          ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
          ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
          ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
          ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
          ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
          ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
          ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v119) = v4 c
          ∧ r.2.mem ((c.tc : Thread Cert.Reference7Ideal.nD Cert.Reference7Ideal.τ).loc Cert.Reference7Ideal.main_v143) = v5 c
          ∧ r.2.mem ((c.tc : Thread Cert.Reference7Ideal.nD Cert.Reference7Ideal.τ).loc Cert.Reference7Ideal.main_v167) = v6 c
          ∧ r.2.mem ((c.tc : Thread Cert.Reference7Ideal.nD Cert.Reference7Ideal.τ).loc Cert.Reference7Ideal.main_v191) = v7 c
          ∧ r.2.mem ((c.tc : Thread Cert.Reference7Ideal.nD Cert.Reference7Ideal.τ).loc Cert.Reference7Ideal.main_v215) = v8 c
          ∧ r.2.mem ((c.tc : Thread Cert.Reference7Ideal.nD Cert.Reference7Ideal.τ).loc Cert.Reference7Ideal.main_v239) = v9 c
          ∧ r.2.mem ((c.tc : Thread Cert.Reference7Ideal.nD Cert.Reference7Ideal.τ).loc Cert.Reference7Ideal.main_v263) = v10 c
          ∧ r.2.mem ((c.tc : Thread Cert.Reference7Ideal.nD Cert.Reference7Ideal.τ).loc Cert.Reference7Ideal.main_v287) = v11 c
          ∧ r.2.mem ((c.tc : Thread Cert.Reference7Ideal.nD Cert.Reference7Ideal.τ).loc Cert.Reference7Ideal.main_v311) = v12 c
          ∧ r.2.mem ((c.tc : Thread Cert.Reference7Ideal.nD Cert.Reference7Ideal.τ).loc Cert.Reference7Ideal.main_v4) = v13 c
          ∧ r.2.mem ((c.tc : Thread Cert.Reference7Ideal.nD Cert.Reference7Ideal.τ).loc Cert.Reference7Ideal.main_v28) = v14 c
          ∧ r.2.mem ((c.tc : Thread Cert.Reference7Ideal.nD Cert.Reference7Ideal.τ).loc Cert.Reference7Ideal.main_v52) = v15 c
          ∧ r.2.mem ((c.tc : Thread Cert.Reference7Ideal.nD Cert.Reference7Ideal.τ).loc Cert.Reference7Ideal.main_v76) = v16 c
          ∧ r.2.mem ((c.tc : Thread Cert.Reference7Ideal.nD Cert.Reference7Ideal.τ).loc Cert.Reference7Ideal.main_v100) = v17 c
          ∧ r.2.mem ((c.tc : Thread Cert.Reference7Ideal.nD Cert.Reference7Ideal.τ).loc Cert.Reference7Ideal.main_v124) = v18 c
          ∧ r.2.mem ((c.tc : Thread Cert.Reference7Ideal.nD Cert.Reference7Ideal.τ).loc Cert.Reference7Ideal.main_v148) = v19 c
          ∧ r.2.mem ((c.tc : Thread Cert.Reference7Ideal.nD Cert.Reference7Ideal.τ).loc Cert.Reference7Ideal.main_v172) = v20 c
          ∧ r.2.mem ((c.tc : Thread Cert.Reference7Ideal.nD Cert.Reference7Ideal.τ).loc Cert.Reference7Ideal.main_v196) = v21 c
          ∧ r.2.mem ((c.tc : Thread Cert.Reference7Ideal.nD Cert.Reference7Ideal.τ).loc Cert.Reference7Ideal.main_v220) = v22 c
          ∧ r.2.mem ((c.tc : Thread Cert.Reference7Ideal.nD Cert.Reference7Ideal.τ).loc Cert.Reference7Ideal.main_v244) = v23 c
          ∧ r.2.mem ((c.tc : Thread Cert.Reference7Ideal.nD Cert.Reference7Ideal.τ).loc Cert.Reference7Ideal.main_v268) = v24 c
          ∧ r.2.mem ((c.tc : Thread Cert.Reference7Ideal.nD Cert.Reference7Ideal.τ).loc Cert.Reference7Ideal.main_v292) = v25 c
          ∧ r.2.mem ((c.tc : Thread Cert.Reference7Ideal.nD Cert.Reference7Ideal.τ).loc Cert.Reference7Ideal.main_v10) = v26 c
          ∧ r.2.mem ((c.tc : Thread Cert.Reference7Ideal.nD Cert.Reference7Ideal.τ).loc Cert.Reference7Ideal.main_v34) = v27 c
          ∧ r.2.mem ((c.tc : Thread Cert.Reference7Ideal.nD Cert.Reference7Ideal.τ).loc Cert.Reference7Ideal.main_v58) = v28 c
          ∧ r.2.mem ((c.tc : Thread Cert.Reference7Ideal.nD Cert.Reference7Ideal.τ).loc Cert.Reference7Ideal.main_v82) = v29 c
          ∧ r.2.mem ((c.tc : Thread Cert.Reference7Ideal.nD Cert.Reference7Ideal.τ).loc Cert.Reference7Ideal.main_v106) = v30 c
          ∧ r.2.mem ((c.tc : Thread Cert.Reference7Ideal.nD Cert.Reference7Ideal.τ).loc Cert.Reference7Ideal.main_v130) = v31 c
          ∧ r.2.mem ((c.tc : Thread Cert.Reference7Ideal.nD Cert.Reference7Ideal.τ).loc Cert.Reference7Ideal.main_v154) = v32 c
          ∧ r.2.mem ((c.tc : Thread Cert.Reference7Ideal.nD Cert.Reference7Ideal.τ).loc Cert.Reference7Ideal.main_v178) = v33 c
          ∧ r.2.mem ((c.tc : Thread Cert.Reference7Ideal.nD Cert.Reference7Ideal.τ).loc Cert.Reference7Ideal.main_v202) = v34 c
          ∧ r.2.mem ((c.tc : Thread Cert.Reference7Ideal.nD Cert.Reference7Ideal.τ).loc Cert.Reference7Ideal.main_v226) = v35 c
          ∧ r.2.mem ((c.tc : Thread Cert.Reference7Ideal.nD Cert.Reference7Ideal.τ).loc Cert.Reference7Ideal.main_v250) = v36 c
          ∧ r.2.mem ((c.tc : Thread Cert.Reference7Ideal.nD Cert.Reference7Ideal.τ).loc Cert.Reference7Ideal.main_v274) = v37 c
          ∧ r.2.mem ((c.tc : Thread Cert.Reference7Ideal.nD Cert.Reference7Ideal.τ).loc Cert.Reference7Ideal.main_v298) = v38 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33)
          ∧ r.2.mem ((c.tc : Thread Cert.Reference7Ideal.nD Cert.Reference7Ideal.τ).loc Cert.Reference7Ideal.main_arg34) = m' ((c.tc : Thread Cert.Reference7Ideal.nD Cert.Reference7Ideal.τ).loc Cert.Reference7Ideal.main_arg34)
          ∧ r.2.mem ((c.tc : Thread Cert.Reference7Ideal.nD Cert.Reference7Ideal.τ).loc Cert.Reference7Ideal.main_arg35) = m' ((c.tc : Thread Cert.Reference7Ideal.nD Cert.Reference7Ideal.τ).loc Cert.Reference7Ideal.main_arg35)
          ∧ r.2.mem ((c.tc : Thread Cert.Reference7Ideal.nD Cert.Reference7Ideal.τ).loc Cert.Reference7Ideal.main_arg36) = m' ((c.tc : Thread Cert.Reference7Ideal.nD Cert.Reference7Ideal.τ).loc Cert.Reference7Ideal.main_arg36)
          ∧ r.2.mem ((c.tc : Thread Cert.Reference7Ideal.nD Cert.Reference7Ideal.τ).loc Cert.Reference7Ideal.main_arg37) = m' ((c.tc : Thread Cert.Reference7Ideal.nD Cert.Reference7Ideal.τ).loc Cert.Reference7Ideal.main_arg37)
          ∧ r.2.mem ((c.tc : Thread Cert.Reference7Ideal.nD Cert.Reference7Ideal.τ).loc Cert.Reference7Ideal.main_arg38) = m' ((c.tc : Thread Cert.Reference7Ideal.nD Cert.Reference7Ideal.τ).loc Cert.Reference7Ideal.main_arg38)
          ∧ r.2.mem ((c.tc : Thread Cert.Reference7Ideal.nD Cert.Reference7Ideal.τ).loc Cert.Reference7Ideal.main_arg39) = m' ((c.tc : Thread Cert.Reference7Ideal.nD Cert.Reference7Ideal.τ).loc Cert.Reference7Ideal.main_arg39)
          ∧ r.2.mem ((c.tc : Thread Cert.Reference7Ideal.nD Cert.Reference7Ideal.τ).loc Cert.Reference7Ideal.main_arg40) = m' ((c.tc : Thread Cert.Reference7Ideal.nD Cert.Reference7Ideal.τ).loc Cert.Reference7Ideal.main_arg40)
          ∧ r.2.mem ((c.tc : Thread Cert.Reference7Ideal.nD Cert.Reference7Ideal.τ).loc Cert.Reference7Ideal.main_arg41) = m' ((c.tc : Thread Cert.Reference7Ideal.nD Cert.Reference7Ideal.τ).loc Cert.Reference7Ideal.main_arg41)
          ∧ r.2.mem ((c.tc : Thread Cert.Reference7Ideal.nD Cert.Reference7Ideal.τ).loc Cert.Reference7Ideal.main_arg42) = m' ((c.tc : Thread Cert.Reference7Ideal.nD Cert.Reference7Ideal.τ).loc Cert.Reference7Ideal.main_arg42)
          ∧ r.2.mem ((c.tc : Thread Cert.Reference7Ideal.nD Cert.Reference7Ideal.τ).loc Cert.Reference7Ideal.main_arg43) = m' ((c.tc : Thread Cert.Reference7Ideal.nD Cert.Reference7Ideal.τ).loc Cert.Reference7Ideal.main_arg43)
          ∧ r.2.mem ((c.tc : Thread Cert.Reference7Ideal.nD Cert.Reference7Ideal.τ).loc Cert.Reference7Ideal.main_arg44) = m' ((c.tc : Thread Cert.Reference7Ideal.nD Cert.Reference7Ideal.τ).loc Cert.Reference7Ideal.main_arg44)
          ∧ r.2.mem ((c.tc : Thread Cert.Reference7Ideal.nD Cert.Reference7Ideal.τ).loc Cert.Reference7Ideal.main_arg45) = m' ((c.tc : Thread Cert.Reference7Ideal.nD Cert.Reference7Ideal.τ).loc Cert.Reference7Ideal.main_arg45)
          ∧ r.2.mem ((c.tc : Thread Cert.Reference7Ideal.nD Cert.Reference7Ideal.τ).loc Cert.Reference7Ideal.main_arg46) = m' ((c.tc : Thread Cert.Reference7Ideal.nD Cert.Reference7Ideal.τ).loc Cert.Reference7Ideal.main_arg46)
          ∧ r.2.mem ((c.tc : Thread Cert.Reference7Ideal.nD Cert.Reference7Ideal.τ).loc Cert.Reference7Ideal.main_arg47) = m' ((c.tc : Thread Cert.Reference7Ideal.nD Cert.Reference7Ideal.τ).loc Cert.Reference7Ideal.main_arg47)
          ∧ r.2.mem ((c.tc : Thread Cert.Reference7Ideal.nD Cert.Reference7Ideal.τ).loc Cert.Reference7Ideal.main_arg48) = m' ((c.tc : Thread Cert.Reference7Ideal.nD Cert.Reference7Ideal.τ).loc Cert.Reference7Ideal.main_arg48)
          ∧ r.2.mem ((c.tc : Thread Cert.Reference7Ideal.nD Cert.Reference7Ideal.τ).loc Cert.Reference7Ideal.main_arg49) = m' ((c.tc : Thread Cert.Reference7Ideal.nD Cert.Reference7Ideal.τ).loc Cert.Reference7Ideal.main_arg49)
          ∧ r.2.mem ((c.tc : Thread Cert.Reference7Ideal.nD Cert.Reference7Ideal.τ).loc Cert.Reference7Ideal.main_arg50) = m' ((c.tc : Thread Cert.Reference7Ideal.nD Cert.Reference7Ideal.τ).loc Cert.Reference7Ideal.main_arg50)
          ∧ r.2.mem ((c.tc : Thread Cert.Reference7Ideal.nD Cert.Reference7Ideal.τ).loc Cert.Reference7Ideal.main_arg51) = m' ((c.tc : Thread Cert.Reference7Ideal.nD Cert.Reference7Ideal.τ).loc Cert.Reference7Ideal.main_arg51))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_written.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S4x512x256 : Shape := ⟨3, ![4, 512, 256]⟩
abbrev S1x1024 : Shape := ⟨2, ![1, 1024]⟩
abbrev S_ : Shape := ⟨0, ![]⟩
abbrev S1x128 : Shape := ⟨2, ![1, 128]⟩

class Facts : Prop where
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S4x512x256 : S_.BroadcastsInDim S4x512x256 (![] : Fin 0 → Fin S4x512x256.rank)
  bcast_S_S1x1024 : S_.BroadcastsInDim S1x1024 (![] : Fin 0 → Fin S1x1024.rank)
  bcast_S_S1x128 : S_.BroadcastsInDim S1x128 (![] : Fin 0 → Fin S1x128.rank)

variable [Facts]

def fn {F : FTy → Type} [FloatOps F] (main_arg0 : FVec F S8192x1024 .bf16) (main_arg1 : FVec F S8192x512 .bf16) (main_arg2 : FVec F S8192x6144 .bf16) (main_arg3 : FVec F S8192x1024 .f32) (main_arg4 : FVec F S8192x1024 .f32) (main_arg5 : FVec F S1024x1024 .bf16) (main_arg6 : FVec F S4x512x256 .bf16) (main_arg7 : FVec F S1024x1024 .bf16) (main_arg8 : FVec F S1x1024 .f32) : IVec S8192x1024 1 × IVec S8192x1024 1 × IVec S8192x512 1 × IVec S8192x6144 1 × IVec S1024x1024 1 × IVec S1024x1024 1 × IVec S4x512x256 1 × IVec S1x1024 1 × IVec S1x128 1 :=
  let main_v0 : IVec S8192x6144 32 := iotaInDim S8192x6144 32 1
  let main_c : IVec S_ 32 := constantI S_ 32 4096#32
  let main_v1 : IVec S8192x6144 32 := broadcastInDim S8192x6144 ![] bcast_S_S8192x6144 main_c
  let main_v2 : IVec S8192x6144 1 := cmpi .sge main_v0 main_v1
  let main_c_0 : IVec S_ 1 := constantI S_ 1 1#1
  let main_v3 : IVec S8192x1024 1 := broadcastInDim S8192x1024 ![] bcast_S_S8192x1024 main_c_0
  let main_c_1 : IVec S_ 1 := constantI S_ 1 1#1
  let main_v4 : IVec S8192x1024 1 := broadcastInDim S8192x1024 ![] bcast_S_S8192x1024 main_c_1
  let main_c_2 : IVec S_ 1 := constantI S_ 1 1#1
  let main_v5 : IVec S8192x512 1 := broadcastInDim S8192x512 ![] bcast_S_S8192x512 main_c_2
  let main_c_3 : IVec S_ 1 := constantI S_ 1 1#1
  let main_v6 : IVec S1024x1024 1 := broadcastInDim S1024x1024 ![] bcast_S_S1024x1024 main_c_3
  let main_c_4 : IVec S_ 1 := constantI S_ 1 1#1
  let main_v7 : IVec S1024x1024 1 := broadcastInDim S1024x1024 ![] bcast_S_S1024x1024 main_c_4
  let main_c_5 : IVec S_ 1 := constantI S_ 1 1#1
  let main_v8 : IVec S4x512x256 1 := broadcastInDim S4x512x256 ![] bcast_S_S4x512x256 main_c_5
  let main_c_6 : IVec S_ 1 := constantI S_ 1 1#1
  let main_v9 : IVec S1x1024 1 := broadcastInDim S1x1024 ![] bcast_S_S1x1024 main_c_6
  let main_c_7 : IVec S_ 1 := constantI S_ 1 1#1
  let main_v10 : IVec S1x128 1 := broadcastInDim S1x128 ![] bcast_S_S1x128 main_c_7
  (main_v3, main_v4, main_v5, main_v2, main_v6, main_v7, main_v8, main_v9, main_v10)
-- ==== Kernel.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S4x512x256 : Shape := ⟨3, ![4, 512, 256]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 18
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x6144, .bf16⟩
  | .hbm, ⟨3, _⟩ => ⟨S8192x1024, .f32⟩
  | .hbm, ⟨4, _⟩ => ⟨S8192x1024, .f32⟩
  | .hbm, ⟨5, _⟩ => ⟨S1024x1024, .bf16⟩
  | .hbm, ⟨6, _⟩ => ⟨S4x512x256, .bf16⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8192x512, .bf16⟩
  | .hbm, ⟨12, _⟩ => ⟨S8192x6144, .bf16⟩
  | .hbm, ⟨13, _⟩ => ⟨S1024x1024, .f32⟩
  | .hbm, ⟨14, _⟩ => ⟨S1024x1024, .f32⟩
  | .hbm, ⟨15, _⟩ => ⟨S4x512x256, .f32⟩
  | .hbm, ⟨16, _⟩ => ⟨S1x1024, .f32⟩
  | .hbm, ⟨17, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S4x512x256, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x2048, .bf16⟩
  | .local _ .vmem, ⟨23, _⟩ => ⟨S512x2048, .bf16⟩
  | .local _ .vmem, ⟨24, _⟩ => ⟨S1024x1024, .f32⟩
  | .local _ .vmem, ⟨25, _⟩ => ⟨S1024x1024, .f32⟩
  | .local _ .vmem, ⟨26, _⟩ => ⟨S4x512x256, .f32⟩
  | .local _ .vmem, ⟨27, _⟩ => ⟨S1x1024, .f32⟩
  | .local _ .vmem, ⟨28, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S4x512x256 : Shape := ⟨3, ![4, 512, 256]⟩
abbrev S1x1024 : Shape := ⟨2, ![1, 1024]⟩
abbrev S1x512x256 : Shape := ⟨3, ![1, 512, 256]⟩
abbrev S512x256 : Shape := ⟨2, ![512, 256]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S8192x4096 : Shape := ⟨2, ![8192, 4096]⟩
abbrev S1x128 : Shape := ⟨2, ![1, 128]⟩

abbrev nBuf : Space → Nat
  | .hbm => 164
  | .vmem => 0
  | .smem => 0
  | _ => 0

abbrev hbmTy0_0 (i : Nat) : BufTy := match i % 128 with
  | 0 => ⟨S8192x1024, .bf16⟩
  | 1 => ⟨S8192x512, .bf16⟩
  | 2 => ⟨S8192x6144, .bf16⟩
  | 3 => ⟨S8192x1024, .f32⟩
  | 4 => ⟨S8192x1024, .f32⟩
  | 5 => ⟨S1024x1024, .bf16⟩
  | 6 => ⟨S4x512x256, .bf16⟩
  | 7 => ⟨S1024x1024, .bf16⟩
  | 8 => ⟨S1x1024, .f32⟩
  | 9 => ⟨S8192x1024, .f32⟩
  | 10 => ⟨S8192x512, .f32⟩
  | 11 => ⟨S8192x1024, .bf16⟩
  | 12 => ⟨S8192x1024, .f32⟩
  | 13 => ⟨S8192x1024, .bf16⟩
  | 14 => ⟨S8192x1024, .f32⟩
  | 15 => ⟨S1024x1024, .f32⟩
  | 16 => ⟨S4x512x256, .f32⟩
  | 17 => ⟨S1024x1024, .f32⟩
  | 18 => ⟨S8192x1024, .f32⟩
  | 19 => ⟨S1x512x256, .f32⟩
  | 20 => ⟨S512x256, .f32⟩
  | 21 => ⟨S1x512x256, .f32⟩
  | 22 => ⟨S512x256, .f32⟩
  | 23 => ⟨S1x512x256, .f32⟩
  | 24 => ⟨S512x256, .f32⟩
  | 25 => ⟨S1x512x256, .f32⟩
  | 26 => ⟨S512x256, .f32⟩
  | 27 => ⟨S512x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192, .f32⟩
  | 84 => ⟨S_, .f32⟩
  | 85 => ⟨S8192, .f32⟩
  | 86 => ⟨S8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S8192, .f32⟩
  | 95 => ⟨S_, .f32⟩
  | 96 => ⟨S8192, .f32⟩
  | 97 => ⟨S8192, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S8192x1024, .f32⟩
  | 111 => ⟨S8192x1024, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S1024x1024, .f32⟩
  | 124 => ⟨S1024x1024, .f32⟩
  | 125 => ⟨S8192x1024, .f32⟩
  | 126 => ⟨S8192x1024, .f32⟩
  | 127 => ⟨S8192x1024, .f32⟩
  | _ => ⟨S8192x1024, .bf16⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1024x512, .f32⟩
  | 5 => ⟨S512x1024, .f32⟩
  | 6 => ⟨S8192x512, .f32⟩
  | 7 => ⟨S512x256, .f32⟩
  | 8 => ⟨S512x256, .f32⟩
  | 9 => ⟨S512x256, .f32⟩
  | 10 => ⟨S512x256, .f32⟩
  | 11 => ⟨S1x512x256, .f32⟩
  | 12 => ⟨S_, .f32⟩
  | 13 => ⟨S4x512x256, .f32⟩
  | 14 => ⟨S1x512x256, .f32⟩
  | 15 => ⟨S_, .f32⟩
  | 16 => ⟨S4x512x256, .f32⟩
  | 17 => ⟨S4x512x256, .f32⟩
  | 18 => ⟨S1x512x256, .f32⟩
  | 19 => ⟨S_, .f32⟩
  | 20 => ⟨S4x512x256, .f32⟩
  | 21 => ⟨S4x512x256, .f32⟩
  | 22 => ⟨S1x512x256, .f32⟩
  | 23 => ⟨S_, .f32⟩
  | 24 => ⟨S4x512x256, .f32⟩
  | 25 => ⟨S4x512x256, .f32⟩
  | 26 => ⟨S1024x1024, .f32⟩
  | 27 => ⟨S1024x1024, .f32⟩
  | 28 => ⟨S8192x1024, .f32⟩
  | 29 => ⟨S_, .f32⟩
  | 30 => ⟨S8192x4096, .f32⟩
  | 31 => ⟨S8192x6144, .f32⟩
  | 32 => ⟨S8192x6144, .bf16⟩
  | 33 => ⟨S8192x1024, .bf16⟩
  | 34 => ⟨S8192x512, .bf16⟩
  | 35 => ⟨S1x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_cst_14 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_21 : Ref sig .tc := ⟨.hbm, 140, rfl⟩
abbrev main_v109 : Ref sig .tc := ⟨.hbm, 141, rfl⟩
abbrev main_v110 : Ref sig .tc := ⟨.hbm, 142, rfl⟩
abbrev main_cst_22 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_23 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_24 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_25 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]
-- ==== Kernel2.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x1536 : Shape := ⟨2, ![1024, 1536]⟩
abbrev S1x1024x1536 : Shape := ⟨3, ![1, 1024, 1536]⟩
abbrev S4x1024x1536 : Shape := ⟨3, ![4, 1024, 1536]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S_, .f32⟩
  | .hbm, ⟨4, _⟩ => ⟨S1024x6144, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1536, .f32⟩
  | .hbm, ⟨13, _⟩ => ⟨S1x1024x1536, .f32⟩
  | .hbm, ⟨14, _⟩ => ⟨S1x1024x1536, .f32⟩
  | .hbm, ⟨15, _⟩ => ⟨S1x1024x1536, .f32⟩
  | .hbm, ⟨16, _⟩ => ⟨S1x1024x1536, .f32⟩
  | .hbm, ⟨17, _⟩ => ⟨S4x1024x1536, .f32⟩
  | .hbm, ⟨18, _⟩ => ⟨S4x1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel3.lean ====
abbrev S1 : Shape := ⟨1, ![1]⟩
abbrev S8192x1024 : Shape := ⟨2, ![8192, 1024]⟩
abbrev S4x1024x1536 : Shape := ⟨3, ![4, 1024, 1536]⟩
abbrev S8192x6144 : Shape := ⟨2, ![8192, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 4
  | .vmem => 6
  | .smem => 1
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x6144, .bf16⟩
  | .hbm, ⟨3, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .bf16⟩
  | .local _ .vmem, ⟨5, _⟩ => ⟨S1024x1536, .bf16⟩
  | .local _ .smem, ⟨0, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![arg1.toNat, v12.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S1 : Shape := ⟨1, ![1]⟩
abbrev S8192x1024 : Shape := ⟨2, ![8192, 1024]⟩
abbrev S4x1024x1536 : Shape := ⟨3, ![4, 1024, 1536]⟩
abbrev S8192x6144 : Shape := ⟨2, ![8192, 6144]⟩
abbrev S1x1024x1536 : Shape := ⟨3, ![1, 1024, 1536]⟩
abbrev S1024x1536 : Shape := ⟨2, ![1024, 1536]⟩
abbrev S1024x6144 : Shape := ⟨2, ![1024, 6144]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x1024, .bf16⟩
  | .hbm, ⟨2, _⟩ => ⟨S4x1024x1536, .bf16⟩
  | .hbm, ⟨3, _⟩ => ⟨S8192x6144, .bf16⟩
  | .hbm, ⟨4, _⟩ => ⟨S1x1024x1536, .bf16⟩
  | .hbm, ⟨5, _⟩ => ⟨S1024x1536, .bf16⟩
  | .hbm, ⟨6, _⟩ => ⟨S1x1024x1536, .bf16⟩
  | .hbm, ⟨7, _⟩ => ⟨S1024x1536, .bf16⟩
  | .hbm, ⟨8, _⟩ => ⟨S1x1024x1536, .bf16⟩
  | .hbm, ⟨9, _⟩ => ⟨S1024x1536, .bf16⟩
  | .hbm, ⟨10, _⟩ => ⟨S1x1024x1536, .bf16⟩
  | .hbm, ⟨11, _⟩ => ⟨S1024x1536, .bf16⟩
  | .hbm, ⟨12, _⟩ => ⟨S1024x6144, .bf16⟩
  | .hbm, ⟨13, _⟩ => ⟨S1024x6144, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i1⟩
  | .hbm, ⟨28, _⟩ => ⟨S_, .i1⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S8192x6144, .i32⟩
  | .hbm, ⟨35, _⟩ => ⟨S8192x6144, .i32⟩
  | .hbm, ⟨36, _⟩ => ⟨S8192x6144, .i1⟩
  | .hbm, ⟨37, _⟩ => ⟨S_, .i32⟩
  | .hbm, ⟨38, _⟩ => ⟨S_, .i32⟩
  | .hbm, ⟨39, _⟩ => ⟨S8192x6144, .i32⟩
  | .hbm, ⟨40, _⟩ => ⟨S8192x6144, .i1⟩
  | .hbm, ⟨41, _⟩ => ⟨S8192x6144, .i1⟩
  | .hbm, ⟨42, _⟩ => ⟨S8192x1024, .f32⟩
  | .hbm, ⟨43, _⟩ => ⟨S8192x6144, .f32⟩
  | .hbm, ⟨44, _⟩ => ⟨S8192x6144, .bf16⟩
  | .hbm, ⟨45, _⟩ => ⟨S8192x6144, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_c_1 : Ref sig .tc := ⟨.hbm, 22, rfl⟩
abbrev main_call0_v4 : Ref sig .tc := ⟨.hbm, 23, rfl⟩
abbrev main_call0_c_2 : Ref sig .tc := ⟨.hbm, 24, rfl⟩
abbrev main_call0_v5 : Ref sig .tc := ⟨.hbm, 25, rfl⟩
abbrev main_call0_c_3 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== Kernel4.lean ====
abbrev S1x1024x1536 : Shape := ⟨3, ![1, 1024, 1536]⟩
abbrev S1024x1536 : Shape := ⟨2, ![1024, 1536]⟩
abbrev S256x1536 : Shape := ⟨2, ![256, 1536]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S1x1024x1536 : Shape := ⟨3, ![1, 1024, 1536]⟩
abbrev S1024x1536 : Shape := ⟨2, ![1024, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S_, .f32⟩
  | .hbm, ⟨11, _⟩ => ⟨S1024x1536, .f32⟩
  | .hbm, ⟨12, _⟩ => ⟨S1024x1536, .f32⟩
  | .hbm, ⟨13, _⟩ => ⟨S1024x1536, .f32⟩
  | .hbm, ⟨14, _⟩ => ⟨S_, .f32⟩
  | .hbm, ⟨15, _⟩ => ⟨S1024x1536, .f32⟩
  | .hbm, ⟨16, _⟩ => ⟨S1024x1536, .f32⟩
  | .hbm, ⟨17, _⟩ => ⟨S1024x1536, .f32⟩
  | .hbm, ⟨18, _⟩ => ⟨S_, .f32⟩
  | .hbm, ⟨19, _⟩ => ⟨S1024x1536, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S_, .f32⟩
  | .hbm, ⟨26, _⟩ => ⟨S1024x1536, .f32⟩
  | .hbm, ⟨27, _⟩ => ⟨S1024x1536, .f32⟩
  | .hbm, ⟨28, _⟩ => ⟨S1024x1536, .f32⟩
  | .hbm, ⟨29, _⟩ => ⟨S_, .f32⟩
  | .hbm, ⟨30, _⟩ => ⟨S1024x1536, .f32⟩
  | .hbm, ⟨31, _⟩ => ⟨S1024x1536, .f32⟩
  | .hbm, ⟨32, _⟩ => ⟨S1024x1536, .f32⟩
  | .hbm, ⟨33, _⟩ => ⟨S_, .f32⟩
  | .hbm, ⟨34, _⟩ => ⟨S1024x1536, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1024x1536, .f32⟩
  | .hbm, ⟨39, _⟩ => ⟨S1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel5.lean ====
abbrev S1x256x1024 : Shape := ⟨3, ![1, 256, 1024]⟩
abbrev S1x128x512 : Shape := ⟨3, ![1, 128, 512]⟩
abbrev S1x512x256 : Shape := ⟨3, ![1, 512, 256]⟩
abbrev S1x31x256 : Shape := ⟨3, ![1, 31, 256]⟩
abbrev S256x1024 : Shape := ⟨2, ![256, 1024]⟩
abbrev S128x512 : Shape := ⟨2, ![128, 512]⟩
abbrev S512x256 : Shape := ⟨2, ![512, 256]⟩
abbrev S31x256 : Shape := ⟨2, ![31, 256]⟩

abbrev nBuf : Space → Nat
  | .hbm => 50
  | .vmem => 35
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x128x512, .f32⟩
  | .hbm, ⟨3, _⟩ => ⟨S1x512x256, .f32⟩
  | .hbm, ⟨4, _⟩ => ⟨S1x31x256, .f32⟩
  | .hbm, ⟨5, _⟩ => ⟨S256x1024, .f32⟩
  | .hbm, ⟨6, _⟩ => ⟨S256x1024, .f32⟩
  | .hbm, ⟨7, _⟩ => ⟨S128x512, .f32⟩
  | .hbm, ⟨8, _⟩ => ⟨S512x256, .f32⟩
  | .hbm, ⟨9, _⟩ => ⟨S31x256, .f32⟩
  | .hbm, ⟨10, _⟩ => ⟨S1x256x1024, .f32⟩
  | .hbm, ⟨11, _⟩ => ⟨S1x256x1024, .f32⟩
  | .hbm, ⟨12, _⟩ => ⟨S1x128x512, .f32⟩
  | .hbm, ⟨13, _⟩ => ⟨S1x512x256, .f32⟩
  | .hbm, ⟨14, _⟩ => ⟨S1x31x256, .f32⟩
  | .hbm, ⟨15, _⟩ => ⟨S1x256x1024, .f32⟩
  | .hbm, ⟨16, _⟩ => ⟨S1x256x1024, .f32⟩
  | .hbm, ⟨17, _⟩ => ⟨S1x128x512, .f32⟩
  | .hbm, ⟨18, _⟩ => ⟨S1x512x256, .f32⟩
  | .hbm, ⟨19, _⟩ => ⟨S1x31x256, .f32⟩
  | .hbm, ⟨20, _⟩ => ⟨S256x1024, .f32⟩
  | .hbm, ⟨21, _⟩ => ⟨S256x1024, .f32⟩
  | .hbm, ⟨22, _⟩ => ⟨S128x512, .f32⟩
  | .hbm, ⟨23, _⟩ => ⟨S512x256, .f32⟩
  | .hbm, ⟨24, _⟩ => ⟨S31x256, .f32⟩
  | .hbm, ⟨25, _⟩ => ⟨S256x1024, .f32⟩
  | .hbm, ⟨26, _⟩ => ⟨S256x1024, .f32⟩
  | .hbm, ⟨27, _⟩ => ⟨S128x512, .f32⟩
  | .hbm, ⟨28, _⟩ => ⟨S512x256, .f32⟩
  | .hbm, ⟨29, _⟩ => ⟨S31x256, .f32⟩
  | .hbm, ⟨30, _⟩ => ⟨S256x1024, .f32⟩
  | .hbm, ⟨31, _⟩ => ⟨S256x1024, .f32⟩
  | .hbm, ⟨32, _⟩ => ⟨S128x512, .f32⟩
  | .hbm, ⟨33, _⟩ => ⟨S512x256, .f32⟩
  | .hbm, ⟨34, _⟩ => ⟨S31x256, .f32⟩
  | .hbm, ⟨35, _⟩ => ⟨S256x1024, .f32⟩
  | .hbm, ⟨36, _⟩ => ⟨S256x1024, .f32⟩
  | .hbm, ⟨37, _⟩ => ⟨S128x512, .f32⟩
  | .hbm, ⟨38, _⟩ => ⟨S512x256, .f32⟩
  | .hbm, ⟨39, _⟩ => ⟨S31x256, .f32⟩
  | .hbm, ⟨40, _⟩ => ⟨S256x1024, .f32⟩
  | .hbm, ⟨41, _⟩ => ⟨S256x1024, .f32⟩
  | .hbm, ⟨42, _⟩ => ⟨S128x512, .f32⟩
  | .hbm, ⟨43, _⟩ => ⟨S512x256, .f32⟩
  | .hbm, ⟨44, _⟩ => ⟨S31x256, .f32⟩
  | .hbm, ⟨45, _⟩ => ⟨S256x1024, .f32⟩
  | .hbm, ⟨46, _⟩ => ⟨S256x1024, .f32⟩
  | .hbm, ⟨47, _⟩ => ⟨S128x512, .f32⟩
  | .hbm, ⟨48, _⟩ => ⟨S512x256, .f32⟩
  | .hbm, ⟨49, _⟩ => ⟨S31x256, .f32⟩
  | .local _ .vmem, ⟨0, _⟩ => ⟨S256x1024, .f32⟩
  | .local _ .vmem, ⟨1, _⟩ => ⟨S256x1024, .f32⟩
  | .local _ .vmem, ⟨2, _⟩ => ⟨S128x512, .f32⟩
  | .local _ .vmem, ⟨3, _⟩ => ⟨S512x256, .f32⟩
  | .local _ .vmem, ⟨4, _⟩ => ⟨S31x256, .f32⟩
  | .local _ .vmem, ⟨5, _⟩ => ⟨S256x1024, .f32⟩
  | .local _ .vmem, ⟨6, _⟩ => ⟨S256x1024, .f32⟩
  | .local _ .vmem, ⟨7, _⟩ => ⟨S128x512, .f32⟩
  | .local _ .vmem, ⟨8, _⟩ => ⟨S512x256, .f32⟩
  | .local _ .vmem, ⟨9, _⟩ => ⟨S31x256, .f32⟩
  | .local _ .vmem, ⟨10, _⟩ => ⟨S256x1024, .f32⟩
  | .local _ .vmem, ⟨11, _⟩ => ⟨S256x1024, .f32⟩
  | .local _ .vmem, ⟨12, _⟩ => ⟨S128x512, .f32⟩
  | .local _ .vmem, ⟨13, _⟩ => ⟨S512x256, .f32⟩
  | .local _ .vmem, ⟨14, _⟩ => ⟨S31x256, .f32⟩
  | .local _ .vmem, ⟨15, _⟩ => ⟨S256x1024, .f32⟩
  | .local _ .vmem, ⟨16, _⟩ => ⟨S256x1024, .f32⟩
  | .local _ .vmem, ⟨17, _⟩ => ⟨S128x512, .f32⟩
  | .local _ .vmem, ⟨18, _⟩ => ⟨S512x256, .f32⟩
  | .local _ .vmem, ⟨19, _⟩ => ⟨S31x256, .f32⟩
  | .local _ .vmem, ⟨20, _⟩ => ⟨S256x1024, .f32⟩
  | .local _ .vmem, ⟨21, _⟩ => ⟨S256x1024, .f32⟩
  | .local _ .vmem, ⟨22, _⟩ => ⟨S128x512, .f32⟩
  | .local _ .vmem, ⟨23, _⟩ => ⟨S512x256, .f32⟩
  | .local _ .vmem, ⟨24, _⟩ => ⟨S31x256, .f32⟩
  | .local _ .vmem, ⟨25, _⟩ => ⟨S256x1024, .f32⟩
  | .local _ .vmem, ⟨26, _⟩ => ⟨S256x1024, .f32⟩
  | .local _ .vmem, ⟨27, _⟩ => ⟨S128x512, .f32⟩
  | .local _ .vmem, ⟨28, _⟩ => ⟨S512x256, .f32⟩
  | .local _ .vmem, ⟨29, _⟩ => ⟨S31x256, .f32⟩
  | .local _ .vmem, ⟨30, _⟩ => ⟨S256x1024, .f32⟩
  | .local _ .vmem, ⟨31, _⟩ => ⟨S256x1024, .f32⟩
  | .local _ .vmem, ⟨32, _⟩ => ⟨S128x512, .f32⟩
  | .local _ .vmem, ⟨33, _⟩ => ⟨S512x256, .f32⟩
  | .local _ .vmem, ⟨34, _⟩ => ⟨S31x256, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_v15_3 : Ref sig .tc := ⟨.hbm, 38, rfl⟩
abbrev main_v15_4 : Ref sig .tc := ⟨.hbm, 39, rfl⟩
abbrev main_v15_5 : Ref sig .tc := ⟨.hbm, 40, rfl⟩
abbrev main_v15_6 : Ref sig .tc := ⟨.hbm, 41, rfl⟩
abbrev main_v15_7 : Ref sig .tc := ⟨.hbm, 42, rfl⟩
abbrev main_v15_8 : Ref sig .tc := ⟨.hbm, 43, rfl⟩
abbrev main_v15_9 : Ref sig .tc := ⟨.hbm, 44, rfl⟩
abbrev main_v15_10 : Ref sig .tc := ⟨.hbm, 45, rfl⟩
abbrev main_v15_11 : Ref sig .tc := ⟨.hbm, 46, rfl⟩
abbrev main_v15_12 : Ref sig .tc := ⟨.hbm, 47, rfl⟩
abbrev main_v15_13 : Ref sig .tc := ⟨.hbm, 48, rfl⟩
abbrev main_v15_14 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S31x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S31x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S512x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S31x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S256x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S128x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S512x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S31x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S256x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S256x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S128x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S512x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S31x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
-- ==== Reference5Ideal.lean ====
abbrev S1x256x1024 : Shape := ⟨3, ![1, 256, 1024]⟩
abbrev S1x128x512 : Shape := ⟨3, ![1, 128, 512]⟩
abbrev S1x512x256 : Shape := ⟨3, ![1, 512, 256]⟩
abbrev S1x31x256 : Shape := ⟨3, ![1, 31, 256]⟩
abbrev S256x1024 : Shape := ⟨2, ![256, 1024]⟩
abbrev S128x512 : Shape := ⟨2, ![128, 512]⟩
abbrev S512x256 : Shape := ⟨2, ![512, 256]⟩
abbrev S31x256 : Shape := ⟨2, ![31, 256]⟩
abbrev S_ : Shape := ⟨0, ![]⟩

abbrev nBuf : Space → Nat
  | .hbm => 200
  | .vmem => 0
  | .smem => 0
  | _ => 0

abbrev hbmTy0_0 (i : Nat) : BufTy := match i % 128 with
  | 0 => ⟨S1x256x1024, .f32⟩
  | 1 => ⟨S1x256x1024, .f32⟩
  | 2 => ⟨S1x128x512, .f32⟩
  | 3 => ⟨S1x512x256, .f32⟩
  | 4 => ⟨S1x31x256, .f32⟩
  | 5 => ⟨S256x1024, .f32⟩
  | 6 => ⟨S256x1024, .f32⟩
  | 7 => ⟨S128x512, .f32⟩
  | 8 => ⟨S512x256, .f32⟩
  | 9 => ⟨S31x256, .f32⟩
  | 10 => ⟨S1x256x1024, .f32⟩
  | 11 => ⟨S1x256x1024, .f32⟩
  | 12 => ⟨S1x128x512, .f32⟩
  | 13 => ⟨S1x512x256, .f32⟩
  | 14 => ⟨S1x31x256, .f32⟩
  | 15 => ⟨S1x256x1024, .f32⟩
  | 16 => ⟨S1x256x1024, .f32⟩
  | 17 => ⟨S1x128x512, .f32⟩
  | 18 => ⟨S1x512x256, .f32⟩
  | 19 => ⟨S1x31x256, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S_, .f32⟩
  | 27 => ⟨S256x1024, .f32⟩
  | 28 => ⟨S256x1024, .f32⟩
  | 29 => ⟨S256x1024, .f32⟩
  | 30 => ⟨S_, .f32⟩
  | 31 => ⟨S256x1024, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S_, .f32⟩
  | 42 => ⟨S256x1024, .f32⟩
  | 43 => ⟨S256x1024, .f32⟩
  | 44 => ⟨S256x1024, .f32⟩
  | 45 => ⟨S_, .f32⟩
  | 46 => ⟨S256x1024, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S256x1024, .f32⟩
  | 53 => ⟨S_, .f32⟩
  | 54 => ⟨S256x1024, .f32⟩
  | 55 => ⟨S256x1024, .f32⟩
  | 56 => ⟨S256x1024, .f32⟩
  | 57 => ⟨S256x1024, .f32⟩
  | 58 => ⟨S256x1024, .f32⟩
  | 59 => ⟨S_, .f32⟩
  | 60 => ⟨S256x1024, .f32⟩
  | 61 => ⟨S256x1024, .f32⟩
  | 62 => ⟨S_, .f32⟩
  | 63 => ⟨S256x1024, .f32⟩
  | 64 => ⟨S256x1024, .f32⟩
  | 65 => ⟨S256x1024, .f32⟩
  | 66 => ⟨S_, .f32⟩
  | 67 => ⟨S256x1024, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S_, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S256x1024, .f32⟩
  | 81 => ⟨S_, .f32⟩
  | 82 => ⟨S256x1024, .f32⟩
  | 83 => ⟨S256x1024, .f32⟩
  | 84 => ⟨S256x1024, .f32⟩
  | 85 => ⟨S_, .f32⟩
  | 86 => ⟨S256x1024, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S128x512, .f32⟩
  | 93 => ⟨S128x512, .f32⟩
  | 94 => ⟨S128x512, .f32⟩
  | 95 => ⟨S_, .f32⟩
  | 96 => ⟨S128x512, .f32⟩
  | 97 => ⟨S128x512, .f32⟩
  | 98 => ⟨S_, .f32⟩
  | 99 => ⟨S128x512, .f32⟩
  | 100 => ⟨S128x512, .f32⟩
  | 101 => ⟨S128x512, .f32⟩
  | 102 => ⟨S_, .f32⟩
  | 103 => ⟨S128x512, .f32⟩
  | 104 => ⟨S128x512, .f32⟩
  | 105 => ⟨S128x512, .f32⟩
  | 106 => ⟨S_, .f32⟩
  | 107 => ⟨S128x512, .f32⟩
  | 108 => ⟨S128x512, .f32⟩
  | 109 => ⟨S128x512, .f32⟩
  | 110 => ⟨S_, .f32⟩
  | 111 => ⟨S128x512, .f32⟩
  | 112 => ⟨S128x512, .f32⟩
  | 113 => ⟨S_, .f32⟩
  | 114 => ⟨S128x512, .f32⟩
  | 115 => ⟨S128x512, .f32⟩
  | 116 => ⟨S128x512, .f32⟩
  | 117 => ⟨S_, .f32⟩
  | 118 => ⟨S128x512, .f32⟩
  | 119 => ⟨S128x512, .f32⟩
  | 120 => ⟨S128x512, .f32⟩
  | 121 => ⟨S_, .f32⟩
  | 122 => ⟨S128x512, .f32⟩
  | 123 => ⟨S128x512, .f32⟩
  | 124 => ⟨S128x512, .f32⟩
  | 125 => ⟨S_, .f32⟩
  | 126 => ⟨S128x512, .f32⟩
  | 127 => ⟨S128x512, .f32⟩
  | _ => ⟨S1x256x1024, .f32⟩

abbrev hbmTy0_1 (i : Nat) : BufTy := match i % 128 with
  | 0 => ⟨S512x256, .f32⟩
  | 1 => ⟨S512x256, .f32⟩
  | 2 => ⟨S512x256, .f32⟩
  | 3 => ⟨S_, .f32⟩
  | 4 => ⟨S512x256, .f32⟩
  | 5 => ⟨S512x256, .f32⟩
  | 6 => ⟨S_, .f32⟩
  | 7 => ⟨S512x256, .f32⟩
  | 8 => ⟨S512x256, .f32⟩
  | 9 => ⟨S512x256, .f32⟩
  | 10 => ⟨S_, .f32⟩
  | 11 => ⟨S512x256, .f32⟩
  | 12 => ⟨S512x256, .f32⟩
  | 13 => ⟨S512x256, .f32⟩
  | 14 => ⟨S_, .f32⟩
  | 15 => ⟨S512x256, .f32⟩
  | 16 => ⟨S512x256, .f32⟩
  | 17 => ⟨S512x256, .f32⟩
  | 18 => ⟨S_, .f32⟩
  | 19 => ⟨S512x256, .f32⟩
  | 20 => ⟨S512x256, .f32⟩
  | 21 => ⟨S_, .f32⟩
  | 22 => ⟨S512x256, .f32⟩
  | 23 => ⟨S512x256, .f32⟩
  | 24 => ⟨S512x256, .f32⟩
  | 25 => ⟨S_, .f32⟩
  | 26 => ⟨S512x256, .f32⟩
  | 27 => ⟨S512x256, .f32⟩
  | 28 => ⟨S512x256, .f32⟩
  | 29 => ⟨S_, .f32⟩
  | 30 => ⟨S512x256, .f32⟩
  | 31 => ⟨S512x256, .f32⟩
  | 32 => ⟨S512x256, .f32⟩
  | 33 => ⟨S_, .f32⟩
  | 34 => ⟨S512x256, .f32⟩
  | 35 => ⟨S512x256, .f32⟩
  | 36 => ⟨S31x256, .f32⟩
  | 37 => ⟨S31x256, .f32⟩
  | 38 => ⟨S31x256, .f32⟩
  | 39 => ⟨S_, .f32⟩
  | 40 => ⟨S31x256, .f32⟩
  | 41 => ⟨S31x256, .f32⟩
  | 42 => ⟨S_, .f32⟩
  | 43 => ⟨S31x256, .f32⟩
  | 44 => ⟨S31x256, .f32⟩
  | 45 => ⟨S31x256, .f32⟩
  | 46 => ⟨S_, .f32⟩
  | 47 => ⟨S31x256, .f32⟩
  | 48 => ⟨S31x256, .f32⟩
  | 49 => ⟨S31x256, .f32⟩
  | 50 => ⟨S_, .f32⟩
  | 51 => ⟨S31x256, .f32⟩
  | 52 => ⟨S31x256, .f32⟩
  | 53 => ⟨S31x256, .f32⟩
  | 54 => ⟨S_, .f32⟩
  | 55 => ⟨S31x256, .f32⟩
  | 56 => ⟨S31x256, .f32⟩
  | 57 => ⟨S_, .f32⟩
  | 58 => ⟨S31x256, .f32⟩
  | 59 => ⟨S31x256, .f32⟩
  | 60 => ⟨S31x256, .f32⟩
  | 61 => ⟨S_, .f32⟩
  | 62 => ⟨S31x256, .f32⟩
  | 63 => ⟨S31x256, .f32⟩
  | 64 => ⟨S31x256, .f32⟩
  | 65 => ⟨S_, .f32⟩
  | 66 => ⟨S31x256, .f32⟩
  | 67 => ⟨S31x256, .f32⟩
  | 68 => ⟨S31x256, .f32⟩
  | 69 => ⟨S_, .f32⟩
  | 70 => ⟨S31x256, .f32⟩
  | 71 => ⟨S31x256, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_v31 : Ref sig .tc := ⟨.hbm, 61, rfl⟩
abbrev main_cst_9 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_10 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_12 : Ref sig .tc := ⟨.hbm, 74, rfl⟩
abbrev main_v41 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_15 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_16 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_17 : Ref sig .tc := ⟨.hbm, 95, rfl⟩
abbrev main_v57 : Ref sig .tc := ⟨.hbm, 96, rfl⟩
abbrev main_v58 : Ref sig .tc := ⟨.hbm, 97, rfl⟩
abbrev main_cst_18 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_19 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_20 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_21 : Ref sig .tc := ⟨.hbm, 110, rfl⟩
abbrev main_v68 : Ref sig .tc := ⟨.hbm, 111, rfl⟩
abbrev main_v69 : Ref sig .tc := ⟨.hbm, 112, rfl⟩
abbrev main_cst_22 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_23 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_24 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_25 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_26 : Ref sig .tc := ⟨.hbm, 131, rfl⟩
abbrev main_v84 : Ref sig .tc := ⟨.hbm, 132, rfl⟩
abbrev main_v85 : Ref sig .tc := ⟨.hbm, 133, rfl⟩
abbrev main_cst_27 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_28 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_29 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_30 : Ref sig .tc := ⟨.hbm, 146, rfl⟩
abbrev main_v95 : Ref sig .tc := ⟨.hbm, 147, rfl⟩
abbrev main_v96 : Ref sig .tc := ⟨.hbm, 148, rfl⟩
abbrev main_cst_31 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_32 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_33 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_34 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_35 : Ref sig .tc := ⟨.hbm, 167, rfl⟩
abbrev main_v111 : Ref sig .tc := ⟨.hbm, 168, rfl⟩
abbrev main_v112 : Ref sig .tc := ⟨.hbm, 169, rfl⟩
abbrev main_cst_36 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_37 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_38 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_39 : Ref sig .tc := ⟨.hbm, 182, rfl⟩
abbrev main_v122 : Ref sig .tc := ⟨.hbm, 183, rfl⟩
abbrev main_v123 : Ref sig .tc := ⟨.hbm, 184, rfl⟩
abbrev main_cst_40 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_41 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_42 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_cst_43 : Ref sig .tc := ⟨.hbm, 197, rfl⟩
abbrev main_v133 : Ref sig .tc := ⟨.hbm, 198, rfl⟩
abbrev main_v134 : Ref sig .tc := ⟨.hbm, 199, rfl⟩

abbrev nD : Nat := 1
abbrev τ : Topo := Topo.v7x

variable {F : FTy → Type} [FloatOps F]
-- ==== Kernel6.lean ====
abbrev S8x1024 : Shape := ⟨2, ![8, 1024]⟩
abbrev S1x1024 : Shape := ⟨2, ![1, 1024]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8x8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference6Ideal.lean ====
abbrev S8x1024 : Shape := ⟨2, ![8, 1024]⟩
abbrev S1x1024 : Shape := ⟨2, ![1, 1024]⟩
abbrev S_ : Shape := ⟨0, ![]⟩
abbrev S1024 : Shape := ⟨1, ![1024]⟩
abbrev S8x128 : Shape := ⟨2, ![8, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S8x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel7.lean ====
abbrev S1x1024 : Shape := ⟨2, ![1, 1024]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512 : Shape := ⟨2, ![1, 512]⟩
abbrev S1024 : Shape := ⟨1, ![1024]⟩
abbrev S_ : Shape := ⟨0, ![]⟩
abbrev S8x128 : Shape := ⟨2, ![8, 128]⟩
abbrev S2048 : Shape := ⟨1, ![2048]⟩
abbrev S16x128 : Shape := ⟨2, ![16, 128]⟩
abbrev S32 : Shape := ⟨1, ![32]⟩
abbrev S32768 : Shape := ⟨1, ![32768]⟩
abbrev S256x128 : Shape := ⟨2, ![256, 128]⟩
abbrev S512 : Shape := ⟨1, ![512]⟩
abbrev S40x128 : Shape := ⟨2, ![40, 128]⟩
abbrev S1152x128 : Shape := ⟨2, ![1152, 128]⟩
abbrev S128x128 : Shape := ⟨2, ![128, 128]⟩
abbrev S1x1 : Shape := ⟨2, ![1, 1]⟩

abbrev nBuf : Space → Nat
  | .hbm => 459
  | .vmem => 14
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x32x16, .f32⟩
  | 11 => ⟨S1x512, .f32⟩
  | 12 => ⟨S1x1024, .f32⟩
  | 13 => ⟨S1x1024, .f32⟩
  | 14 => ⟨S1x1024, .f32⟩
  | 15 => ⟨S1x1024, .f32⟩
  | 16 => ⟨S1x32x64, .f32⟩
  | 17 => ⟨S1x32x64, .f32⟩
  | 18 => ⟨S1x32, .f32⟩
  | 19 => ⟨S1x32x64x16, .f32⟩
  | 20 => ⟨S1x32x64x16, .f32⟩
  | 21 => ⟨S1x32x16x64, .f32⟩
  | 22 => ⟨S1x32x16x64, .f32⟩
  | 23 => ⟨S1x32x16, .f32⟩
  | 24 => ⟨S1x512, .f32⟩
  | 25 => ⟨S1x1024, .f32⟩
  | 26 => ⟨S1x1024, .f32⟩
  | 27 => ⟨S1x1024, .f32⟩
  | 28 => ⟨S1x1024, .f32⟩
  | 29 => ⟨S1x32x64, .f32⟩
  | 30 => ⟨S1x32x64, .f32⟩
  | 31 => ⟨S1x32, .f32⟩
  | 32 => ⟨S1x32x64x16, .f32⟩
  | 33 => ⟨S1x32x64x16, .f32⟩
  | 34 => ⟨S1x32x16x64, .f32⟩
  | 35 => ⟨S1x32x16x64, .f32⟩
  | 36 => ⟨S1x32x16, .f32⟩
  | 37 => ⟨S1x512, .f32⟩
  | 38 => ⟨S1x1024, .f32⟩
  | 39 => ⟨S1x1024, .f32⟩
  | 40 => ⟨S1x1024, .f32⟩
  | 41 => ⟨S1x1024, .f32⟩
  | 42 => ⟨S1x32x64, .f32⟩
  | 43 => ⟨S1x32x64, .f32⟩
  | 44 => ⟨S1x32, .f32⟩
  | 45 => ⟨S1x32x64x16, .f32⟩
  | 46 => ⟨S1x32x64x16, .f32⟩
  | 47 => ⟨S1x32x16x64, .f32⟩
  | 48 => ⟨S1x32x16x64, .f32⟩
  | 49 => ⟨S1x32x16, .f32⟩
  | 50 => ⟨S1x512, .f32⟩
  | 51 => ⟨S1x1024, .f32⟩
  | 52 => ⟨S1024, .f32⟩
  | 53 => ⟨S_, .i32⟩
  | 54 => ⟨S_, .f32⟩
  | 55 => ⟨S1024, .f32⟩
  | 56 => ⟨S8x128, .f32⟩
  | 57 => ⟨S1024, .f32⟩
  | 58 => ⟨S_, .i32⟩
  | 59 => ⟨S_, .f32⟩
  | 60 => ⟨S1024, .f32⟩
  | 61 => ⟨S8x128, .f32⟩
  | 62 => ⟨S1024, .f32⟩
  | 63 => ⟨S_, .i32⟩
  | 64 => ⟨S_, .f32⟩
  | 65 => ⟨S1024, .f32⟩
  | 66 => ⟨S8x128, .f32⟩
  | 67 => ⟨S2048, .f32⟩
  | 68 => ⟨S_, .i32⟩
  | 69 => ⟨S_, .f32⟩
  | 70 => ⟨S2048, .f32⟩
  | 71 => ⟨S16x128, .f32⟩
  | 72 => ⟨S2048, .f32⟩
  | 73 => ⟨S_, .i32⟩
  | 74 => ⟨S_, .f32⟩
  | 75 => ⟨S2048, .f32⟩
  | 76 => ⟨S16x128, .f32⟩
  | 77 => ⟨S32, .f32⟩
  | 78 => ⟨S_, .i32⟩
  | 79 => ⟨S_, .f32⟩
  | 80 => ⟨S1024, .f32⟩
  | 81 => ⟨S8x128, .f32⟩
  | 82 => ⟨S32768, .f32⟩
  | 83 => ⟨S_, .i32⟩
  | 84 => ⟨S_, .f32⟩
  | 85 => ⟨S32768, .f32⟩
  | 86 => ⟨S256x128, .f32⟩
  | 87 => ⟨S32768, .f32⟩
  | 88 => ⟨S_, .i32⟩
  | 89 => ⟨S_, .f32⟩
  | 90 => ⟨S32768, .f32⟩
  | 91 => ⟨S256x128, .f32⟩
  | 92 => ⟨S32768, .f32⟩
  | 93 => ⟨S_, .i32⟩
  | 94 => ⟨S_, .f32⟩
  | 95 => ⟨S32768, .f32⟩
  | 96 => ⟨S256x128, .f32⟩
  | 97 => ⟨S32768, .f32⟩
  | 98 => ⟨S_, .i32⟩
  | 99 => ⟨S_, .f32⟩
  | 100 => ⟨S32768, .f32⟩
  | 101 => ⟨S256x128, .f32⟩
  | 102 => ⟨S512, .f32⟩
  | 103 => ⟨S_, .i32⟩
  | 104 => ⟨S_, .f32⟩
  | 105 => ⟨S1024, .f32⟩
  | 106 => ⟨S8x128, .f32⟩
  | 107 => ⟨S512, .f32⟩
  | 108 => ⟨S_, .i32⟩
  | 109 => ⟨S_, .f32⟩
  | 110 => ⟨S1024, .f32⟩
  | 111 => ⟨S8x128, .f32⟩
  | 112 => ⟨S1024, .f32⟩
  | 113 => ⟨S_, .i32⟩
  | 114 => ⟨S_, .f32⟩
  | 115 => ⟨S1024, .f32⟩
  | 116 => ⟨S8x128, .f32⟩
  | 117 => ⟨S_, .f32⟩
  | 118 => ⟨S40x128, .f32⟩
  | 119 => ⟨S1152x128, .f32⟩
  | 120 => ⟨S1024, .f32⟩
  | 121 => ⟨S_, .i32⟩
  | 122 => ⟨S_, .f32⟩
  | 123 => ⟨S1024, .f32⟩
  | 124 => ⟨S8x128, .f32⟩
  | 125 => ⟨S1024, .f32⟩
  | 126 => ⟨S_, .i32⟩
  | 127 => ⟨S_, .f32⟩
  | _ => ⟨S1x1024, .f32⟩

abbrev hbmTy0_1 (i : Nat) : BufTy := match i % 128 with
  | 0 => ⟨S1024, .f32⟩
  | 1 => ⟨S8x128, .f32⟩
  | 2 => ⟨S1024, .f32⟩
  | 3 => ⟨S_, .i32⟩
  | 4 => ⟨S_, .f32⟩
  | 5 => ⟨S1024, .f32⟩
  | 6 => ⟨S8x128, .f32⟩
  | 7 => ⟨S2048, .f32⟩
  | 8 => ⟨S_, .i32⟩
  | 9 => ⟨S_, .f32⟩
  | 10 => ⟨S2048, .f32⟩
  | 11 => ⟨S16x128, .f32⟩
  | 12 => ⟨S2048, .f32⟩
  | 13 => ⟨S_, .i32⟩
  | 14 => ⟨S_, .f32⟩
  | 15 => ⟨S2048, .f32⟩
  | 16 => ⟨S16x128, .f32⟩
  | 17 => ⟨S32, .f32⟩
  | 18 => ⟨S_, .i32⟩
  | 19 => ⟨S_, .f32⟩
  | 20 => ⟨S1024, .f32⟩
  | 21 => ⟨S8x128, .f32⟩
  | 22 => ⟨S32768, .f32⟩
  | 23 => ⟨S_, .i32⟩
  | 24 => ⟨S_, .f32⟩
  | 25 => ⟨S32768, .f32⟩
  | 26 => ⟨S256x128, .f32⟩
  | 27 => ⟨S32768, .f32⟩
  | 28 => ⟨S_, .i32⟩
  | 29 => ⟨S_, .f32⟩
  | 30 => ⟨S32768, .f32⟩
  | 31 => ⟨S256x128, .f32⟩
  | 32 => ⟨S32768, .f32⟩
  | 33 => ⟨S_, .i32⟩
  | 34 => ⟨S_, .f32⟩
  | 35 => ⟨S32768, .f32⟩
  | 36 => ⟨S256x128, .f32⟩
  | 37 => ⟨S32768, .f32⟩
  | 38 => ⟨S_, .i32⟩
  | 39 => ⟨S_, .f32⟩
  | 40 => ⟨S32768, .f32⟩
  | 41 => ⟨S256x128, .f32⟩
  | 42 => ⟨S512, .f32⟩
  | 43 => ⟨S_, .i32⟩
  | 44 => ⟨S_, .f32⟩
  | 45 => ⟨S1024, .f32⟩
  | 46 => ⟨S8x128, .f32⟩
  | 47 => ⟨S512, .f32⟩
  | 48 => ⟨S_, .i32⟩
  | 49 => ⟨S_, .f32⟩
  | 50 => ⟨S1024, .f32⟩
  | 51 => ⟨S8x128, .f32⟩
  | 52 => ⟨S1024, .f32⟩
  | 53 => ⟨S_, .i32⟩
  | 54 => ⟨S_, .f32⟩
  | 55 => ⟨S1024, .f32⟩
  | 56 => ⟨S8x128, .f32⟩
  | 57 => ⟨S_, .f32⟩
  | 58 => ⟨S40x128, .f32⟩
  | 59 => ⟨S1152x128, .f32⟩
  | 60 => ⟨S1024, .f32⟩
  | 61 => ⟨S_, .i32⟩
  | 62 => ⟨S_, .f32⟩
  | 63 => ⟨S1024, .f32⟩
  | 64 => ⟨S8x128, .f32⟩
  | 65 => ⟨S1024, .f32⟩
  | 66 => ⟨S_, .i32⟩
  | 67 => ⟨S_, .f32⟩
  | 68 => ⟨S1024, .f32⟩
  | 69 => ⟨S8x128, .f32⟩
  | 70 => ⟨S1024, .f32⟩
  | 71 => ⟨S_, .i32⟩
  | 72 => ⟨S_, .f32⟩
  | 73 => ⟨S1024, .f32⟩
  | 74 => ⟨S8x128, .f32⟩
  | 75 => ⟨S2048, .f32⟩
  | 76 => ⟨S_, .i32⟩
  | 77 => ⟨S_, .f32⟩
  | 78 => ⟨S2048, .f32⟩
  | 79 => ⟨S16x128, .f32⟩
  | 80 => ⟨S2048, .f32⟩
  | 81 => ⟨S_, .i32⟩
  | 82 => ⟨S_, .f32⟩
  | 83 => ⟨S2048, .f32⟩
  | 84 => ⟨S16x128, .f32⟩
  | 85 => ⟨S32, .f32⟩
  | 86 => ⟨S_, .i32⟩
  | 87 => ⟨S_, .f32⟩
  | 88 => ⟨S1024, .f32⟩
  | 89 => ⟨S8x128, .f32⟩
  | 90 => ⟨S32768, .f32⟩
  | 91 => ⟨S_, .i32⟩
  | 92 => ⟨S_, .f32⟩
  | 93 => ⟨S32768, .f32⟩
  | 94 => ⟨S256x128, .f32⟩
  | 95 => ⟨S32768, .f32⟩
  | 96 => ⟨S_, .i32⟩
  | 97 => ⟨S_, .f32⟩
  | 98 => ⟨S32768, .f32⟩
  | 99 => ⟨S256x128, .f32⟩
  | 100 => ⟨S32768, .f32⟩
  | 101 => ⟨S_, .i32⟩
  | 102 => ⟨S_, .f32⟩
  | 103 => ⟨S32768, .f32⟩
  | 104 => ⟨S256x128, .f32⟩
  | 105 => ⟨S32768, .f32⟩
  | 106 => ⟨S_, .i32⟩
  | 107 => ⟨S_, .f32⟩
  | 108 => ⟨S32768, .f32⟩
  | 109 => ⟨S256x128, .f32⟩
  | 110 => ⟨S512, .f32⟩
  | 111 => ⟨S_, .i32⟩
  | 112 => ⟨S_, .f32⟩
  | 113 => ⟨S1024, .f32⟩
  | 114 => ⟨S8x128, .f32⟩
  | 115 => ⟨S512, .f32⟩
  | 116 => ⟨S_, .i32⟩
  | 117 => ⟨S_, .f32⟩
  | 118 => ⟨S1024, .f32⟩
  | 119 => ⟨S8x128, .f32⟩
  | 120 => ⟨S1024, .f32⟩
  | 121 => ⟨S_, .i32⟩
  | 122 => ⟨S_, .f32⟩
  | 123 => ⟨S1024, .f32⟩
  | 124 => ⟨S8x128, .f32⟩
  | 125 => ⟨S_, .f32⟩
  | 126 => ⟨S40x128, .f32⟩
  | 127 => ⟨S1152x128, .f32⟩
  | _ => ⟨S1x1024, .f32⟩

abbrev hbmTy0_2 (i : Nat) : BufTy := match i % 128 with
  | 0 => ⟨S1024, .f32⟩
  | 1 => ⟨S_, .i32⟩
  | 2 => ⟨S_, .f32⟩
  | 3 => ⟨S1024, .f32⟩
  | 4 => ⟨S8x128, .f32⟩
  | 5 => ⟨S1024, .f32⟩
  | 6 => ⟨S_, .i32⟩
  | 7 => ⟨S_, .f32⟩
  | 8 => ⟨S1024, .f32⟩
  | 9 => ⟨S8x128, .f32⟩
  | 10 => ⟨S1024, .f32⟩
  | 11 => ⟨S_, .i32⟩
  | 12 => ⟨S_, .f32⟩
  | 13 => ⟨S1024, .f32⟩
  | 14 => ⟨S8x128, .f32⟩
  | 15 => ⟨S2048, .f32⟩
  | 16 => ⟨S_, .i32⟩
  | 17 => ⟨S_, .f32⟩
  | 18 => ⟨S2048, .f32⟩
  | 19 => ⟨S16x128, .f32⟩
  | 20 => ⟨S2048, .f32⟩
  | 21 => ⟨S_, .i32⟩
  | 22 => ⟨S_, .f32⟩
  | 23 => ⟨S2048, .f32⟩
  | 24 => ⟨S16x128, .f32⟩
  | 25 => ⟨S32, .f32⟩
  | 26 => ⟨S_, .i32⟩
  | 27 => ⟨S_, .f32⟩
  | 28 => ⟨S1024, .f32⟩
  | 29 => ⟨S8x128, .f32⟩
  | 30 => ⟨S32768, .f32⟩
  | 31 => ⟨S_, .i32⟩
  | 32 => ⟨S_, .f32⟩
  | 33 => ⟨S32768, .f32⟩
  | 34 => ⟨S256x128, .f32⟩
  | 35 => ⟨S32768, .f32⟩
  | 36 => ⟨S_, .i32⟩
  | 37 => ⟨S_, .f32⟩
  | 38 => ⟨S32768, .f32⟩
  | 39 => ⟨S256x128, .f32⟩
  | 40 => ⟨S32768, .f32⟩
  | 41 => ⟨S_, .i32⟩
  | 42 => ⟨S_, .f32⟩
  | 43 => ⟨S32768, .f32⟩
  | 44 => ⟨S256x128, .f32⟩
  | 45 => ⟨S32768, .f32⟩
  | 46 => ⟨S_, .i32⟩
  | 47 => ⟨S_, .f32⟩
  | 48 => ⟨S32768, .f32⟩
  | 49 => ⟨S256x128, .f32⟩
  | 50 => ⟨S512, .f32⟩
  | 51 => ⟨S_, .i32⟩
  | 52 => ⟨S_, .f32⟩
  | 53 => ⟨S1024, .f32⟩
  | 54 => ⟨S8x128, .f32⟩
  | 55 => ⟨S512, .f32⟩
  | 56 => ⟨S_, .i32⟩
  | 57 => ⟨S_, .f32⟩
  | 58 => ⟨S1024, .f32⟩
  | 59 => ⟨S8x128, .f32⟩
  | 60 => ⟨S1024, .f32⟩
  | 61 => ⟨S_, .i32⟩
  | 62 => ⟨S_, .f32⟩
  | 63 => ⟨S1024, .f32⟩
  | 64 => ⟨S8x128, .f32⟩
  | 65 => ⟨S_, .f32⟩
  | 66 => ⟨S40x128, .f32⟩
  | 67 => ⟨S1152x128, .f32⟩
  | 68 => ⟨S1152x128, .f32⟩
  | 69 => ⟨S1152x128, .f32⟩
  | 70 => ⟨S1152x128, .f32⟩
  | 71 => ⟨S8x128, .f32⟩
  | 72 => ⟨S1024, .f32⟩
  | 73 => ⟨S1x1024, .f32⟩
  | 74 => ⟨S8x128, .f32⟩
  | 75 => ⟨S1024, .f32⟩
  | 76 => ⟨S1x1024, .f32⟩
  | 77 => ⟨S8x128, .f32⟩
  | 78 => ⟨S1024, .f32⟩
  | 79 => ⟨S1x1024, .f32⟩
  | 80 => ⟨S16x128, .f32⟩
  | 81 => ⟨S2048, .f32⟩
  | 82 => ⟨S1x32x64, .f32⟩
  | 83 => ⟨S16x128, .f32⟩
  | 84 => ⟨S2048, .f32⟩
  | 85 => ⟨S1x32x64, .f32⟩
  | 86 => ⟨S8x128, .f32⟩
  | 87 => ⟨S1024, .f32⟩
  | 88 => ⟨S32, .f32⟩
  | 89 => ⟨S1x32, .f32⟩
  | 90 => ⟨S256x128, .f32⟩
  | 91 => ⟨S32768, .f32⟩
  | 92 => ⟨S1x32x64x16, .f32⟩
  | 93 => ⟨S256x128, .f32⟩
  | 94 => ⟨S32768, .f32⟩
  | 95 => ⟨S1x32x64x16, .f32⟩
  | 96 => ⟨S256x128, .f32⟩
  | 97 => ⟨S32768, .f32⟩
  | 98 => ⟨S1x32x16x64, .f32⟩
  | 99 => ⟨S256x128, .f32⟩
  | 100 => ⟨S32768, .f32⟩
  | 101 => ⟨S1x32x16x64, .f32⟩
  | 102 => ⟨S8x128, .f32⟩
  | 103 => ⟨S1024, .f32⟩
  | 104 => ⟨S512, .f32⟩
  | 105 => ⟨S1x32x16, .f32⟩
  | 106 => ⟨S8x128, .f32⟩
  | 107 => ⟨S1024, .f32⟩
  | 108 => ⟨S512, .f32⟩
  | 109 => ⟨S1x512, .f32⟩
  | 110 => ⟨S8x128, .f32⟩
  | 111 => ⟨S1024, .f32⟩
  | 112 => ⟨S1x1024, .f32⟩
  | 113 => ⟨S1x1, .f32⟩
  | 114 => ⟨S_, .f32⟩
  | 115 => ⟨S8x128, .f32⟩
  | 116 => ⟨S1024, .f32⟩
  | 117 => ⟨S1x1024, .f32⟩
  | 118 => ⟨S8x128, .f32⟩
  | 119 => ⟨S1024, .f32⟩
  | 120 => ⟨S1x1024, .f32⟩
  | 121 => ⟨S8x128, .f32⟩
  | 122 => ⟨S1024, .f32⟩
  | 123 => ⟨S1x1024, .f32⟩
  | 124 => ⟨S16x128, .f32⟩
  | 125 => ⟨S2048, .f32⟩
  | 126 => ⟨S1x32x64, .f32⟩
  | 127 => ⟨S16x128, .f32⟩
  | _ => ⟨S1x1024, .f32⟩

abbrev hbmTy0_3 (i : Nat) : BufTy := match i % 128 with
  | 0 => ⟨S2048, .f32⟩
  | 1 => ⟨S1x32x64, .f32⟩
  | 2 => ⟨S8x128, .f32⟩
  | 3 => ⟨S1024, .f32⟩
  | 4 => ⟨S32, .f32⟩
  | 5 => ⟨S1x32, .f32⟩
  | 6 => ⟨S256x128, .f32⟩
  | 7 => ⟨S32768, .f32⟩
  | 8 => ⟨S1x32x64x16, .f32⟩
  | 9 => ⟨S256x128, .f32⟩
  | 10 => ⟨S32768, .f32⟩
  | 11 => ⟨S1x32x64x16, .f32⟩
  | 12 => ⟨S256x128, .f32⟩
  | 13 => ⟨S32768, .f32⟩
  | 14 => ⟨S1x32x16x64, .f32⟩
  | 15 => ⟨S256x128, .f32⟩
  | 16 => ⟨S32768, .f32⟩
  | 17 => ⟨S1x32x16x64, .f32⟩
  | 18 => ⟨S8x128, .f32⟩
  | 19 => ⟨S1024, .f32⟩
  | 20 => ⟨S512, .f32⟩
  | 21 => ⟨S1x32x16, .f32⟩
  | 22 => ⟨S8x128, .f32⟩
  | 23 => ⟨S1024, .f32⟩
  | 24 => ⟨S512, .f32⟩
  | 25 => ⟨S1x512, .f32⟩
  | 26 => ⟨S8x128, .f32⟩
  | 27 => ⟨S1024, .f32⟩
  | 28 => ⟨S1x1024, .f32⟩
  | 29 => ⟨S1x1, .f32⟩
  | 30 => ⟨S_, .f32⟩
  | 31 => ⟨S8x128, .f32⟩
  | 32 => ⟨S1024, .f32⟩
  | 33 => ⟨S1x1024, .f32⟩
  | 34 => ⟨S8x128, .f32⟩
  | 35 => ⟨S1024, .f32⟩
  | 36 => ⟨S1x1024, .f32⟩
  | 37 => ⟨S8x128, .f32⟩
  | 38 => ⟨S1024, .f32⟩
  | 39 => ⟨S1x1024, .f32⟩
  | 40 => ⟨S16x128, .f32⟩
  | 41 => ⟨S2048, .f32⟩
  | 42 => ⟨S1x32x64, .f32⟩
  | 43 => ⟨S16x128, .f32⟩
  | 44 => ⟨S2048, .f32⟩
  | 45 => ⟨S1x32x64, .f32⟩
  | 46 => ⟨S8x128, .f32⟩
  | 47 => ⟨S1024, .f32⟩
  | 48 => ⟨S32, .f32⟩
  | 49 => ⟨S1x32, .f32⟩
  | 50 => ⟨S256x128, .f32⟩
  | 51 => ⟨S32768, .f32⟩
  | 52 => ⟨S1x32x64x16, .f32⟩
  | 53 => ⟨S256x128, .f32⟩
  | 54 => ⟨S32768, .f32⟩
  | 55 => ⟨S1x32x64x16, .f32⟩
  | 56 => ⟨S256x128, .f32⟩
  | 57 => ⟨S32768, .f32⟩
  | 58 => ⟨S1x32x16x64, .f32⟩
  | 59 => ⟨S256x128, .f32⟩
  | 60 => ⟨S32768, .f32⟩
  | 61 => ⟨S1x32x16x64, .f32⟩
  | 62 => ⟨S8x128, .f32⟩
  | 63 => ⟨S1024, .f32⟩
  | 64 => ⟨S512, .f32⟩
  | 65 => ⟨S1x32x16, .f32⟩
  | 66 => ⟨S8x128, .f32⟩
  | 67 => ⟨S1024, .f32⟩
  | 68 => ⟨S512, .f32⟩
  | 69 => ⟨S1x512, .f32⟩
  | 70 => ⟨S8x128, .f32⟩
  | 71 => ⟨S1024, .f32⟩
  | 72 => ⟨S1x1024, .f32⟩
  | 73 => ⟨S1x1, .f32⟩
  | 74 => ⟨S_, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_c : Ref sig .tc := ⟨.hbm, 53, rfl⟩
abbrev main_call0_v0 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_c_0 : Ref sig .tc := ⟨.hbm, 58, rfl⟩
abbrev main_call1_v0 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_c_1 : Ref sig .tc := ⟨.hbm, 63, rfl⟩
abbrev main_call2_v0 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_c_2 : Ref sig .tc := ⟨.hbm, 68, rfl⟩
abbrev main_call3_v0 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_3 : Ref sig .tc := ⟨.hbm, 73, rfl⟩
abbrev main_call4_v0 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_c_4 : Ref sig .tc := ⟨.hbm, 78, rfl⟩
abbrev main_call5_v0 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_c_5 : Ref sig .tc := ⟨.hbm, 83, rfl⟩
abbrev main_call6_v0 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_c_6 : Ref sig .tc := ⟨.hbm, 88, rfl⟩
abbrev main_call7_v0 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_c_7 : Ref sig .tc := ⟨.hbm, 93, rfl⟩
abbrev main_call8_v0 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_c_8 : Ref sig .tc := ⟨.hbm, 98, rfl⟩
abbrev main_call9_v0 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_c_9 : Ref sig .tc := ⟨.hbm, 103, rfl⟩
abbrev main_call10_v0 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_c_10 : Ref sig .tc := ⟨.hbm, 108, rfl⟩
abbrev main_call11_v0 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_c_11 : Ref sig .tc := ⟨.hbm, 113, rfl⟩
abbrev main_call12_v0 : Ref sig .tc := ⟨.hbm, 114, rfl⟩
abbrev main_v37 : Ref sig .tc := ⟨.hbm, 115, rfl⟩
abbrev main_v38 : Ref sig .tc := ⟨.hbm, 116, rfl⟩
abbrev main_cst : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_c_12 : Ref sig .tc := ⟨.hbm, 121, rfl⟩
abbrev main_call13_v0 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_c_13 : Ref sig .tc := ⟨.hbm, 126, rfl⟩
abbrev main_call14_v0 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_c_14 : Ref sig .tc := ⟨.hbm, 131, rfl⟩
abbrev main_call15_v0 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_c_15 : Ref sig .tc := ⟨.hbm, 136, rfl⟩
abbrev main_call16_v0 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_c_16 : Ref sig .tc := ⟨.hbm, 141, rfl⟩
abbrev main_call17_v0 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_c_17 : Ref sig .tc := ⟨.hbm, 146, rfl⟩
abbrev main_call18_v0 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_c_18 : Ref sig .tc := ⟨.hbm, 151, rfl⟩
abbrev main_call19_v0 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_c_19 : Ref sig .tc := ⟨.hbm, 156, rfl⟩
abbrev main_call20_v0 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_c_20 : Ref sig .tc := ⟨.hbm, 161, rfl⟩
abbrev main_call21_v0 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_c_21 : Ref sig .tc := ⟨.hbm, 166, rfl⟩
abbrev main_call22_v0 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_c_22 : Ref sig .tc := ⟨.hbm, 171, rfl⟩
abbrev main_call23_v0 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_c_23 : Ref sig .tc := ⟨.hbm, 176, rfl⟩
abbrev main_call24_v0 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_c_24 : Ref sig .tc := ⟨.hbm, 181, rfl⟩
abbrev main_call25_v0 : Ref sig .tc := ⟨.hbm, 182, rfl⟩
abbrev main_v78 : Ref sig .tc := ⟨.hbm, 183, rfl⟩
abbrev main_v79 : Ref sig .tc := ⟨.hbm, 184, rfl⟩
abbrev main_cst_25 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_c_26 : Ref sig .tc := ⟨.hbm, 189, rfl⟩
abbrev main_call26_v0 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_c_27 : Ref sig .tc := ⟨.hbm, 194, rfl⟩
abbrev main_call27_v0 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_c_28 : Ref sig .tc := ⟨.hbm, 199, rfl⟩
abbrev main_call28_v0 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_c_29 : Ref sig .tc := ⟨.hbm, 204, rfl⟩
abbrev main_call29_v0 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_c_30 : Ref sig .tc := ⟨.hbm, 209, rfl⟩
abbrev main_call30_v0 : Ref sig .tc := ⟨.hbm, 210, rfl⟩
abbrev main_v95 : Ref sig .tc := ⟨.hbm, 211, rfl⟩
abbrev main_v96 : Ref sig .tc := ⟨.hbm, 212, rfl⟩
abbrev main_v97 : Ref sig .tc := ⟨.hbm, 213, rfl⟩
abbrev main_c_31 : Ref sig .tc := ⟨.hbm, 214, rfl⟩
abbrev main_call31_v0 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_c_32 : Ref sig .tc := ⟨.hbm, 219, rfl⟩
abbrev main_call32_v0 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_c_33 : Ref sig .tc := ⟨.hbm, 224, rfl⟩
abbrev main_call33_v0 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_c_34 : Ref sig .tc := ⟨.hbm, 229, rfl⟩
abbrev main_call34_v0 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_c_35 : Ref sig .tc := ⟨.hbm, 234, rfl⟩
abbrev main_call35_v0 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_c_36 : Ref sig .tc := ⟨.hbm, 239, rfl⟩
abbrev main_call36_v0 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_c_37 : Ref sig .tc := ⟨.hbm, 244, rfl⟩
abbrev main_call37_v0 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_c_38 : Ref sig .tc := ⟨.hbm, 249, rfl⟩
abbrev main_call38_v0 : Ref sig .tc := ⟨.hbm, 250, rfl⟩
abbrev main_v119 : Ref sig .tc := ⟨.hbm, 251, rfl⟩
abbrev main_v120 : Ref sig .tc := ⟨.hbm, 252, rfl⟩
abbrev main_cst_39 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_c_40 : Ref sig .tc := ⟨.hbm, 257, rfl⟩
abbrev main_call39_v0 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_c_41 : Ref sig .tc := ⟨.hbm, 262, rfl⟩
abbrev main_call40_v0 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_c_42 : Ref sig .tc := ⟨.hbm, 267, rfl⟩
abbrev main_call41_v0 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_c_43 : Ref sig .tc := ⟨.hbm, 272, rfl⟩
abbrev main_call42_v0 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_c_44 : Ref sig .tc := ⟨.hbm, 277, rfl⟩
abbrev main_call43_v0 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_c_45 : Ref sig .tc := ⟨.hbm, 282, rfl⟩
abbrev main_call44_v0 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_c_46 : Ref sig .tc := ⟨.hbm, 287, rfl⟩
abbrev main_call45_v0 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_c_47 : Ref sig .tc := ⟨.hbm, 292, rfl⟩
abbrev main_call46_v0 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_c_48 : Ref sig .tc := ⟨.hbm, 297, rfl⟩
abbrev main_call47_v0 : Ref sig .tc := ⟨.hbm, 298, rfl⟩
abbrev main_v148 : Ref sig .tc := ⟨.hbm, 299, rfl⟩
abbrev main_v149 : Ref sig .tc := ⟨.hbm, 300, rfl⟩
abbrev main_v150 : Ref sig .tc := ⟨.hbm, 301, rfl⟩
abbrev main_c_49 : Ref sig .tc := ⟨.hbm, 302, rfl⟩
abbrev main_call48_v0 : Ref sig .tc := ⟨.hbm, 303, rfl⟩
abbrev main_v151 : Ref sig .tc := ⟨.hbm, 304, rfl⟩
abbrev main_v152 : Ref sig .tc := ⟨.hbm, 305, rfl⟩
abbrev main_v153 : Ref sig .tc := ⟨.hbm, 306, rfl⟩
abbrev main_c_50 : Ref sig .tc := ⟨.hbm, 307, rfl⟩
abbrev main_call49_v0 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_c_51 : Ref sig .tc := ⟨.hbm, 312, rfl⟩
abbrev main_call50_v0 : Ref sig .tc := ⟨.hbm, 313, rfl⟩
abbrev main_v157 : Ref sig .tc := ⟨.hbm, 314, rfl⟩
abbrev main_v158 : Ref sig .tc := ⟨.hbm, 315, rfl⟩
abbrev main_v159 : Ref sig .tc := ⟨.hbm, 316, rfl⟩
abbrev main_c_52 : Ref sig .tc := ⟨.hbm, 317, rfl⟩
abbrev main_call51_v0 : Ref sig .tc := ⟨.hbm, 318, rfl⟩
abbrev main_v160 : Ref sig .tc := ⟨.hbm, 319, rfl⟩
abbrev main_v161 : Ref sig .tc := ⟨.hbm, 320, rfl⟩
abbrev main_cst_53 : Ref sig .tc := ⟨.hbm, 321, rfl⟩
abbrev main_v162 : Ref sig .tc := ⟨.hbm, 322, rfl⟩
abbrev main_v163 : Ref sig .tc := ⟨.hbm, 323, rfl⟩
abbrev main_v164_0 : Ref sig .tc := ⟨.hbm, 324, rfl⟩
abbrev main_v164_1 : Ref sig .tc := ⟨.hbm, 325, rfl⟩
abbrev main_v164_2 : Ref sig .tc := ⟨.hbm, 326, rfl⟩
abbrev main_v165 : Ref sig .tc := ⟨.hbm, 327, rfl⟩
abbrev main_v166 : Ref sig .tc := ⟨.hbm, 328, rfl⟩
abbrev main_v167 : Ref sig .tc := ⟨.hbm, 329, rfl⟩
abbrev main_v168 : Ref sig .tc := ⟨.hbm, 330, rfl⟩
abbrev main_v169 : Ref sig .tc := ⟨.hbm, 331, rfl⟩
abbrev main_v170 : Ref sig .tc := ⟨.hbm, 332, rfl⟩
abbrev main_v171 : Ref sig .tc := ⟨.hbm, 333, rfl⟩
abbrev main_v172 : Ref sig .tc := ⟨.hbm, 334, rfl⟩
abbrev main_v173 : Ref sig .tc := ⟨.hbm, 335, rfl⟩
abbrev main_v174 : Ref sig .tc := ⟨.hbm, 336, rfl⟩
abbrev main_v175 : Ref sig .tc := ⟨.hbm, 337, rfl⟩
abbrev main_v176 : Ref sig .tc := ⟨.hbm, 338, rfl⟩
abbrev main_v177 : Ref sig .tc := ⟨.hbm, 339, rfl⟩
abbrev main_v178 : Ref sig .tc := ⟨.hbm, 340, rfl⟩
abbrev main_v179 : Ref sig .tc := ⟨.hbm, 341, rfl⟩
abbrev main_v180 : Ref sig .tc := ⟨.hbm, 342, rfl⟩
abbrev main_v181 : Ref sig .tc := ⟨.hbm, 343, rfl⟩
abbrev main_v182 : Ref sig .tc := ⟨.hbm, 344, rfl⟩
abbrev main_v183 : Ref sig .tc := ⟨.hbm, 345, rfl⟩
abbrev main_v184 : Ref sig .tc := ⟨.hbm, 346, rfl⟩
abbrev main_v185 : Ref sig .tc := ⟨.hbm, 347, rfl⟩
abbrev main_v186 : Ref sig .tc := ⟨.hbm, 348, rfl⟩
abbrev main_v187 : Ref sig .tc := ⟨.hbm, 349, rfl⟩
abbrev main_v188 : Ref sig .tc := ⟨.hbm, 350, rfl⟩
abbrev main_v189 : Ref sig .tc := ⟨.hbm, 351, rfl⟩
abbrev main_v190 : Ref sig .tc := ⟨.hbm, 352, rfl⟩
abbrev main_v191 : Ref sig .tc := ⟨.hbm, 353, rfl⟩
abbrev main_v192 : Ref sig .tc := ⟨.hbm, 354, rfl⟩
abbrev main_v193 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_v199 : Ref sig .tc := ⟨.hbm, 361, rfl⟩
abbrev main_v200 : Ref sig .tc := ⟨.hbm, 362, rfl⟩
abbrev main_v201 : Ref sig .tc := ⟨.hbm, 363, rfl⟩
abbrev main_v202 : Ref sig .tc := ⟨.hbm, 364, rfl⟩
abbrev main_v203 : Ref sig .tc := ⟨.hbm, 365, rfl⟩
abbrev main_v204 : Ref sig .tc := ⟨.hbm, 366, rfl⟩
abbrev main_v205 : Ref sig .tc := ⟨.hbm, 367, rfl⟩
abbrev main_v206 : Ref sig .tc := ⟨.hbm, 368, rfl⟩
abbrev main_v207 : Ref sig .tc := ⟨.hbm, 369, rfl⟩
abbrev main_v208 : Ref sig .tc := ⟨.hbm, 370, rfl⟩
abbrev main_v209 : Ref sig .tc := ⟨.hbm, 371, rfl⟩
abbrev main_v210 : Ref sig .tc := ⟨.hbm, 372, rfl⟩
abbrev main_v211 : Ref sig .tc := ⟨.hbm, 373, rfl⟩
abbrev main_v212 : Ref sig .tc := ⟨.hbm, 374, rfl⟩
abbrev main_v213 : Ref sig .tc := ⟨.hbm, 375, rfl⟩
abbrev main_v214 : Ref sig .tc := ⟨.hbm, 376, rfl⟩
abbrev main_v215 : Ref sig .tc := ⟨.hbm, 377, rfl⟩
abbrev main_v216 : Ref sig .tc := ⟨.hbm, 378, rfl⟩
abbrev main_v217 : Ref sig .tc := ⟨.hbm, 379, rfl⟩
abbrev main_v218 : Ref sig .tc := ⟨.hbm, 380, rfl⟩
abbrev main_v219 : Ref sig .tc := ⟨.hbm, 381, rfl⟩
abbrev main_v220 : Ref sig .tc := ⟨.hbm, 382, rfl⟩
abbrev main_v221 : Ref sig .tc := ⟨.hbm, 383, rfl⟩
abbrev main_v222 : Ref sig .tc := ⟨.hbm, 384, rfl⟩
abbrev main_v223 : Ref sig .tc := ⟨.hbm, 385, rfl⟩
abbrev main_v224 : Ref sig .tc := ⟨.hbm, 386, rfl⟩
abbrev main_v225 : Ref sig .tc := ⟨.hbm, 387, rfl⟩
abbrev main_v226 : Ref sig .tc := ⟨.hbm, 388, rfl⟩
abbrev main_v227 : Ref sig .tc := ⟨.hbm, 389, rfl⟩
abbrev main_v228 : Ref sig .tc := ⟨.hbm, 390, rfl⟩
abbrev main_v229 : Ref sig .tc := ⟨.hbm, 391, rfl⟩
abbrev main_v230 : Ref sig .tc := ⟨.hbm, 392, rfl⟩
abbrev main_v231 : Ref sig .tc := ⟨.hbm, 393, rfl⟩
abbrev main_v232 : Ref sig .tc := ⟨.hbm, 394, rfl⟩
abbrev main_v233 : Ref sig .tc := ⟨.hbm, 395, rfl⟩
abbrev main_v234 : Ref sig .tc := ⟨.hbm, 396, rfl⟩
abbrev main_v235 : Ref sig .tc := ⟨.hbm, 397, rfl⟩
abbrev main_v236 : Ref sig .tc := ⟨.hbm, 398, rfl⟩
abbrev main_v237 : Ref sig .tc := ⟨.hbm, 399, rfl⟩
abbrev main_v238 : Ref sig .tc := ⟨.hbm, 400, rfl⟩
abbrev main_v239 : Ref sig .tc := ⟨.hbm, 401, rfl⟩
abbrev main_v240 : Ref sig .tc := ⟨.hbm, 402, rfl⟩
abbrev main_v241 : Ref sig .tc := ⟨.hbm, 403, rfl⟩
abbrev main_v242 : Ref sig .tc := ⟨.hbm, 404, rfl⟩
abbrev main_v243 : Ref sig .tc := ⟨.hbm, 405, rfl⟩
abbrev main_v244 : Ref sig .tc := ⟨.hbm, 406, rfl⟩
abbrev main_v245 : Ref sig .tc := ⟨.hbm, 407, rfl⟩
abbrev main_v246 : Ref sig .tc := ⟨.hbm, 408, rfl⟩
abbrev main_v247 : Ref sig .tc := ⟨.hbm, 409, rfl⟩
abbrev main_v248 : Ref sig .tc := ⟨.hbm, 410, rfl⟩
abbrev main_v249 : Ref sig .tc := ⟨.hbm, 411, rfl⟩
abbrev main_v250 : Ref sig .tc := ⟨.hbm, 412, rfl⟩
abbrev main_v251 : Ref sig .tc := ⟨.hbm, 413, rfl⟩
abbrev main_v252 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_v266 : Ref sig .tc := ⟨.hbm, 428, rfl⟩
abbrev main_v267 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_v273 : Ref sig .tc := ⟨.hbm, 435, rfl⟩
abbrev main_v274 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_v279 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_v284 : Ref sig .tc := ⟨.hbm, 446, rfl⟩
abbrev main_v285 : Ref sig .tc := ⟨.hbm, 447, rfl⟩
abbrev main_v286 : Ref sig .tc := ⟨.hbm, 448, rfl⟩
abbrev main_v287 : Ref sig .tc := ⟨.hbm, 449, rfl⟩
abbrev main_v288 : Ref sig .tc := ⟨.hbm, 450, rfl⟩
abbrev main_v289 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_v293 : Ref sig .tc := ⟨.hbm, 455, rfl⟩
abbrev main_v294 : Ref sig .tc := ⟨.hbm, 456, rfl⟩
abbrev main_v295 : Ref sig .tc := ⟨.hbm, 457, rfl⟩
abbrev main_v296 : Ref sig .tc := ⟨.hbm, 458, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1x1024 : Shape := ⟨2, ![1, 1024]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512 : Shape := ⟨2, ![1, 512]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x32x16, .f32⟩
  | 11 => ⟨S1x512, .f32⟩
  | 12 => ⟨S1x1024, .f32⟩
  | 13 => ⟨S1x1024, .f32⟩
  | 14 => ⟨S1x1024, .f32⟩
  | 15 => ⟨S1x1024, .f32⟩
  | 16 => ⟨S1x32x64, .f32⟩
  | 17 => ⟨S1x32x64, .f32⟩
  | 18 => ⟨S1x32, .f32⟩
  | 19 => ⟨S1x32x64x16, .f32⟩
  | 20 => ⟨S1x32x64x16, .f32⟩
  | 21 => ⟨S1x32x16x64, .f32⟩
  | 22 => ⟨S1x32x16x64, .f32⟩
  | 23 => ⟨S1x32x16, .f32⟩
  | 24 => ⟨S1x512, .f32⟩
  | 25 => ⟨S1x1024, .f32⟩
  | 26 => ⟨S1x1024, .f32⟩
  | 27 => ⟨S1x1024, .f32⟩
  | 28 => ⟨S1x1024, .f32⟩
  | 29 => ⟨S1x32x64, .f32⟩
  | 30 => ⟨S1x32x64, .f32⟩
  | 31 => ⟨S1x32, .f32⟩
  | 32 => ⟨S1x32x64x16, .f32⟩
  | 33 => ⟨S1x32x64x16, .f32⟩
  | 34 => ⟨S1x32x16x64, .f32⟩
  | 35 => ⟨S1x32x16x64, .f32⟩
  | 36 => ⟨S1x32x16, .f32⟩
  | 37 => ⟨S1x512, .f32⟩
  | 38 => ⟨S1x1024, .f32⟩
  | 39 => ⟨S1x1024, .f32⟩
  | 40 => ⟨S1x1024, .f32⟩
  | 41 => ⟨S1x1024, .f32⟩
  | 42 => ⟨S1x32x64, .f32⟩
  | 43 => ⟨S1x32x64, .f32⟩
  | 44 => ⟨S1x32, .f32⟩
  | 45 => ⟨S1x32x64x16, .f32⟩
  | 46 => ⟨S1x32x64x16, .f32⟩
  | 47 => ⟨S1x32x16x64, .f32⟩
  | 48 => ⟨S1x32x16x64, .f32⟩
  | 49 => ⟨S1x32x16, .f32⟩
  | 50 => ⟨S1x512, .f32⟩
  | 51 => ⟨S1x1024, .f32⟩
  | 52 => ⟨S_, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x1024, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S_, .f32⟩
  | 24 => ⟨S1x32x64, .f32⟩
  | 25 => ⟨S1x32x64, .f32⟩
  | 26 => ⟨S_, .f32⟩
  | 27 => ⟨S1x32x64, .f32⟩
  | 28 => ⟨S1x32x64, .f32⟩
  | 29 => ⟨S1x32x64, .f32⟩
  | 30 => ⟨S_, .f32⟩
  | 31 => ⟨S1x32x64, .f32⟩
  | 32 => ⟨S1x32x64, .f32⟩
  | 33 => ⟨S1x32x64, .f32⟩
  | 34 => ⟨S_, .f32⟩
  | 35 => ⟨S1x32x64, .f32⟩
  | 36 => ⟨S1x32x64, .f32⟩
  | 37 => ⟨S1x32x64, .f32⟩
  | 38 => ⟨S_, .f32⟩
  | 39 => ⟨S1x32x64, .f32⟩
  | 40 => ⟨S1x32x64, .f32⟩
  | 41 => ⟨S_, .f32⟩
  | 42 => ⟨S1x32x64, .f32⟩
  | 43 => ⟨S1x32x64, .f32⟩
  | 44 => ⟨S1x32x64, .f32⟩
  | 45 => ⟨S_, .f32⟩
  | 46 => ⟨S1x32x64, .f32⟩
  | 47 => ⟨S1x32x64, .f32⟩
  | 48 => ⟨S1x32x64, .f32⟩
  | 49 => ⟨S_, .f32⟩
  | 50 => ⟨S1x32x64, .f32⟩
  | 51 => ⟨S1x32x64, .f32⟩
  | 52 => ⟨S1x32x64, .f32⟩
  | 53 => ⟨S_, .f32⟩
  | 54 => ⟨S1x32x64, .f32⟩
  | 55 => ⟨S1x32x64, .f32⟩
  | 56 => ⟨S_, .f32⟩
  | 57 => ⟨S1x32x64, .f32⟩
  | 58 => ⟨S1x32x64, .f32⟩
  | 59 => ⟨S_, .f32⟩
  | 60 => ⟨S1x32x64, .f32⟩
  | 61 => ⟨S1x32x64, .f32⟩
  | 62 => ⟨S1x32x64, .f32⟩
  | 63 => ⟨S_, .f32⟩
  | 64 => ⟨S1x32x64, .f32⟩
  | 65 => ⟨S1x32x64, .f32⟩
  | 66 => ⟨S1x32x64, .f32⟩
  | 67 => ⟨S_, .f32⟩
  | 68 => ⟨S1x32x64, .f32⟩
  | 69 => ⟨S1x32x64, .f32⟩
  | 70 => ⟨S1x32x64, .f32⟩
  | 71 => ⟨S_, .f32⟩
  | 72 => ⟨S1x32x64, .f32⟩
  | 73 => ⟨S1x32x64, .f32⟩
  | 74 => ⟨S_, .f32⟩
  | 75 => ⟨S1x32x64, .f32⟩
  | 76 => ⟨S1x32x64, .f32⟩
  | 77 => ⟨S1x32x64, .f32⟩
  | 78 => ⟨S_, .f32⟩
  | 79 => ⟨S1x32x64, .f32⟩
  | 80 => ⟨S1x32x64, .f32⟩
  | 81 => ⟨S1x32x64, .f32⟩
  | 82 => ⟨S_, .f32⟩
  | 83 => ⟨S1x32x64, .f32⟩
  | 84 => ⟨S1x32x64, .f32⟩
  | 85 => ⟨S1x32x64, .f32⟩
  | 86 => ⟨S_, .f32⟩
  | 87 => ⟨S1x32x64, .f32⟩
  | 88 => ⟨S1x32x64, .f32⟩
  | 89 => ⟨S_, .f32⟩
  | 90 => ⟨S1x32, .f32⟩
  | 91 => ⟨S1x32, .f32⟩
  | 92 => ⟨S_, .f32⟩
  | 93 => ⟨S1x32, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S_, .f32⟩
  | 108 => ⟨S1x32, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S_, .f32⟩
  | 123 => ⟨S1x32x64x16, .f32⟩
  | 124 => ⟨S1x32x64x16, .f32⟩
  | 125 => ⟨S_, .f32⟩
  | 126 => ⟨S1x32x64x16, .f32⟩
  | 127 => ⟨S1x32x64x16, .f32⟩
  | _ => ⟨S1x1024, .f32⟩

abbrev hbmTy0_2 (i : Nat) : BufTy := match i % 128 with
  | 0 => ⟨S1x32x64x16, .f32⟩
  | 1 => ⟨S_, .f32⟩
  | 2 => ⟨S1x32x64x16, .f32⟩
  | 3 => ⟨S1x32x64x16, .f32⟩
  | 4 => ⟨S1x32x64x16, .f32⟩
  | 5 => ⟨S_, .f32⟩
  | 6 => ⟨S1x32x64x16, .f32⟩
  | 7 => ⟨S1x32x64x16, .f32⟩
  | 8 => ⟨S1x32x64x16, .f32⟩
  | 9 => ⟨S_, .f32⟩
  | 10 => ⟨S1x32x64x16, .f32⟩
  | 11 => ⟨S1x32x64x16, .f32⟩
  | 12 => ⟨S_, .f32⟩
  | 13 => ⟨S1x32x64x16, .f32⟩
  | 14 => ⟨S1x32x64x16, .f32⟩
  | 15 => ⟨S1x32x64x16, .f32⟩
  | 16 => ⟨S_, .f32⟩
  | 17 => ⟨S1x32x64x16, .f32⟩
  | 18 => ⟨S1x32x64x16, .f32⟩
  | 19 => ⟨S1x32x64x16, .f32⟩
  | 20 => ⟨S_, .f32⟩
  | 21 => ⟨S1x32x64x16, .f32⟩
  | 22 => ⟨S1x32x64x16, .f32⟩
  | 23 => ⟨S1x32x64x16, .f32⟩
  | 24 => ⟨S_, .f32⟩
  | 25 => ⟨S1x32x64x16, .f32⟩
  | 26 => ⟨S1x32x64x16, .f32⟩
  | 27 => ⟨S_, .f32⟩
  | 28 => ⟨S1x32x64x16, .f32⟩
  | 29 => ⟨S1x32x64x16, .f32⟩
  | 30 => ⟨S_, .f32⟩
  | 31 => ⟨S1x32x64x16, .f32⟩
  | 32 => ⟨S1x32x64x16, .f32⟩
  | 33 => ⟨S1x32x64x16, .f32⟩
  | 34 => ⟨S_, .f32⟩
  | 35 => ⟨S1x32x64x16, .f32⟩
  | 36 => ⟨S1x32x64x16, .f32⟩
  | 37 => ⟨S1x32x64x16, .f32⟩
  | 38 => ⟨S_, .f32⟩
  | 39 => ⟨S1x32x64x16, .f32⟩
  | 40 => ⟨S1x32x64x16, .f32⟩
  | 41 => ⟨S1x32x64x16, .f32⟩
  | 42 => ⟨S_, .f32⟩
  | 43 => ⟨S1x32x64x16, .f32⟩
  | 44 => ⟨S1x32x64x16, .f32⟩
  | 45 => ⟨S_, .f32⟩
  | 46 => ⟨S1x32x64x16, .f32⟩
  | 47 => ⟨S1x32x64x16, .f32⟩
  | 48 => ⟨S1x32x64x16, .f32⟩
  | 49 => ⟨S_, .f32⟩
  | 50 => ⟨S1x32x64x16, .f32⟩
  | 51 => ⟨S1x32x64x16, .f32⟩
  | 52 => ⟨S1x32x64x16, .f32⟩
  | 53 => ⟨S_, .f32⟩
  | 54 => ⟨S1x32x64x16, .f32⟩
  | 55 => ⟨S1x32x64x16, .f32⟩
  | 56 => ⟨S1x32x64x16, .f32⟩
  | 57 => ⟨S_, .f32⟩
  | 58 => ⟨S1x32x64x16, .f32⟩
  | 59 => ⟨S1x32x64x16, .f32⟩
  | 60 => ⟨S_, .f32⟩
  | 61 => ⟨S1x32x16x64, .f32⟩
  | 62 => ⟨S1x32x16x64, .f32⟩
  | 63 => ⟨S_, .f32⟩
  | 64 => ⟨S1x32x16x64, .f32⟩
  | 65 => ⟨S1x32x16x64, .f32⟩
  | 66 => ⟨S1x32x16x64, .f32⟩
  | 67 => ⟨S_, .f32⟩
  | 68 => ⟨S1x32x16x64, .f32⟩
  | 69 => ⟨S1x32x16x64, .f32⟩
  | 70 => ⟨S1x32x16x64, .f32⟩
  | 71 => ⟨S_, .f32⟩
  | 72 => ⟨S1x32x16x64, .f32⟩
  | 73 => ⟨S1x32x16x64, .f32⟩
  | 74 => ⟨S1x32x16x64, .f32⟩
  | 75 => ⟨S_, .f32⟩
  | 76 => ⟨S1x32x16x64, .f32⟩
  | 77 => ⟨S1x32x16x64, .f32⟩
  | 78 => ⟨S_, .f32⟩
  | 79 => ⟨S1x32x16x64, .f32⟩
  | 80 => ⟨S1x32x16x64, .f32⟩
  | 81 => ⟨S1x32x16x64, .f32⟩
  | 82 => ⟨S_, .f32⟩
  | 83 => ⟨S1x32x16x64, .f32⟩
  | 84 => ⟨S1x32x16x64, .f32⟩
  | 85 => ⟨S1x32x16x64, .f32⟩
  | 86 => ⟨S_, .f32⟩
  | 87 => ⟨S1x32x16x64, .f32⟩
  | 88 => ⟨S1x32x16x64, .f32⟩
  | 89 => ⟨S1x32x16x64, .f32⟩
  | 90 => ⟨S_, .f32⟩
  | 91 => ⟨S1x32x16x64, .f32⟩
  | 92 => ⟨S1x32x16x64, .f32⟩
  | 93 => ⟨S_, .f32⟩
  | 94 => ⟨S1x32x16x64, .f32⟩
  | 95 => ⟨S1x32x16x64, .f32⟩
  | 96 => ⟨S_, .f32⟩
  | 97 => ⟨S1x32x16x64, .f32⟩
  | 98 => ⟨S1x32x16x64, .f32⟩
  | 99 => ⟨S1x32x16x64, .f32⟩
  | 100 => ⟨S_, .f32⟩
  | 101 => ⟨S1x32x16x64, .f32⟩
  | 102 => ⟨S1x32x16x64, .f32⟩
  | 103 => ⟨S1x32x16x64, .f32⟩
  | 104 => ⟨S_, .f32⟩
  | 105 => ⟨S1x32x16x64, .f32⟩
  | 106 => ⟨S1x32x16x64, .f32⟩
  | 107 => ⟨S1x32x16x64, .f32⟩
  | 108 => ⟨S_, .f32⟩
  | 109 => ⟨S1x32x16x64, .f32⟩
  | 110 => ⟨S1x32x16x64, .f32⟩
  | 111 => ⟨S_, .f32⟩
  | 112 => ⟨S1x32x16x64, .f32⟩
  | 113 => ⟨S1x32x16x64, .f32⟩
  | 114 => ⟨S1x32x16x64, .f32⟩
  | 115 => ⟨S_, .f32⟩
  | 116 => ⟨S1x32x16x64, .f32⟩
  | 117 => ⟨S1x32x16x64, .f32⟩
  | 118 => ⟨S1x32x16x64, .f32⟩
  | 119 => ⟨S_, .f32⟩
  | 120 => ⟨S1x32x16x64, .f32⟩
  | 121 => ⟨S1x32x16x64, .f32⟩
  | 122 => ⟨S1x32x16x64, .f32⟩
  | 123 => ⟨S_, .f32⟩
  | 124 => ⟨S1x32x16x64, .f32⟩
  | 125 => ⟨S1x32x16x64, .f32⟩
  | 126 => ⟨S_, .f32⟩
  | 127 => ⟨S1x32x16, .f32⟩
  | _ => ⟨S1x1024, .f32⟩

abbrev hbmTy0_3 (i : Nat) : BufTy := match i % 128 with
  | 0 => ⟨S1x32x16, .f32⟩
  | 1 => ⟨S_, .f32⟩
  | 2 => ⟨S1x32x16, .f32⟩
  | 3 => ⟨S1x32x16, .f32⟩
  | 4 => ⟨S1x32x16, .f32⟩
  | 5 => ⟨S_, .f32⟩
  | 6 => ⟨S1x32x16, .f32⟩
  | 7 => ⟨S1x32x16, .f32⟩
  | 8 => ⟨S1x32x16, .f32⟩
  | 9 => ⟨S_, .f32⟩
  | 10 => ⟨S1x32x16, .f32⟩
  | 11 => ⟨S1x32x16, .f32⟩
  | 12 => ⟨S1x32x16, .f32⟩
  | 13 => ⟨S_, .f32⟩
  | 14 => ⟨S1x32x16, .f32⟩
  | 15 => ⟨S1x32x16, .f32⟩
  | 16 => ⟨S_, .f32⟩
  | 17 => ⟨S1x32x16, .f32⟩
  | 18 => ⟨S1x32x16, .f32⟩
  | 19 => ⟨S1x32x16, .f32⟩
  | 20 => ⟨S_, .f32⟩
  | 21 => ⟨S1x32x16, .f32⟩
  | 22 => ⟨S1x32x16, .f32⟩
  | 23 => ⟨S1x32x16, .f32⟩
  | 24 => ⟨S_, .f32⟩
  | 25 => ⟨S1x32x16, .f32⟩
  | 26 => ⟨S1x32x16, .f32⟩
  | 27 => ⟨S1x32x16, .f32⟩
  | 28 => ⟨S_, .f32⟩
  | 29 => ⟨S1x32x16, .f32⟩
  | 30 => ⟨S1x32x16, .f32⟩
  | 31 => ⟨S_, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Proof.RefFrame.lean ====
/- The frame of the reference: it is a list of host operations, which end (`Cert.ReferenceIdeal.Value.run`), write none
   of the arguments, and declare no semaphore. -/
module

public import proofs.«01_k».proof.Defs
public import proofs.«01_k».proof.Proof.Gen.ReferenceIdeal.Run
public import Idealize.ShloMosaic.Lib.Quiescent

@[expose] public section

noncomputable section

namespace Cert.Tail

open Idealize.ShloMosaic Idealize.SL.Sem Cert.ReferenceIdeal Cert.ReferenceIdeal.Gen

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2.2.2.2.2.2.2.2.2, sem_eq_zero_of_no_sems (by decide) r.2⟩)
    (Cert.ReferenceIdeal.Value.run (F := Ideal) m g)

end Cert.Tail

end
-- ==== Proof.Consts.lean ====
/- The float constants that the two programs spell, and the few facts about extended reals that the proof needs: a real
   factor distributes over a sum when it is not negative, and may be taken twice. -/
module

public import Idealize.ShloMosaic.PureOps.Ideal

@[expose] public section

noncomputable section

namespace Cert.Tail

open Idealize.ShloMosaic

/-- The real number that the normalisation adds to a mean square: the `f32` nearest to `1e-6`. -/
def eps : ℝ := 8796093 / 8796093022208

/-- The reciprocals of 1024 and of 2048. -/
def k1024 : EReal := ((1 / 1024 : ℝ) : EReal)
def k2048 : EReal := ((1 / 2048 : ℝ) : EReal)

theorem eps_pos : 0 < eps := by norm_num [eps]

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = k1024 := by
  simp [k1024, Ideal.ofBits, Ideal.ieee, -EReal.coe_mul]; norm_num

theorem ofBits_inv_2048 : Ideal.ofBits .f32 0x3A000000#32 = k2048 := by
  simp [k2048, Ideal.ofBits, Ideal.ieee, -EReal.coe_mul]; norm_num

theorem ofBits_eps : Ideal.ofBits .f32 0x358637BD#32 = ((eps : ℝ) : EReal) := by
  simp [Ideal.ofBits, Ideal.ieee, eps, -EReal.coe_mul]; norm_num

theorem div_1024 (x : EReal) : Ideal.div x ((1024 : ℝ) : EReal) = x * k1024 := Ideal.div_coe (by norm_num) x

/-- A factor that is a real number and not negative distributes over a sum. -/
theorem mul_add_real {k : ℝ} (hk : 0 ≤ k) (x y : EReal) : (k : EReal) * (x + y) = k * x + k * y :=
  EReal.left_distrib_of_nonneg_of_ne_top (by exact_mod_cast hk) (EReal.coe_ne_top k) x y

theorem mul_sum_real {ι : Type} {k : ℝ} (hk : 0 ≤ k) (s : Finset ι) (f : ι → EReal) :
    (k : EReal) * ∑ i ∈ s, f i = ∑ i ∈ s, (k : EReal) * f i := by
  classical
  induction s using Finset.induction_on with
  | empty => simp
  | insert a s ha ih => rw [Finset.sum_insert ha, Finset.sum_insert ha, mul_add_real hk, ih]

theorem square_nonneg (x : EReal) : 0 ≤ x * x := by
  induction x using EReal.rec with
  | bot => rw [EReal.bot_mul_bot]; exact le_top
  | coe x => rw [← EReal.coe_mul]; exact_mod_cast mul_self_nonneg x
  | top => rw [EReal.top_mul_top]; exact le_top

/-- Twice a negative multiple of an extended real. -/
theorem mul_neg_twice (x : EReal) {k : ℝ} (hk : k < 0) : x * (k : EReal) + x * (k : EReal) = x * ((k + k : ℝ) : EReal) := by
  induction x using EReal.rec with
  | bot => rw [EReal.bot_mul_coe_of_neg hk, EReal.bot_mul_coe_of_neg (by linarith)]; rfl
  | coe x => rw [← EReal.coe_mul, ← EReal.coe_mul, ← EReal.coe_add, mul_add]
  | top => rw [EReal.top_mul_coe_of_neg hk, EReal.top_mul_coe_of_neg (by linarith)]; rfl

end Cert.Tail

end
-- ==== Proof.Spec.lean ====
/- The gradients of the last part of the layer, written over the extended real numbers, row by row.
   A row is a position of the sequence; `Row` is what the two branches and the residual stream hold there, `Wts` the
   weights. `out` is the output projection of the gated sum of the two branches' projections, `on` its root-mean-square
   normalisation, `e` the difference from the target; the rest is the gradient of `½ · mean e²` summed over the rows. -/
module

public import proofs.«01_k».proof.Proof.Consts
public import Mathlib.Analysis.SpecialFunctions.Trigonometric.DerivHyp

@[expose] public section

noncomputable section

namespace Cert.Tail
open Idealize.ShloMosaic

/-- One row: the convolution branch `a`, the state-space branch `b`, the two gates before their sigmoid, the residual
    stream `x` and the target `t`. -/
structure Row where
  a : Fin 1024 → EReal
  b : Fin 512 → EReal
  gc : Fin 1024 → EReal
  gs : Fin 1024 → EReal
  x : Fin 1024 → EReal
  t : Fin 1024 → EReal

/-- The weights: the two branches' output projections (the second as four shards of 256 columns), the layer's output
    projection, and the normalisation's gain. -/
structure Wts where
  co : Fin 1024 → Fin 1024 → EReal
  so : Fin 4 → Fin 512 → Fin 256 → EReal
  out : Fin 1024 → Fin 1024 → EReal
  g : Fin 1024 → EReal

/-- The shard that column `j` of the second projection lies in. -/
def shard (j : Fin 1024) : Fin 4 := ⟨j.val / 256, by have := j.isLt; omega⟩
/-- … and its column there. -/
def lane (j : Fin 1024) : Fin 256 := ⟨j.val % 256, Nat.mod_lt _ (by norm_num)⟩
/-- Column `l` of shard `s`. -/
def col (s : Fin 4) (l : Fin 256) : Fin 1024 := ⟨s.val * 256 + l.val, by have := s.isLt; have := l.isLt; omega⟩

/-- The logistic function. -/
def gate (v : EReal) : EReal := Ideal.div 1 (1 + Ideal.exp (-v))

variable (r : Row) (w : Wts)

def Row.co (j : Fin 1024) : EReal := ∑ k, r.a k * w.co k j
def Row.so (j : Fin 1024) : EReal := ∑ k, r.b k * w.so (shard j) k (lane j)
def Row.mrg (j : Fin 1024) : EReal := gate (r.gc j) * r.co w j + gate (r.gs j) * r.so w j
def Row.out (j : Fin 1024) : EReal := ∑ k, r.mrg w k * w.out k j
/-- The mean square of `out`, and `eps`. -/
def Row.ms : EReal := (∑ j, r.out w j * r.out w j) * k1024 + (eps : EReal)
def Row.r2 : EReal := Ideal.rsqrt (r.ms w)
def Row.on (j : Fin 1024) : EReal := r.out w j * r.r2 w
def Row.e (j : Fin 1024) : EReal := r.x j + r.on w j * w.g j - r.t j
def Row.dy (j : Fin 1024) : EReal := r.e w j * k1024
def Row.dn (j : Fin 1024) : EReal := r.dy w j * w.g j
def Row.mu : EReal := (∑ j, r.dn w j * r.on w j) * k1024
def Row.dout (j : Fin 1024) : EReal := r.r2 w * (r.dn w j - r.on w j * r.mu w)
def Row.dm (d : Fin 1024) : EReal := ∑ j, r.dout w j * w.out d j
def Row.dgc (j : Fin 1024) : EReal := r.dm w j * r.co w j * gate (r.gc j) * (1 - gate (r.gc j))
def Row.dgs (j : Fin 1024) : EReal := r.dm w j * r.so w j * gate (r.gs j) * (1 - gate (r.gs j))
def Row.dco (j : Fin 1024) : EReal := r.dm w j * gate (r.gc j)
def Row.dso (j : Fin 1024) : EReal := r.dm w j * gate (r.gs j)
def Row.da (k : Fin 1024) : EReal := ∑ j, r.dco w j * w.co k j
def Row.db (k : Fin 512) : EReal := ∑ s, ∑ l, r.dso w (col s l) * w.so s k l

/-- The logistic function as the kernel has it, on a real number. -/
theorem tanh_gate_real (v : ℝ) : 1 / 2 * Real.tanh (1 / 2 * v) + 1 / 2 = 1 / (1 + Real.exp (-v)) := by
  have h : Real.exp v = Real.exp (1 / 2 * v) * Real.exp (1 / 2 * v) := by rw [← Real.exp_add]; ring_nf
  have hp := Real.exp_pos (1 / 2 * v)
  rw [Real.tanh_eq_sinh_div_cosh, Real.sinh_eq, Real.cosh_eq, Real.exp_neg, Real.exp_neg, h]
  field_simp
  ring

/-- The logistic function as the kernel has it. -/
theorem tanh_gate (v : EReal) : ((1 / 2 : ℝ) : EReal) * Ideal.tanh (((1 / 2 : ℝ) : EReal) * v) + ((1 / 2 : ℝ) : EReal) = gate v := by
  have hh : (0 : ℝ) < 1 / 2 := by norm_num
  induction v using EReal.rec with
  | bot =>
    rw [EReal.coe_mul_bot_of_pos hh, Ideal.tanh_bot, gate, EReal.neg_bot, Ideal.exp_top,
      EReal.add_top_of_ne_bot (by rw [← EReal.coe_one]; exact EReal.coe_ne_bot 1), Ideal.div, if_neg (by simp), EReal.inv_top, mul_zero, ← EReal.coe_one, ← EReal.coe_neg, ← EReal.coe_mul,
      ← EReal.coe_add]
    norm_num
  | coe v =>
    have h : (1 + Real.exp (-v)) ≠ 0 := by have := Real.exp_pos (-v); positivity
    rw [← EReal.coe_mul, Ideal.tanh_coe, ← EReal.coe_mul, ← EReal.coe_add, tanh_gate_real, gate, ← EReal.coe_neg, Ideal.exp_coe,
      ← EReal.coe_one, ← EReal.coe_add, Ideal.div_coe h, ← EReal.coe_mul, one_mul]
  | top =>
    rw [EReal.coe_mul_top_of_pos hh, Ideal.tanh_top, gate, EReal.neg_top, Ideal.exp_bot, add_zero, ← EReal.coe_one,
      Ideal.div_coe one_ne_zero, ← EReal.coe_mul, ← EReal.coe_mul, ← EReal.coe_add]
    norm_num

/-- The mean square and `eps` are positive: infinite, or a positive real number. -/
theorem ms_cases : r.ms w = ⊤ ∨ ∃ x : ℝ, 0 < x ∧ r.ms w = x := by
  have h0 : (0 : EReal) ≤ (∑ j, r.out w j * r.out w j) * k1024 :=
    mul_nonneg (Finset.sum_nonneg fun j _ => square_nonneg _) (by unfold k1024; exact_mod_cast (by norm_num : (0 : ℝ) ≤ 1 / 1024))
  unfold Row.ms
  generalize (∑ j, r.out w j * r.out w j) * k1024 = q at h0
  induction q using EReal.rec with
  | bot => exact absurd h0 (by simp)
  | coe q =>
    have hq : 0 ≤ q := by exact_mod_cast h0
    exact .inr ⟨q + eps, by have := eps_pos; linarith, (EReal.coe_add _ _).symm⟩
  | top => exact .inl (EReal.top_add_coe _)

/-- The gradient of the normalisation as differentiating it line by line gives it: once through its value and twice through
    the root of the mean square. -/
theorem dout_lines (j : Fin 1024) :
    r.dn w j * r.r2 w
      + r.out w j * ((∑ j, r.out w j * r.dn w j) * (((-(1 / 2) : ℝ) : EReal) * Ideal.div (r.r2 w) (r.ms w)) * k1024)
      + (∑ j, r.out w j * r.dn w j) * (((-(1 / 2) : ℝ) : EReal) * Ideal.div (r.r2 w) (r.ms w)) * k1024 * r.out w j
    = r.dout w j := by
  unfold Row.dout Row.mu Row.on
  rcases ms_cases r w with h | ⟨x, hx, h⟩
  · have h2 : r.r2 w = 0 := by rw [Row.r2, h]; rfl
    have hd : Ideal.div 0 (⊤ : EReal) = 0 := by rw [Ideal.div, if_neg (by simp), zero_mul]
    rw [h, h2, hd]; simp
  · obtain ⟨q, hq, h2⟩ : ∃ q : ℝ, 0 < q ∧ r.r2 w = q :=
      ⟨(Real.sqrt x)⁻¹, inv_pos.mpr (Real.sqrt_pos.mpr hx), by
        rw [Row.r2, h, Ideal.rsqrt_coe, if_neg (not_lt.mpr hx.le), if_neg hx.ne']⟩
    have hqq : 1 / x = q * q := by
      have : (q : EReal) = (((Real.sqrt x)⁻¹ : ℝ) : EReal) := by
        rw [← h2, Row.r2, h, Ideal.rsqrt_coe, if_neg (not_lt.mpr hx.le), if_neg hx.ne']
      rw [EReal.coe_injective this, ← mul_inv, Real.mul_self_sqrt hx.le, one_div]
    rw [h, h2, Ideal.div_coe hx.ne', hqq]
    have hs : ∑ j, r.dn w j * (r.out w j * (q : EReal)) = (q : EReal) * ∑ j, r.out w j * r.dn w j := by
      rw [mul_sum_real hq.le]
      exact Finset.sum_congr rfl fun j _ => by rw [← mul_assoc, mul_comm, mul_comm (r.dn w j)]
    rw [hs, sub_eq_add_neg, mul_add_real hq.le, mul_comm (q : EReal) (r.dn w j), add_assoc]
    congr 1
    generalize (∑ j, r.out w j * r.dn w j) = S
    generalize r.out w j = o
    have hc : -(1 / 2) * (q * (q * q)) * (1 / 1024) < 0 := by
      have : 0 < q * (q * q) := by positivity
      nlinarith
    have e1 : o * (S * (((-(1 / 2) : ℝ) : EReal) * ((q : EReal) * ((q * q : ℝ) : EReal))) * k1024)
        = o * S * ((-(1 / 2) * (q * (q * q)) * (1 / 1024) : ℝ) : EReal) := by
      unfold k1024; push_cast; simp only [mul_assoc]
    have e2 : S * (((-(1 / 2) : ℝ) : EReal) * ((q : EReal) * ((q * q : ℝ) : EReal))) * k1024 * o
        = o * S * ((-(1 / 2) * (q * (q * q)) * (1 / 1024) : ℝ) : EReal) := by
      rw [← e1, mul_comm]
    have e3 : (q : EReal) * -(o * (q : EReal) * ((q : EReal) * S * k1024))
        = o * S * ((-(1 / 2) * (q * (q * q)) * (1 / 1024) + -(1 / 2) * (q * (q * q)) * (1 / 1024) : ℝ) : EReal) := by
      rw [show (-(1 / 2) * (q * (q * q)) * (1 / 1024) + -(1 / 2) * (q * (q * q)) * (1 / 1024) : ℝ)
        = -(q * (q * q) * (1 / 1024)) by ring, EReal.coe_neg, mul_neg, mul_neg]
      unfold k1024; push_cast; congr 1; ac_rfl
    rw [e1, e2, e3]
    exact mul_neg_twice _ hc

/-- All the inputs: 8192 rows, the gates being the last two blocks of 1024 columns of the projection. -/
structure Data where
  a : Fin 8192 → Fin 1024 → EReal
  b : Fin 8192 → Fin 512 → EReal
  proj : Fin 8192 → Fin 6144 → EReal
  x : Fin 8192 → Fin 1024 → EReal
  t : Fin 8192 → Fin 1024 → EReal
  co : Fin 1024 → Fin 1024 → EReal
  so : Fin 4 → Fin 512 → Fin 256 → EReal
  out : Fin 1024 → Fin 1024 → EReal
  g : Fin 1024 → EReal

def Data.wts (d : Data) : Wts := ⟨d.co, d.so, d.out, d.g⟩

def Data.row (d : Data) (i : Fin 8192) : Row where
  a := d.a i
  b := d.b i
  gc j := d.proj i ⟨4096 + j.val, by have := j.isLt; omega⟩
  gs j := d.proj i ⟨5120 + j.val, by have := j.isLt; omega⟩
  x := d.x i
  t := d.t i

end Cert.Tail

end
-- ==== Proof.Pay.lean ====
/- What the kernel's steps compute: each is the array of the same name. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Tail

open Idealize.ShloMosaic Idealize.ShloMosaic.TcCoe Idealize.SL.Sem
open Cert.KernelIdeal Cert.KernelIdeal.Gen

/-- A matrix as an array. -/
def up2 {m n : ℕ} (f : Fin m → Fin n → EReal) : (⟨2, ![m, n]⟩ : Shape).Idx → EReal := fun i => (f (i 0) (i 1))
/-- … and of three axes. -/
def up3 {l m n : ℕ} (f : Fin l → Fin m → Fin n → EReal) : (⟨3, ![l, m, n]⟩ : Shape).Idx → EReal :=
  fun i => (f (i 0) (i 1) (i 2))

theorem up2_ix {m n : ℕ} (f : Fin m → Fin n → EReal) (a : Fin m) (b : Fin n) : up2 f (ix2 a b) = (f a b) := rfl
theorem up3_ix {l m n : ℕ} (f : Fin l → Fin m → Fin n → EReal) (a : Fin l) (b : Fin m) (c : Fin n) :
    up3 f (ix3 a b c) = (f a b c) := rfl

/-- Row `p` of the upper half of a block. -/
def lo (p : Fin 256) : Fin 512 := ⟨p.val, by have := p.isLt; omega⟩
/-- Row `p` of the lower half. -/
def hi (p : Fin 256) : Fin 512 := ⟨256 + p.val, by have := p.isLt; omega⟩

variable (R : Fin 512 → Row) (w : Wts)

theorem pay10 : k0_pay10 (F := Ideal) (up2 fun p => (R p).a) (up2 w.co) = up2 fun p => (R p).co w := by
  funext y; idx_vars y
  pointwise [k0_pay10]
  simp only [up2_ix]; rfl

theorem shard_lane (y : Fin 1024) (s : Fin 4) (l : Fin 256) (h : y.val = s.val * 256 + l.val) :
    shard y = s ∧ lane y = l := by
  have hs : shard y = s := Fin.ext (by have := l.isLt; simp only [shard]; omega)
  have hl : lane y = l := Fin.ext (by have := l.isLt; simp only [lane]; omega)
  exact ⟨hs, hl⟩

theorem pay11 : k0_pay11 (F := Ideal) (up2 fun p => (R p).b) (up3 fun (_ : Fin 1) => w.so 0) (up3 fun (_ : Fin 1) => w.so 1)
    (up3 fun (_ : Fin 1) => w.so 2) (up3 fun (_ : Fin 1) => w.so 3) = up2 fun p => (R p).so w := by
  funext y; idx_vars y
  pointwise [k0_pay11]
  have hl := y1.isLt
  simp only [up2_ix, up3_ix, Row.so]
  by_cases h0 : y1.val < 256
  · rw [dif_pos h0]; obtain ⟨hs, hl⟩ := shard_lane y1 0 ⟨y1.val, h0⟩ (by simp); rw [hs, hl]
  rw [dif_neg h0]
  by_cases h1 : y1.val - 256 < 256
  · rw [dif_pos h1]; obtain ⟨hs, hl⟩ := shard_lane y1 1 ⟨y1.val - 256, h1⟩ (by show y1.val = 1 * 256 + (y1.val - 256); omega)
    rw [hs, hl]
  rw [dif_neg h1]
  by_cases h2 : y1.val - 256 - 256 < 256
  · rw [dif_pos h2]
    obtain ⟨hs, hl⟩ := shard_lane y1 2 ⟨y1.val - 256 - 256, h2⟩ (by show y1.val = 2 * 256 + (y1.val - 256 - 256); omega)
    rw [hs, hl]
  rw [dif_neg h2]
  obtain ⟨hs, hl⟩ := shard_lane y1 3 ⟨y1.val - 256 - 256 - 256, by omega⟩
    (by show y1.val = 3 * 256 + (y1.val - 256 - 256 - 256); omega)
  rw [hs, hl]

theorem pay14 : k0_pay14 (k0_pay12 (F := Ideal) (up2 fun p => (R p).gc)) k0_pay13 = up2 fun p j => gate ((R p).gc j) := by
  funext y; idx_vars y
  pointwise [k0_pay14, k0_pay12, k0_pay13]
  simp only [up2_ix, ofBits_half]; exact tanh_gate _

theorem pay15 : k0_pay15 (F := Ideal) (up2 fun p => (R p).gs) = up2 fun p j => gate ((R p).gs j) := by
  funext y; idx_vars y
  pointwise [k0_pay15]
  simp only [up2_ix, ofBits_half]; exact tanh_gate _

theorem pay16 : k0_pay16 (F := Ideal) (up2 fun p => (R p).co w) (up2 fun p => (R p).so w) (k0_pay12 (up2 fun p => (R p).gc))
    k0_pay13 (up2 fun p => (R p).gs) = up2 fun p => (R p).mrg w := by
  funext y; idx_vars y
  unfold k0_pay16
  rw [pay14, pay15]
  pointwise []
  simp only [up2_ix]; rfl

theorem pay17 : k0_pay17 (F := Ideal) (up2 fun p => (R p).co w) (up2 fun p => (R p).so w) (k0_pay12 (up2 fun p => (R p).gc))
    k0_pay13 (up2 fun p => (R p).gs) (up2 w.out) = up2 fun p => (R p).out w := by
  funext y; idx_vars y
  unfold k0_pay17
  rw [pay16]
  pointwise []
  simp only [up2_ix]; rfl

theorem pay18 : k0_pay18 (F := Ideal) (up2 fun p => (R p).co w) (up2 fun p => (R p).so w) (k0_pay12 (up2 fun p => (R p).gc))
    k0_pay13 (up2 fun p => (R p).gs) (up2 w.out) = up2 fun p => (R (lo p)).out w := by
  funext y; idx_vars y
  unfold k0_pay18
  rw [pay17]
  pointwise []
  simp only [up2_ix]; rfl

theorem pay19 : k0_pay19 (F := Ideal) (up2 fun p => (R p).co w) (up2 fun p => (R p).so w) (k0_pay12 (up2 fun p => (R p).gc))
    k0_pay13 (up2 fun p => (R p).gs) (up2 w.out) =
    up2 fun p (_ : Fin 1) => (R (lo p)).r2 w := by
  funext y; idx_vars y
  unfold k0_pay19
  rw [pay18]
  pointwise []
  simp only [up2_ix, ofBits_1024, ofBits_eps, div_1024]
  rfl

theorem pay20 : k0_pay20 (F := Ideal) (up2 fun p => (R p).co w) (up2 fun p => (R p).so w) (k0_pay12 (up2 fun p => (R p).gc))
    k0_pay13 (up2 fun p => (R p).gs) (up2 w.out) =
    up2 fun p => (R (lo p)).on w := by
  funext y; idx_vars y
  unfold k0_pay20
  rw [pay18, pay19]
  pointwise []
  simp only [up2_ix]; rfl

theorem pay21 : k0_pay21 (F := Ideal) (up2 fun p => (R p).co w) (up2 fun p => (R p).so w) (k0_pay12 (up2 fun p => (R p).gc))
    k0_pay13 (up2 fun p => (R p).gs) (up2 w.out) (up2 fun (_ : Fin 1) => w.g)
    (up2 fun p => (R (lo p)).x) (up2 fun p => (R (lo p)).t) =
    up2 fun p => (R (lo p)).e w := by
  funext y; idx_vars y
  unfold k0_pay21
  rw [pay20]
  pointwise []
  simp only [up2_ix]; rfl

theorem pay23 : k0_pay23 (F := Ideal) (up2 fun p => (R p).co w) (up2 fun p => (R p).so w) (k0_pay12 (up2 fun p => (R p).gc))
    k0_pay13 (up2 fun p => (R p).gs) (up2 w.out) (up2 fun (_ : Fin 1) => w.g)
    (up2 fun p => (R (lo p)).x) (up2 fun p => (R (lo p)).t) =
    up3 fun _ _ _ => ∑ p, ∑ j, (R (lo p)).e w j * (R (lo p)).e w j := by
  funext y; idx_vars y
  unfold k0_pay23
  rw [pay21]
  pointwise []
  simp only [up2_ix, up3_ix]

theorem pay24 (acc : FVec Ideal S1x128 .f32) (s : EReal) : k0_pay24 (F := Ideal) (k0_pay22 acc) (up3 fun _ _ _ => s) =
    fun y => acc y + (k2048 * s) := by
  funext y; idx_vars y
  pointwise [k0_pay24, k0_pay22]
  simp only [up3_ix, ofBits_inv_2048]

theorem pay25 : k0_pay25 (F := Ideal) (up2 fun p => (R (lo p)).e w) =
    up2 fun p => (R (lo p)).dy w := by
  funext y; idx_vars y
  unfold k0_pay25
  pointwise []
  simp only [up2_ix, ofBits_inv_1024]; rfl

theorem pay26 (acc : FVec Ideal S1x1024 .f32) : k0_pay26 (F := Ideal) (up2 fun p => (R (lo p)).on w) (up2 fun p => (R (lo p)).e w) acc =
    fun y => acc y + (∑ p, (R (lo p)).dy w (y 1) * (R (lo p)).on w (y 1)) := by
  funext y; idx_vars y
  unfold k0_pay26
  rw [pay25]
  pointwise []
  simp only [up2_ix]

theorem pay27 : k0_pay27 (F := Ideal) (up2 fun (_ : Fin 1) => w.g) (up2 fun p (_ : Fin 1) => (R (lo p)).r2 w) (up2 fun p => (R (lo p)).on w) (up2 fun p => (R (lo p)).e w) =
    up2 fun p => (R (lo p)).dout w := by
  funext y; idx_vars y
  unfold k0_pay27
  rw [pay25]
  pointwise []
  simp only [up2_ix, ofBits_1024, div_1024]; rfl

theorem pay28 : k0_pay28 (F := Ideal) (up2 fun p => (R p).out w) =
    up2 fun p => (R (hi p)).out w := by
  funext y; idx_vars y
  unfold k0_pay28
  pointwise []
  simp only [up2_ix]; rfl

theorem pay29 : k0_pay29 (F := Ideal) (up2 fun p => (R p).out w) =
    up2 fun p (_ : Fin 1) => (R (hi p)).r2 w := by
  funext y; idx_vars y
  unfold k0_pay29
  rw [pay28]
  pointwise []
  simp only [up2_ix, ofBits_1024, ofBits_eps, div_1024]
  rfl

theorem pay30 : k0_pay30 (F := Ideal) (up2 fun p => (R p).out w) =
    up2 fun p => (R (hi p)).on w := by
  funext y; idx_vars y
  unfold k0_pay30
  rw [pay28, pay29]
  pointwise []
  simp only [up2_ix]; rfl

theorem pay31 : k0_pay31 (F := Ideal) (up2 fun (_ : Fin 1) => w.g) (up2 fun p => (R (hi p)).on w)
    (up2 fun p => (R (hi p)).x) (up2 fun p => (R (hi p)).t) =
    up2 fun p => (R (hi p)).e w := by
  funext y; idx_vars y
  unfold k0_pay31
  pointwise []
  simp only [up2_ix]; rfl

/-- The sum of a half block's squares. -/
theorem sumsq (f : Fin 256 → Fin 1024 → EReal) :
    shapeCast (α := Ideal .f32) S1x1x1 (multiReduction (φ := .f32) .add [1, 2] S1 (shapeCast (α := Ideal .f32) S1x256x1024
      (mulf (F := Ideal) (φ := .f32) (up2 f : FVec Ideal S256x1024 .f32) (up2 f : FVec Ideal S256x1024 .f32))
      shapeCasts_S256x1024_S1x256x1024) 0x00000000#32
      reduces_S1x256x1024_S1 (.inl rfl) rfl) shapeCasts_S1_S1x1x1 = (up3 fun _ _ _ => ∑ p, ∑ j, f p j * f p j) := by
  funext y; idx_vars y
  pointwise []
  simp only [up2_ix, up3_ix]

theorem pay32 (acc : FVec Ideal S1x128 .f32) : k0_pay32 (F := Ideal) (up2 fun (_ : Fin 1) => w.g) (up2 fun p => (R (hi p)).on w)
    (up2 fun p => (R (hi p)).x) (up2 fun p => (R (hi p)).t) acc =
    fun y => acc y + (k2048 * ∑ p, ∑ j, (R (hi p)).e w j * (R (hi p)).e w j) := by
  funext y; idx_vars y
  unfold k0_pay32
  rw [pay31]
  exact congrFun ((congrArg (k0_pay24 (k0_pay22 acc)) (sumsq _)).trans (pay24 acc _)) _

theorem pay33 : k0_pay33 (F := Ideal) (up2 fun (_ : Fin 1) => w.g) (up2 fun p => (R (hi p)).on w)
    (up2 fun p => (R (hi p)).x) (up2 fun p => (R (hi p)).t) =
    up2 fun p => (R (hi p)).dy w := by
  funext y; idx_vars y
  unfold k0_pay33
  rw [pay31]
  pointwise []
  simp only [up2_ix, ofBits_inv_1024]; rfl

theorem pay34 (acc : FVec Ideal S1x1024 .f32) : k0_pay34 (F := Ideal) (up2 fun (_ : Fin 1) => w.g) (up2 fun p => (R (hi p)).on w)
    (up2 fun p => (R (hi p)).x) (up2 fun p => (R (hi p)).t) acc =
    fun y => acc y + (∑ p, (R (hi p)).dy w (y 1) * (R (hi p)).on w (y 1)) := by
  funext y; idx_vars y
  unfold k0_pay34
  rw [pay33]
  pointwise []
  simp only [up2_ix]

theorem pay35 : k0_pay35 (F := Ideal) (up2 fun (_ : Fin 1) => w.g) (up2 fun p (_ : Fin 1) => (R (hi p)).r2 w) (up2 fun p => (R (hi p)).on w)
    (up2 fun p => (R (hi p)).x) (up2 fun p => (R (hi p)).t) =
    up2 fun p => (R (hi p)).dout w := by
  funext y; idx_vars y
  unfold k0_pay35
  rw [pay33]
  pointwise []
  simp only [up2_ix, ofBits_1024, div_1024]; rfl

theorem pay36 : k0_pay36 (F := Ideal) (up2 fun p => (R (lo p)).dout w) (up2 fun p => (R (hi p)).dout w) =
    up2 fun p => (R p).dout w := by
  funext y; idx_vars y
  unfold k0_pay36
  pointwise []
  simp only [up2_ix]
  by_cases h0 : y0.val < 256
  · rw [dif_pos h0]; exact congrArg (fun q => ((R q).dout w y1)) (Fin.ext rfl)
  · rw [dif_neg h0]
    exact congrArg (fun q => ((R q).dout w y1)) (Fin.ext (by show 256 + (y0.val - 256) = y0.val; omega))

theorem pay37 (acc : FVec Ideal S1024x1024 .f32) : k0_pay37 (F := Ideal) (up2 fun p => (R p).mrg w) (up2 fun p => (R (lo p)).dout w) (up2 fun p => (R (hi p)).dout w) acc =
    fun y => acc y + (∑ p, (R p).mrg w (y 0) * (R p).dout w (y 1)) := by
  funext y; idx_vars y
  unfold k0_pay37
  rw [pay36]
  pointwise []
  simp only [up2_ix]

theorem pay38 : k0_pay38 (F := Ideal) (up2 fun p => (R (lo p)).dout w) (up2 fun p => (R (hi p)).dout w) (up2 w.out) =
    up2 fun p => (R p).dm w := by
  funext y; idx_vars y
  unfold k0_pay38
  rw [pay36]
  pointwise []
  simp only [up2_ix]; rfl

theorem pay39 : k0_pay39 (F := Ideal) (up2 fun p => (R p).co w) (up2 fun p j => gate ((R p).gc j)) (up2 fun p => (R (lo p)).dout w) (up2 fun p => (R (hi p)).dout w) (up2 w.out) =
    up2 fun p => (R p).dgc w := by
  funext y; idx_vars y
  unfold k0_pay39
  rw [pay38]
  pointwise []
  simp only [up2_ix, Ideal.ofBits_one_f32]; rfl

theorem pay40 : k0_pay40 (F := Ideal) (up2 fun p => (R p).so w) (up2 fun p j => gate ((R p).gs j)) (up2 fun p => (R (lo p)).dout w) (up2 fun p => (R (hi p)).dout w) (up2 w.out) =
    up2 fun p => (R p).dgs w := by
  funext y; idx_vars y
  unfold k0_pay40
  rw [pay38]
  pointwise []
  simp only [up2_ix, Ideal.ofBits_one_f32]; rfl

theorem pay41 : k0_pay41 (F := Ideal) (up2 fun p j => gate ((R p).gc j)) (up2 fun p => (R (lo p)).dout w) (up2 fun p => (R (hi p)).dout w) (up2 w.out) =
    up2 fun p => (R p).dco w := by
  funext y; idx_vars y
  unfold k0_pay41
  rw [pay38]
  pointwise []
  simp only [up2_ix]; rfl

theorem pay42 : k0_pay42 (F := Ideal) (up2 fun p j => gate ((R p).gs j)) (up2 fun p => (R (lo p)).dout w) (up2 fun p => (R (hi p)).dout w) (up2 w.out) =
    up2 fun p => (R p).dso w := by
  funext y; idx_vars y
  unfold k0_pay42
  rw [pay38]
  pointwise []
  simp only [up2_ix]; rfl

theorem pay43 (acc : FVec Ideal S1024x1024 .f32) : k0_pay43 (F := Ideal) (up2 fun p => (R p).a) (up2 fun p j => gate ((R p).gc j)) (up2 fun p => (R (lo p)).dout w) (up2 fun p => (R (hi p)).dout w) (up2 w.out) acc =
    fun y => acc y + (∑ p, (R p).a (y 0) * (R p).dco w (y 1)) := by
  funext y; idx_vars y
  unfold k0_pay43
  rw [pay41]
  pointwise []
  simp only [up2_ix]

theorem pay44 : k0_pay44 (F := Ideal) (up2 fun p j => gate ((R p).gs j)) (up2 fun p => (R (lo p)).dout w) (up2 fun p => (R (hi p)).dout w) (up2 w.out) =
    up2 fun p l => (R p).dso w (col 0 l) := by
  funext y; idx_vars y
  unfold k0_pay44
  rw [pay42]
  pointwise []
  simp only [up2_ix]; exact congrArg _ (Fin.ext (by simp [col]))

theorem pay46 : k0_pay46 (F := Ideal) (up2 fun p => (R p).dso w) =
    up2 fun p l => (R p).dso w (col 1 l) := by
  funext y; idx_vars y
  unfold k0_pay46

  pointwise []
  simp only [up2_ix]; exact congrArg _ (Fin.ext (by simp [col]))

theorem pay49 : k0_pay49 (F := Ideal) (up2 fun p => (R p).dso w) =
    up2 fun p l => (R p).dso w (col 2 l) := by
  funext y; idx_vars y
  unfold k0_pay49

  pointwise []
  simp only [up2_ix]; exact congrArg _ (Fin.ext (by simp [col]))

theorem pay1 : k0_pay1 (F := Ideal) (up2 fun p => (R p).dso w) =
    up2 fun p l => (R p).dso w (col 3 l) := by
  funext y; idx_vars y
  unfold k0_pay1

  pointwise []
  simp only [up2_ix]; exact congrArg _ (Fin.ext (by simp [col]))

theorem pay45 (acc : FVec Ideal S1x512x256 .f32) : k0_pay45 (F := Ideal) (up2 fun p => (R p).b) (up2 fun p l => (R p).dso w (col 0 l)) acc =
    fun y => acc y + (∑ p, (R p).b (y 1) * (R p).dso w (col 0 (y 2))) := by
  funext y; idx_vars y
  obtain rfl : y0 = 0 := Subsingleton.elim _ _
  unfold k0_pay45
  pointwise []
  simp only [up2_ix]

theorem pay47 (acc : FVec Ideal S1x512x256 .f32) : k0_pay47 (F := Ideal) (up2 fun p => (R p).b) (up2 fun p => (R p).dso w) acc =
    fun y => acc y + (∑ p, (R p).b (y 1) * (R p).dso w (col 1 (y 2))) := by
  funext y; idx_vars y
  obtain rfl : y0 = 0 := Subsingleton.elim _ _
  unfold k0_pay47
  rw [pay46]
  pointwise []
  simp only [up2_ix]

theorem pay50 (acc : FVec Ideal S1x512x256 .f32) : k0_pay50 (F := Ideal) (up2 fun p => (R p).b) (up2 fun p => (R p).dso w) acc =
    fun y => acc y + (∑ p, (R p).b (y 1) * (R p).dso w (col 2 (y 2))) := by
  funext y; idx_vars y
  obtain rfl : y0 = 0 := Subsingleton.elim _ _
  unfold k0_pay50
  rw [pay49]
  pointwise []
  simp only [up2_ix]

theorem pay2 (acc : FVec Ideal S1x512x256 .f32) : k0_pay2 (F := Ideal) (up2 fun p => (R p).b) (up2 fun p => (R p).dso w) acc =
    fun y => acc y + (∑ p, (R p).b (y 1) * (R p).dso w (col 3 (y 2))) := by
  funext y; idx_vars y
  obtain rfl : y0 = 0 := Subsingleton.elim _ _
  unfold k0_pay2
  rw [pay1]
  pointwise []
  simp only [up2_ix]

theorem pay48 : k0_pay48 (F := Ideal) (up2 fun p => (R p).dso w) (up2 fun p l => (R p).dso w (col 0 l)) (up3 fun (_ : Fin 1) => w.so 0) (up3 fun (_ : Fin 1) => w.so 1) =
    up2 fun p k => ∑ l, (R p).dso w (col 0 l) * w.so 0 k l + ∑ l, (R p).dso w (col 1 l) * w.so 1 k l := by
  funext y; idx_vars y
  unfold k0_pay48
  rw [pay46]
  pointwise []
  simp only [up2_ix, up3_ix]

theorem pay4 : k0_pay4 (F := Ideal) (up2 fun p => (R p).dso w) (up2 fun p k => ∑ l, (R p).dso w (col 0 l) * w.so 0 k l + ∑ l, (R p).dso w (col 1 l) * w.so 1 k l)
    (up2 fun p l => (R p).dso w (col 2 l)) (up3 fun (_ : Fin 1) => w.so 2) (up3 fun (_ : Fin 1) => w.so 3) =
    up2 fun p => (R p).db w := by
  funext y; idx_vars y
  unfold k0_pay4
  rw [pay1]
  pointwise []
  simp only [up2_ix, up3_ix, Row.db, Fin.sum_univ_four]

theorem pay3 : k0_pay3 (F := Ideal) (up2 fun p => (R p).dco w) (up2 w.co) =
    up2 fun p => (R p).da w := by
  funext y; idx_vars y
  unfold k0_pay3
  pointwise []
  simp only [up2_ix]; rfl

end Cert.Tail

end
-- ==== Proof.Blocks.lean ====
/- The blocks a grid point reads, and the loads of their halves and shards. -/
module

public import proofs.«01_k».proof.Proof.Pay
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Tail
open Idealize.ShloMosaic Idealize.ShloMosaic.TcCoe Idealize.SL.Sem
open Cert.KernelIdeal Cert.KernelIdeal.Gen
variable (m : (ℓ : Loc nD τ sig) → Buf (Elt Ideal) ℓ)

/-- The upper half of a block, loaded. -/
theorem ld_lo (f : Fin 512 → Fin 1024 → EReal) (inb) : View.ld (Val := Elt Ideal) (S := S512x1024) (e' := .f32) (up2 f)
    (Rect.unit ![0, 0] ![256, 1024] inb) = up2 fun p => f (lo p) := by
  funext y
  refine (View.ld_unit_apply_of (Val := Elt Ideal) (S := S512x1024) (e := .f32) (up2 f) _ _ inb y (ix2 (lo (y 0)) (y 1)) ?_).trans rfl
  intro a; match a with | ⟨0, _⟩ => exact (Nat.zero_add _).symm | ⟨1, _⟩ => exact (Nat.zero_add _).symm

/-- The lower half. -/
theorem ld_hi (f : Fin 512 → Fin 1024 → EReal) (inb) : View.ld (Val := Elt Ideal) (S := S512x1024) (e' := .f32) (up2 f)
    (Rect.unit ![256, 0] ![256, 1024] inb) = up2 fun p => f (hi p) := by
  funext y
  refine (View.ld_unit_apply_of (Val := Elt Ideal) (S := S512x1024) (e := .f32) (up2 f) _ _ inb y (ix2 (hi (y 0)) (y 1)) ?_).trans rfl
  intro a; match a with | ⟨0, _⟩ => rfl | ⟨1, _⟩ => exact (Nat.zero_add _).symm

/-- One shard of the second projection. -/
theorem ld_sh (s : Fin 4) (f : Fin 4 → Fin 512 → Fin 256 → EReal) (inb) : View.ld (Val := Elt Ideal) (S := S4x512x256) (e' := .bf16) (up3 f)
    (Rect.unit ![s.val, 0, 0] ![1, 512, 256] inb) = up3 fun (_ : Fin 1) => f s := by
  funext y
  refine (View.ld_unit_apply_of (Val := Elt Ideal) (S := S4x512x256) (e := .bf16) (up3 f) _ _ inb y (ix3 s (y 1) (y 2)) ?_).trans rfl
  intro a; match a with
    | ⟨0, _⟩ => have : (y 0).val = 0 := by have := (y 0).isLt; exact Nat.lt_one_iff.mp this
                exact (congrArg (s.val + ·) this).symm
    | ⟨1, _⟩ => exact (Nat.zero_add _).symm | ⟨2, _⟩ => exact (Nat.zero_add _).symm

theorem ld_sh0 (f : Fin 4 → Fin 512 → Fin 256 → EReal) (inb) : View.ld (Val := Elt Ideal) (S := S4x512x256) (e' := .bf16) (up3 f)
    (Rect.unit ![0, 0, 0] ![1, 512, 256] inb) = up3 fun (_ : Fin 1) => f 0 := ld_sh 0 f inb
theorem ld_sh1 (f : Fin 4 → Fin 512 → Fin 256 → EReal) (inb) : View.ld (Val := Elt Ideal) (S := S4x512x256) (e' := .bf16) (up3 f)
    (Rect.unit ![1, 0, 0] ![1, 512, 256] inb) = up3 fun (_ : Fin 1) => f 1 := ld_sh 1 f inb
theorem ld_sh2 (f : Fin 4 → Fin 512 → Fin 256 → EReal) (inb) : View.ld (Val := Elt Ideal) (S := S4x512x256) (e' := .bf16) (up3 f)
    (Rect.unit ![2, 0, 0] ![1, 512, 256] inb) = up3 fun (_ : Fin 1) => f 2 := ld_sh 2 f inb
theorem ld_sh3 (f : Fin 4 → Fin 512 → Fin 256 → EReal) (inb) : View.ld (Val := Elt Ideal) (S := S4x512x256) (e' := .bf16) (up3 f)
    (Rect.unit ![3, 0, 0] ![1, 512, 256] inb) = up3 fun (_ : Fin 1) => f 3 := ld_sh 3 f inb

/-- What the ten input blocks of a point hold. -/
structure At (c : Dev nD) (t : Fin cfg0.N) (R : Fin 512 → Row) (w : Wts) : Prop where
  h0 : iblk m c 0 t = up2 fun p => (R p).a
  h1 : iblk m c 1 t = up2 fun p => (R p).b
  h2 : iblk m c 2 t = up2 fun p => (R p).gc
  h3 : iblk m c 3 t = up2 fun p => (R p).gs
  h4 : iblk m c 4 t = up2 fun p => (R p).x
  h5 : iblk m c 5 t = up2 fun p => (R p).t
  h6 : iblk m c 6 t = up2 w.co
  h7 : iblk m c 7 t = up3 w.so
  h8 : iblk m c 8 t = up2 w.out
  h9 : iblk m c 9 t = up2 fun (_ : Fin 1) => w.g

/-- The nine arrays hold the inputs `d`. -/
structure Is (d : Data) (a0 : FVec Ideal S8192x1024 .bf16) (a1 : FVec Ideal S8192x512 .bf16) (a2 : FVec Ideal S8192x6144 .bf16)
    (a3 a4 : FVec Ideal S8192x1024 .f32) (a5 : FVec Ideal S1024x1024 .bf16) (a6 : FVec Ideal S4x512x256 .bf16)
    (a7 : FVec Ideal S1024x1024 .bf16) (a8 : FVec Ideal S1x1024 .f32) : Prop where
  h0 : a0 = up2 d.a
  h1 : a1 = up2 d.b
  h2 : a2 = up2 d.proj
  h3 : a3 = up2 d.x
  h4 : a4 = up2 d.t
  h5 : a5 = up2 d.co
  h6 : a6 = up3 d.so
  h7 : a7 = up2 d.out
  h8 : a8 = up2 fun (_ : Fin 1) => d.g

/-- The sequence position of row `p` of block `t`. -/
def pos (t : Fin cfg0.N) (p : Fin 512) : Fin 8192 :=
  ⟨t.val * 512 + p.val, by have := lt_of_lt_of_eq t.isLt N_0; have := p.isLt; omega⟩

theorem idx_in : ∀ t : Fin cfg0.N, win0_0.index t = ![t.val, 0] ∧ win0_1.index t = ![t.val, 0] ∧ win0_2.index t = ![t.val, 4]
    ∧ win0_3.index t = ![t.val, 5] ∧ win0_4.index t = ![t.val, 0] ∧ win0_5.index t = ![t.val, 0] ∧ win0_6.index t = ![0, 0]
    ∧ win0_7.index t = ![0, 0, 0] ∧ win0_8.index t = ![0, 0] ∧ win0_9.index t = ![0, 0] :=
  (by decide +kernel : ∀ t : Fin grid0.N, _)

variable {m} {c : Dev nD} {d : Data}
  (I : Is d (V m c main_arg0) (V m c main_arg1) (V m c main_arg2) (V m c main_arg3) (V m c main_arg4) (V m c main_arg5)
    (V m c main_arg6) (V m c main_arg7) (V m c main_arg8))
include I

theorem at_point (t : Fin cfg0.N) : At m c t (fun p => d.row (pos t p)) d.wts where
  h0 := by
    funext y; idx_vars y
    have e : iblk m c 0 t (ix2 y0 y1) = V m c main_arg0 (ix2 (pos t y0) y1) := by
      blk_ext [iblk, V, idx_in t, pos]
    exact e.trans (congrFun I.h0 _)
  h1 := by
    funext y; idx_vars y
    have e : iblk m c 1 t (ix2 y0 y1) = V m c main_arg1 (ix2 (pos t y0) y1) := by
      blk_ext [iblk, V, idx_in t, pos]
    exact e.trans (congrFun I.h1 _)
  h2 := by
    funext y; idx_vars y
    have e : iblk m c 2 t (ix2 y0 y1) = V m c main_arg2 (ix2 (pos t y0) ⟨4096 + y1.val, by have := y1.isLt; omega⟩) := by
      blk_ext [iblk, V, idx_in t, pos]
    exact e.trans (congrFun I.h2 _)
  h3 := by
    funext y; idx_vars y
    have e : iblk m c 3 t (ix2 y0 y1) = V m c main_arg2 (ix2 (pos t y0) ⟨5120 + y1.val, by have := y1.isLt; omega⟩) := by
      blk_ext [iblk, V, idx_in t, pos]
    exact e.trans (congrFun I.h2 _)
  h4 := by
    funext y; idx_vars y
    have e : iblk m c 4 t (ix2 y0 y1) = V m c main_arg3 (ix2 (pos t y0) y1) := by
      blk_ext [iblk, V, idx_in t, pos]
    exact e.trans (congrFun I.h3 _)
  h5 := by
    funext y; idx_vars y
    have e : iblk m c 5 t (ix2 y0 y1) = V m c main_arg4 (ix2 (pos t y0) y1) := by
      blk_ext [iblk, V, idx_in t, pos]
    exact e.trans (congrFun I.h4 _)
  h6 := by
    funext y; idx_vars y
    have e : iblk m c 6 t (ix2 y0 y1) = V m c main_arg5 (ix2 y0 y1) := by
      blk_ext [iblk, V, idx_in t, pos]
    exact e.trans (congrFun I.h5 _)
  h7 := by
    funext y; idx_vars y
    have e : iblk m c 7 t (ix3 y0 y1 y2) = V m c main_arg6 (ix3 y0 y1 y2) := by
      blk_ext [iblk, V, idx_in t, pos]
    exact e.trans (congrFun I.h6 _)
  h8 := by
    funext y; idx_vars y
    have e : iblk m c 8 t (ix2 y0 y1) = V m c main_arg7 (ix2 y0 y1) := by
      blk_ext [iblk, V, idx_in t, pos]
    exact e.trans (congrFun I.h7 _)
  h9 := by
    funext y; idx_vars y
    have e : iblk m c 9 t (ix2 y0 y1) = V m c main_arg8 (ix2 y0 y1) := by
      blk_ext [iblk, V, idx_in t, pos]
    exact e.trans (congrFun I.h8 _)

end Cert.Tail

end
-- ==== Proof.Rows.lean ====
/- What one grid point leaves in its output blocks, on any inputs. -/
module

public import proofs.«01_k».proof.Proof.Blocks

@[expose] public section

set_option maxRecDepth 16384

noncomputable section

namespace Cert.Tail
open Idealize.ShloMosaic Idealize.ShloMosaic.TcCoe Idealize.SL.Sem
open Cert.KernelIdeal Cert.KernelIdeal.Gen
variable {m : (ℓ : Loc nD τ sig) → Buf (Elt Ideal) ℓ} {c : Dev nD} {t : Fin cfg0.N} {R : Fin 512 → Row} {w : Wts}

theorem zero5 (j) : k0_pay5 (F := Ideal) j = 0 := by pointwise [k0_pay5]
theorem zero6 (j) : k0_pay6 (F := Ideal) j = 0 := by pointwise [k0_pay6]
theorem zero7 (j) : k0_pay7 (F := Ideal) j = 0 := by pointwise [k0_pay7]
theorem zero8 (j) : k0_pay8 (F := Ideal) j = 0 := by pointwise [k0_pay8]
theorem zero9 (j) : k0_pay9 (F := Ideal) j = 0 := by pointwise [k0_pay9]

theorem out11 (H : At m c t R w) (y) : (outsAt0 m c t.val t.isLt).2.1 y = up2 (fun p => (R p).da w) y := by
  by_cases h : t.val % 16 = 0
  · rw [outsAt0_A m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  · rw [outsAt0_B m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]

theorem out12 (H : At m c t R w) (y) : (outsAt0 m c t.val t.isLt).2.2.1 y = up2 (fun p => (R p).db w) y := by
  by_cases h : t.val % 16 = 0
  · rw [outsAt0_A m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  · rw [outsAt0_B m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]

theorem out10 (H : At m c t R w) (y) : (outsAt0 m c t.val t.isLt).1 y = up2 (fun p => (R p).dy w) y := by
  by_cases h : t.val % 16 = 0
  · rw [outsAt0_A m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
    canon_tiles x hx
    · exact congrArg₂ (fun p j => ((R p).dy w j)) (Fin.ext hx0.symm : hi (x 0) = y 0) (Fin.ext hx1.symm : x 1 = y 1)
    · exact congrArg₂ (fun p j => ((R p).dy w j)) (Fin.ext hx0.symm : lo (x 0) = y 0) (Fin.ext hx1.symm : x 1 = y 1)
  · rw [outsAt0_B m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
    canon_tiles x hx
    · exact congrArg₂ (fun p j => ((R p).dy w j)) (Fin.ext hx0.symm : hi (x 0) = y 0) (Fin.ext hx1.symm : x 1 = y 1)
    · exact congrArg₂ (fun p j => ((R p).dy w j)) (Fin.ext hx0.symm : lo (x 0) = y 0) (Fin.ext hx1.symm : x 1 = y 1)

theorem out13 (H : At m c t R w) (y) : (outsAt0 m c t.val t.isLt).2.2.2.1 y =
    (if h : (y 1).val < 1024 then ((R (y 0)).dgc w ⟨(y 1).val, h⟩)
      else ((R (y 0)).dgs w ⟨(y 1).val - 1024, by have : (y 1).val < 2048 := (y 1).isLt; omega⟩)) := by
  by_cases h : t.val % 16 = 0
  · rw [outsAt0_A m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
    canon_tiles x hx
    · rw [dif_neg (by omega)]
      exact congrArg₂ (fun p j => ((R p).dgs w j)) (Fin.ext hx0.symm : x 0 = y 0)
        (Fin.ext (by show (x 1).val = (y 1).val - 1024; omega) : x 1 = (⟨(y 1).val - 1024, _⟩ : Fin 1024))
    · rw [dif_pos (by omega)]
      exact congrArg₂ (fun p j => ((R p).dgc w j)) (Fin.ext hx0.symm : x 0 = y 0)
        (Fin.ext hx1.symm : x 1 = (⟨(y 1).val, _⟩ : Fin 1024))
  · rw [outsAt0_B m c t h]; frame_out
    simp only [H.h0, H.h1, H.h2, H.h3, H.h4, H.h5, H.h6, H.h7, H.h8, H.h9, ld_lo, ld_hi, ld_sh0, ld_sh1, ld_sh2, ld_sh3]
    simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
    canon_tiles x hx
    · rw [dif_neg (by omega)]
      exact congrArg₂ (fun p j => ((R p).dgs w j)) (Fin.ext hx0.symm : x 0 = y 0)
        (Fin.ext (by show (x 1).val = (y 1).val - 1024; omega) : x 1 = (⟨(y 1).val - 1024, _⟩ : Fin 1024))
    · rw [dif_pos (by omega)]
      exact congrArg₂ (fun p j => ((R p).dgc w j)) (Fin.ext hx0.symm : x 0 = y 0)
        (Fin.ext hx1.symm : x 1 = (⟨(y 1).val, _⟩ : Fin 1024))

/-- What one point adds to the gradient of the output projection … -/
def add14 (R : Fin 512 → Row) (w : Wts) (y : S1024x1024.Idx) : EReal := (∑ p, (R p).mrg w (y 0) * (R p).dout w (y 1))
/-- … of the first branch's projection … -/
def add15 (R : Fin 512 → Row) (w : Wts) (y : S1024x1024.Idx) : EReal := (∑ p, (R p).a (y 0) * (R p).dco w (y 1))
/-- … of the second branch's projection … -/
def add16 (R : Fin 512 → Row) (w : Wts) (y : S4x512x256.Idx) : EReal :=
  (∑ p, (R p).b (y 1) * (R p).dso w (col (y 0) (y 2)))
theorem add16_col (R : Fin 512 → Row) (w : Wts) (s : Fin 4) (y : S4x512x256.Idx) (x : S1x512x256.Idx) (h0 : (y 0).val = s.val)
    (h1 : (y 1).val = (x 1).val) (h2 : (y 2).val = (x 2).val) :
    (∑ p, (R p).b (x 1) * (R p).dso w (col s (x 2))) = add16 R w y := by
  have e0 : y 0 = s := Fin.ext h0
  have e1 : y 1 = x 1 := Fin.ext h1
  have e2 : y 2 = x 2 := Fin.ext h2
  rw [add16, e0, e1, e2]

/-- … of the gain … -/
def add17 (R : Fin 512 → Row) (w : Wts) (y : S1x1024.Idx) : EReal :=
  (∑ p, (R (lo p)).dy w (y 1) * (R (lo p)).on w (y 1)) + (∑ p, (R (hi p)).dy w (y 1) * (R (hi p)).on w (y 1))
/-- … and to the loss. -/
def add18 (R : Fin 512 → Row) (w : Wts) (_ : S1x128.Idx) : EReal :=
  (k2048 * ∑ p, ∑ j, (R (lo p)).e w j * (R (lo p)).e w j)
    + (k2048 * ∑ p, ∑ j, (R (hi p)).e w j * (R (hi p)).e w j)

theorem out14A (H : At m c t R w) (h : t.val % 16 = 0) (y) : (outsAt0 m c t.val t.isLt).2.2.2.2.1 y = 0 + add14 R w y := by
  rw [outsAt0_A m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rw [zero5]; rfl

theorem out14B (H : At m c t R w) (h : ¬t.val % 16 = 0) (y) : (outsAt0 m c t.val t.isLt).2.2.2.2.1 y =
    (outsAt0 m c (t.val - 1) (Nat.lt_of_le_of_lt (Nat.sub_le _ _) t.isLt)).2.2.2.2.1 y + add14 R w y := by
  rw [outsAt0_B m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rfl

theorem out15A (H : At m c t R w) (h : t.val % 16 = 0) (y) : (outsAt0 m c t.val t.isLt).2.2.2.2.2.1 y = 0 + add15 R w y := by
  rw [outsAt0_A m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rw [zero6]; rfl

theorem out15B (H : At m c t R w) (h : ¬t.val % 16 = 0) (y) : (outsAt0 m c t.val t.isLt).2.2.2.2.2.1 y =
    (outsAt0 m c (t.val - 1) (Nat.lt_of_le_of_lt (Nat.sub_le _ _) t.isLt)).2.2.2.2.2.1 y + add15 R w y := by
  rw [outsAt0_B m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rfl

theorem out17A (H : At m c t R w) (h : t.val % 16 = 0) (y) : (outsAt0 m c t.val t.isLt).2.2.2.2.2.2.2.1 y = 0 + add17 R w y := by
  rw [outsAt0_A m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rw [zero8, add_assoc]; rfl

theorem out17B (H : At m c t R w) (h : ¬t.val % 16 = 0) (y) : (outsAt0 m c t.val t.isLt).2.2.2.2.2.2.2.1 y =
    (outsAt0 m c (t.val - 1) (Nat.lt_of_le_of_lt (Nat.sub_le _ _) t.isLt)).2.2.2.2.2.2.2.1 y + add17 R w y := by
  rw [outsAt0_B m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rw [add_assoc]; rfl

theorem out18A (H : At m c t R w) (h : t.val % 16 = 0) (y) : (outsAt0 m c t.val t.isLt).2.2.2.2.2.2.2.2 y = 0 + add18 R w y := by
  rw [outsAt0_A m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rw [zero9, add_assoc]; rfl

theorem out18B (H : At m c t R w) (h : ¬t.val % 16 = 0) (y) : (outsAt0 m c t.val t.isLt).2.2.2.2.2.2.2.2 y =
    (outsAt0 m c (t.val - 1) (Nat.lt_of_le_of_lt (Nat.sub_le _ _) t.isLt)).2.2.2.2.2.2.2.2 y + add18 R w y := by
  rw [outsAt0_B m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  rw [add_assoc]; rfl

theorem out16A (H : At m c t R w) (h : t.val % 16 = 0) (y) : (outsAt0 m c t.val t.isLt).2.2.2.2.2.2.1 y = 0 + add16 R w y := by
  rw [outsAt0_A m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  simp (disch := decide) only [↓ View.readCov_skip, ↓ View.readCov_cons_toLoadRect, ↓ View.readCov_fill]
  refine View.canon_append_of_piecesOf (Val := Elt Ideal) (fun y => 0 + add16 R w y) [_] [_, _, _, _] ⟨?_, ?_, ?_, ?_, trivial⟩ y ?_
  · exact fun x => congrArg₂ (fun u v : EReal => u + v) (zero7 _) (add16_col R w 3 _ x (by show 3 + 1 * (x 0).val = 3; have : (x 0).val < 1 := (x 0).isLt; omega) (by show 0 + 1 * (x 1).val = _; omega) (by show 0 + 1 * (x 2).val = _; omega))
  · exact fun x => congrArg₂ (fun u v : EReal => u + v) (zero7 _) (add16_col R w 2 _ x (by show 2 + 1 * (x 0).val = 2; have : (x 0).val < 1 := (x 0).isLt; omega) (by show 0 + 1 * (x 1).val = _; omega) (by show 0 + 1 * (x 2).val = _; omega))
  · exact fun x => congrArg₂ (fun u v : EReal => u + v) (zero7 _) (add16_col R w 1 _ x (by show 1 + 1 * (x 0).val = 1; have : (x 0).val < 1 := (x 0).isLt; omega) (by show 0 + 1 * (x 1).val = _; omega) (by show 0 + 1 * (x 2).val = _; omega))
  · exact fun x => congrArg₂ (fun u v : EReal => u + v) (zero7 _) (add16_col R w 0 _ x (by show 0 + 1 * (x 0).val = 0; have : (x 0).val < 1 := (x 0).isLt; omega) (by show 0 + 1 * (x 1).val = _; omega) (by show 0 + 1 * (x 2).val = _; omega))
  · exact View.cover_of_tiled_head _ _ _ rfl y

theorem out16B (H : At m c t R w) (h : ¬t.val % 16 = 0) (y) : (outsAt0 m c t.val t.isLt).2.2.2.2.2.2.1 y =
    (outsAt0 m c (t.val - 1) (Nat.lt_of_le_of_lt (Nat.sub_le _ _) t.isLt)).2.2.2.2.2.2.1 y + add16 R w y := by
  rw [outsAt0_B m c t h]; frame_out
  simp only [H.h0, H.h1, H.h2, H.h3, H.h4, H.h5, H.h6, H.h7, H.h8, H.h9, ld_lo, ld_hi, ld_sh0, ld_sh1, ld_sh2, ld_sh3]
  simp only [pay10, pay11, pay14, pay15, pay16, pay17, pay18, pay19, pay20, pay21, pay23, pay24, pay25, pay26, pay27, pay28, pay29, pay30, pay31, pay32, pay33, pay34, pay35, pay37, pay39, pay40, pay41, pay42, pay43, pay44, pay45, pay46, pay47, pay48, pay49, pay50, pay1, pay2, pay3, pay4]
  canon_tiles x hx
  · exact congrArg₂ (fun u v : EReal => u + v)
      (View.ld_unit_apply_of (Val := Elt Ideal) (e := .f32) _ _ _ _ x y fun a => by
        match a with | ⟨0, _⟩ => exact hx0 | ⟨1, _⟩ => exact hx1.trans (Nat.zero_add _).symm | ⟨2, _⟩ => exact hx2.trans (Nat.zero_add _).symm)
      (add16_col R w 3 y x (by show (y 0).val = 3; omega) hx1 hx2)
  · exact congrArg₂ (fun u v : EReal => u + v)
      (View.ld_unit_apply_of (Val := Elt Ideal) (e := .f32) _ _ _ _ x y fun a => by
        match a with | ⟨0, _⟩ => exact hx0 | ⟨1, _⟩ => exact hx1.trans (Nat.zero_add _).symm | ⟨2, _⟩ => exact hx2.trans (Nat.zero_add _).symm)
      (add16_col R w 2 y x (by show (y 0).val = 2; omega) hx1 hx2)
  · exact congrArg₂ (fun u v : EReal => u + v)
      (View.ld_unit_apply_of (Val := Elt Ideal) (e := .f32) _ _ _ _ x y fun a => by
        match a with | ⟨0, _⟩ => exact hx0 | ⟨1, _⟩ => exact hx1.trans (Nat.zero_add _).symm | ⟨2, _⟩ => exact hx2.trans (Nat.zero_add _).symm)
      (add16_col R w 1 y x (by show (y 0).val = 1; omega) hx1 hx2)
  · exact congrArg₂ (fun u v : EReal => u + v)
      (View.ld_unit_apply_of (Val := Elt Ideal) (e := .f32) _ _ _ _ x y fun a => by
        match a with | ⟨0, _⟩ => exact hx0.trans (Nat.zero_add _).symm | ⟨1, _⟩ => exact hx1.trans (Nat.zero_add _).symm | ⟨2, _⟩ => exact hx2.trans (Nat.zero_add _).symm)
      (add16_col R w 0 y x (by show (y 0).val = 0; omega) hx1 hx2)

end Cert.Tail

end
-- ==== Proof.Arrays.lean ====
/- The whole result arrays after the last grid point. -/
module

public import proofs.«01_k».proof.Proof.Rows

@[expose] public section

set_option maxRecDepth 16384

noncomputable section

namespace Cert.Tail
open Idealize.ShloMosaic Idealize.ShloMosaic.TcCoe Idealize.SL.Sem
open Cert.KernelIdeal Cert.KernelIdeal.Gen

theorem idx_out : ∀ t : Fin cfg0.N, win0_10.index t = ![t.val, 0] ∧ win0_11.index t = ![t.val, 0] ∧ win0_12.index t = ![t.val, 0]
    ∧ win0_13.index t = ![t.val, 2] :=
  (by decide +kernel : ∀ t : Fin grid0.N, _)

/-- The gradients of the two gates, side by side after the first 4096 columns. -/
def gates (d : Data) (j : S8192x6144.Idx) : EReal :=
  if h : (j 1).val < 5120 then ((d.row (j 0)).dgc d.wts ⟨(j 1).val - 4096, by omega⟩)
  else ((d.row (j 0)).dgs d.wts ⟨(j 1).val - 5120, by have : (j 1).val < 6144 := (j 1).isLt; omega⟩)

/-- A block's two halves make up the block. -/
theorem sum_halves (f : Fin 512 → EReal) : ∑ p, f (lo p) + ∑ p, f (hi p) = ∑ p, f p :=
  (Fin.sum_univ_add (a := 256) (b := 256) f).symm

/-- The blocks make up the sequence. -/
theorem sum_blocks (f : Fin 8192 → EReal) : ∑ t : Fin cfg0.N, (∑ p, f (pos t p)) = (∑ i, f i) := by
  exact Fin.sum_mul_add_congr (fun _ _ _ => rfl) (by rw [show cfg0.N = 16 from N_0])

variable {m : (ℓ : Loc nD τ sig) → Buf (Elt Ideal) ℓ} {c : Dev nD} {d : Data}
  (I : Is d (V m c main_arg0) (V m c main_arg1) (V m c main_arg2) (V m c main_arg3) (V m c main_arg4) (V m c main_arg5)
    (V m c main_arg6) (V m c main_arg7) (V m c main_arg8))
include I

theorem arr10 : (dats m 0 c).arrAt 10 cfg0.N = (up2 fun i => (d.row i).dy d.wts : S8192x1024.Idx → EReal) := by
  refine (dats m 0 c).arrAt_eq_of_covers 10 _ (by decide +kernel) fun t _ y => ?_
  blk_simp
  rw [after0_10, out10 (at_point I t)]
  have e : (win0_10.blk t).view.emb y = ix2 (pos t (y 0)) (y 1) := by blk_ext [idx_out t, pos]
  rw [e]; rfl

theorem arr11 : (dats m 0 c).arrAt 11 cfg0.N = (up2 fun i => (d.row i).da d.wts : S8192x1024.Idx → EReal) := by
  refine (dats m 0 c).arrAt_eq_of_covers 11 _ (by decide +kernel) fun t _ y => ?_
  blk_simp
  rw [after0_11, out11 (at_point I t)]
  have e : (win0_11.blk t).view.emb y = ix2 (pos t (y 0)) (y 1) := by blk_ext [idx_out t, pos]
  rw [e]; rfl

theorem arr12 : (dats m 0 c).arrAt 12 cfg0.N = (up2 fun i => (d.row i).db d.wts : S8192x512.Idx → EReal) := by
  refine (dats m 0 c).arrAt_eq_of_covers 12 _ (by decide +kernel) fun t _ y => ?_
  blk_simp
  rw [after0_12, out12 (at_point I t)]
  have e : (win0_12.blk t).view.emb y = ix2 (pos t (y 0)) (y 1) := by blk_ext [idx_out t, pos]
  rw [e]; rfl

theorem arr13 (j : S8192x6144.Idx) (hj : 4096 ≤ (j 1).val) : (dats m 0 c).arrAt 13 cfg0.N j = gates d j := by
  have h : (dats m 0 c).arrAt 13 cfg0.N = fun j => if 2 * 2048 ≤ (j 1 : ℕ) then gates d j else V m c main_v0_3 j := by
    refine (dats m 0 c).arrAt_eq_of_coversWhere 13 _ (fun β => 2 ≤ β 1) (by decide +kernel) (fun t hf y => ?_)
      (fun j => by blk_simp [Pipeline.Window.cell_apply]; omega)
    blk_simp
    rw [after0_13, out13 (at_point I t)]
    have hy : (y 1).val < 2048 := (y 1).isLt
    have e : (win0_13.blk t).view.emb y = ix2 (pos t (y 0)) ⟨4096 + (y 1).val, by omega⟩ := by blk_ext [idx_out t, pos]
    rw [e]
    by_cases h : (y 1).val < 1024
    · rw [dif_pos h, gates, dif_pos (by show 4096 + (y 1).val < 5120; omega)]
      exact congrArg (fun q => ((d.row (pos t (y 0))).dgc d.wts q)) (Fin.ext (by show (y 1).val = 4096 + (y 1).val - 4096; omega))
    · rw [dif_neg h, gates, dif_neg (by show ¬4096 + (y 1).val < 5120; omega)]
      exact congrArg (fun q => ((d.row (pos t (y 0))).dgs d.wts q)) (Fin.ext (by show (y 1).val - 1024 = 4096 + (y 1).val - 5120; omega))
  rw [h]; exact if_pos hj

theorem arr14 : (dats m 0 c).arrAt 14 cfg0.N =
    (up2 fun k j => ∑ i, (d.row i).mrg d.wts k * (d.row i).dout d.wts j : S1024x1024.Idx → EReal) := by
  refine (dats m 0 c).arrAt_eq_of_after_last 14 t0_15 (by decide +kernel) _ fun j => ?_
  blk_simp
  rw [after0_14, Pipeline.eq_sum_fin_of_reset_step_apply_last (fun n h => (outsAt0 m c n h).2.2.2.2.1) 16 (fun _ => 0)
    (fun t j => add14 (fun p => d.row (pos t p)) d.wts j)
    (fun t h j => out14A (at_point I t) h j) (fun t h j => out14B (at_point I t) h j) (le_of_eq N_0) t0_15 rfl j, zero_add]
  exact sum_blocks fun i => (d.row i).mrg d.wts (j 0) * (d.row i).dout d.wts (j 1)

theorem arr15 : (dats m 0 c).arrAt 15 cfg0.N =
    (up2 fun k j => ∑ i, d.a i k * (d.row i).dco d.wts j : S1024x1024.Idx → EReal) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.1) 16 (fun _ => 0)
    (fun t j => add15 (fun p => d.row (pos t p)) d.wts j)
    (fun t h j => out15A (at_point I t) h j) (fun t h j => out15B (at_point I t) h j) (le_of_eq N_0) t0_15 rfl j, zero_add]
  exact sum_blocks fun i => d.a i (j 0) * (d.row i).dco d.wts (j 1)

theorem arr16 : (dats m 0 c).arrAt 16 cfg0.N =
    (up3 fun s k l => ∑ i, d.b i k * (d.row i).dso d.wts (col s l) : S4x512x256.Idx → EReal) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.1) 16 (fun _ => 0)
    (fun t j => add16 (fun p => d.row (pos t p)) d.wts j)
    (fun t h j => out16A (at_point I t) h j) (fun t h j => out16B (at_point I t) h j) (le_of_eq N_0) t0_15 rfl j, zero_add]
  exact sum_blocks fun i => d.b i (j 1) * (d.row i).dso d.wts (col (j 0) (j 2))

theorem arr17 : (dats m 0 c).arrAt 17 cfg0.N =
    (up2 fun _ j => ∑ i, (d.row i).dy d.wts j * (d.row i).on d.wts j : S1x1024.Idx → EReal) := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2.1) 16 (fun _ => 0)
    (fun t j => add17 (fun p => d.row (pos t p)) d.wts j)
    (fun t h j => out17A (at_point I t) h j) (fun t h j => out17B (at_point I t) h j) (le_of_eq N_0) t0_15 rfl j, zero_add]
  refine Eq.trans (Fin.sum_fin_congr fun t => ?_) (sum_blocks fun i => (d.row i).dy d.wts (j 1) * (d.row i).on d.wts (j 1))
  rw [add17, sum_halves fun p => (d.row (pos t p)).dy d.wts (j 1) * (d.row (pos t p)).on d.wts (j 1)]

theorem arr18 : (dats m 0 c).arrAt 18 cfg0.N =
    (up2 fun _ _ => ∑ i, k2048 * ∑ j, (d.row i).e d.wts j * (d.row i).e d.wts j : S1x128.Idx → EReal) := by
  refine (dats m 0 c).arrAt_eq_of_after_last 18 t0_15 (by decide +kernel) _ fun j => ?_
  blk_simp
  rw [after0_18, Pipeline.eq_sum_fin_of_reset_step_apply_last (fun n h => (outsAt0 m c n h).2.2.2.2.2.2.2.2) 16 (fun _ => 0)
    (fun t j => add18 (fun p => d.row (pos t p)) d.wts j)
    (fun t h j => out18A (at_point I t) h j) (fun t h j => out18B (at_point I t) h j) (le_of_eq N_0) t0_15 rfl j, zero_add]
  refine Eq.trans (Fin.sum_fin_congr fun t => ?_) (sum_blocks fun i => k2048 * ∑ j, (d.row i).e d.wts j * (d.row i).e d.wts j)
  have h : (0 : ℝ) ≤ 1 / 2048 := by norm_num
  exact (mul_add_real h _ _).symm.trans ((congrArg (fun z => k2048 * z) (sum_halves fun p => ∑ j, (d.row (pos t p)).e d.wts j * (d.row (pos t p)).e d.wts j)).trans
    (mul_sum_real h _ _))

end Cert.Tail

end
-- ==== Proof.Ref.lean ====
/- The reference's values, one after another. -/
module

public import proofs.«01_k».proof.Proof.Arrays
public import proofs.«01_k».proof.Proof.Gen.ReferenceIdeal.Run

@[expose] public section

set_option maxRecDepth 16384

noncomputable section

namespace Cert.Tail
open Idealize.ShloMosaic Idealize.ShloMosaic.TcCoe Idealize.SL.Sem Cert.ReferenceIdeal
  Cert.ReferenceIdeal.Value Cert.ReferenceIdeal.Gen

variable {V0 : Valuation τ sig (Elt Ideal)} {d : Data}
  (J : Is d (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)))
include J

theorem r0 : res_main_v0 V0 = (up2 d.a : S8192x1024.Idx → EReal) := by
  funext y; unfold res_main_v0; rw [J.h0]; rfl
theorem r1 : res_main_v1 V0 = (up2 d.b : S8192x512.Idx → EReal) := by
  funext y; unfold res_main_v1; rw [J.h1]; rfl
theorem r6 : res_main_v6 V0 = (up2 d.co : S1024x1024.Idx → EReal) := by
  funext y; unfold res_main_v6; rw [J.h5]; rfl
theorem r7 : res_main_v7 V0 = (up3 d.so : S4x512x256.Idx → EReal) := by
  funext y; unfold res_main_v7; rw [J.h6]; rfl
theorem r8 : res_main_v8 V0 = (up2 d.out : S1024x1024.Idx → EReal) := by
  funext y; unfold res_main_v8; rw [J.h7]; rfl
theorem r9 : res_main_v9 V0 = (up2 fun i => (d.row i).co d.wts : S8192x1024.Idx → EReal) := by
  funext y; idx_vars y; unfold res_main_v9; rw [r0 J, r6 J]
  pointwise []
  simp only [up2_ix]; rfl
theorem r18 : res_main_v18 V0 = (up2 fun k j => d.so (shard j) k (lane j) : S512x1024.Idx → EReal) := by
  funext y; idx_vars y; unfold res_main_v18; rw [r7 J]
  pointwise []
  simp only [up2_ix, up3_ix]
  by_cases h0 : y1.val < 256
  · rw [dif_pos h0]; obtain ⟨hs, hl⟩ := shard_lane y1 0 ⟨y1.val, h0⟩ (by simp); rw [hs, hl]
  rw [dif_neg h0]
  by_cases h1 : y1.val - 256 < 256
  · rw [dif_pos h1]; obtain ⟨hs, hl⟩ := shard_lane y1 1 ⟨y1.val - 256, h1⟩ (by show y1.val = 1 * 256 + (y1.val - 256); omega)
    rw [hs, hl]
  rw [dif_neg h1]
  by_cases h2 : y1.val - 256 - 256 < 256
  · rw [dif_pos h2]
    obtain ⟨hs, hl⟩ := shard_lane y1 2 ⟨y1.val - 256 - 256, h2⟩ (by show y1.val = 2 * 256 + (y1.val - 256 - 256); omega)
    rw [hs, hl]
  rw [dif_neg h2]
  have hlt := y1.isLt
  obtain ⟨hs, hl⟩ := shard_lane y1 3 ⟨y1.val - 256 - 256 - 256, by omega⟩
    (by show y1.val = 3 * 256 + (y1.val - 256 - 256 - 256); omega)
  rw [hs, hl]

theorem r19 : res_main_v19 V0 = (up2 fun i => (d.row i).so d.wts : S8192x1024.Idx → EReal) := by
  funext y; idx_vars y; unfold res_main_v19; rw [r1 J, r18 J]
  pointwise []
  simp only [up2_ix]; rfl

theorem r25 : res_main_v25 V0 = (up2 fun i j => gate ((d.row i).gc j) : S8192x1024.Idx → EReal) := by
  funext y; idx_vars y; unfold res_main_v25; rw [J.h2]
  pointwise []
  rfl

theorem r35 : res_main_v35 V0 = (up2 fun i j => gate ((d.row i).gs j) : S8192x1024.Idx → EReal) := by
  funext y; idx_vars y; unfold res_main_v35; rw [J.h2]
  pointwise []
  rfl

theorem r40 : res_main_v40 V0 = (up2 fun i => (d.row i).mrg d.wts : S8192x1024.Idx → EReal) := by
  funext y; idx_vars y; unfold res_main_v40; rw [r25 J, r35 J, r9 J, r19 J]
  pointwise []
  simp only [up2_ix]; rfl

theorem r41 : res_main_v41 V0 = (up2 fun i => (d.row i).out d.wts : S8192x1024.Idx → EReal) := by
  funext y; idx_vars y; unfold res_main_v41; rw [r40 J, r8 J]
  pointwise []
  simp only [up2_ix]; rfl

theorem r48 : res_main_v48 V0 = (up2 fun i (_ : Fin 1) => (d.row i).ms d.wts : S8192x1.Idx → EReal) := by
  funext y; idx_vars y; unfold res_main_v48; rw [r41 J]
  pointwise []
  simp only [up2_ix, ofBits_1024, ofBits_eps, div_1024]; rfl

theorem r49 : res_main_v49 V0 = (up2 fun i (_ : Fin 1) => (d.row i).r2 d.wts : S8192x1.Idx → EReal) := by
  funext y; idx_vars y; unfold res_main_v49; rw [r48 J]
  pointwise []
  rfl

theorem r54 : res_main_v54 V0 = (up2 fun i => (d.row i).on d.wts : S8192x1024.Idx → EReal) := by
  funext y; idx_vars y; unfold res_main_v54; rw [r41 J, r49 J]
  pointwise []
  simp only [up2_ix]; rfl

theorem r58 : res_main_v58 V0 = (up2 fun i => (d.row i).e d.wts : S8192x1024.Idx → EReal) := by
  funext y; idx_vars y; unfold res_main_v58; rw [r54 J, J.h3, J.h8, J.h4]
  pointwise []
  simp only [up2_ix]; rfl

theorem r72 : res_main_v72 V0 = (up2 fun i => (d.row i).dy d.wts : S8192x1024.Idx → EReal) := by
  funext y; idx_vars y; unfold res_main_v72; rw [r58 J]
  pointwise []
  simp only [up2_ix, ofBits_half, ofBits_1024, ofBits_two, div_1024]
  rw [Row.dy, ← mul_assoc, mul_comm]
  refine congrArg _ ?_
  unfold k1024; rw [← EReal.coe_mul, ← EReal.coe_mul]; norm_num

theorem r77 : res_main_v77 V0 = (up2 fun i => (d.row i).dn d.wts : S8192x1024.Idx → EReal) := by
  funext y; idx_vars y; unfold res_main_v77; rw [r72 J, J.h8]
  pointwise []
  simp only [up2_ix]; rfl

theorem r87 : res_main_v87 V0 = (up2 fun i _ => (∑ j, (d.row i).out d.wts j * (d.row i).dn d.wts j) * (((-(1 / 2) : ℝ) : EReal) * Ideal.div ((d.row i).r2 d.wts) ((d.row i).ms d.wts)) * k1024 : S8192x1024.Idx → EReal) := by
  funext y; idx_vars y; unfold res_main_v87; rw [r41 J, r77 J, r48 J, r49 J]
  pointwise []
  simp only [up2_ix, Fin.sum_univ_one, ofBits_neg_half, ofBits_1024, div_1024]

theorem r91 : res_main_v91 V0 = (up2 fun i => (d.row i).dout d.wts : S8192x1024.Idx → EReal) := by
  funext y; idx_vars y; unfold res_main_v91; rw [r77 J, r49 J, r41 J, r87 J]
  pointwise []
  simp only [up2_ix]
  exact dout_lines (d.row y0) d.wts y1

theorem r94 : res_main_v94 V0 = (up2 fun i => (d.row i).dm d.wts : S8192x1024.Idx → EReal) := by
  funext y; idx_vars y; unfold res_main_v94; rw [r91 J, r8 J]
  pointwise []
  simp only [up2_ix]; rfl

theorem r95 : res_main_v95 V0 = (up2 fun i => (d.row i).dso d.wts : S8192x1024.Idx → EReal) := by
  funext y; idx_vars y; unfold res_main_v95; rw [r35 J, r94 J]
  pointwise []
  simp only [up2_ix]; exact mul_comm (G := EReal) _ _

theorem r98 : res_main_v98 V0 = (up2 fun i => (d.row i).dco d.wts : S8192x1024.Idx → EReal) := by
  funext y; idx_vars y; unfold res_main_v98; rw [r25 J, r94 J]
  pointwise []
  simp only [up2_ix]; exact mul_comm (G := EReal) _ _

theorem r102 : res_main_v102 V0 = (up2 fun k j => ∑ i, (d.row i).dso d.wts j * d.b i k : S512x1024.Idx → EReal) := by
  funext y; idx_vars y; unfold res_main_v102; rw [r95 J, r1 J]
  pointwise []
  simp only [up2_ix]

theorem o125 : truncf .bf16 (Host.dotGeneral (φ₁ := .f32) (φ₂ := .f32) dot_S8192x1024_S1024x1024_S8192x1024_1_1_0_0_n_n none (res_main_v98 V0) (res_main_v6 V0)) bitsLt_bf16_f32 = (up2 fun i => (d.row i).da d.wts : S8192x1024.Idx → EReal) := by
  funext y; idx_vars y; rw [r98 J, r6 J]
  pointwise []
  simp only [up2_ix]; rfl

theorem o126 : truncf .bf16 (Host.dotGeneral (φ₁ := .f32) (φ₂ := .f32) dot_S8192x1024_S512x1024_S8192x512_1_1_0_0_n_n none (res_main_v95 V0) (res_main_v18 V0)) bitsLt_bf16_f32 = (up2 fun i => (d.row i).db d.wts : S8192x512.Idx → EReal) := by
  funext y; idx_vars y; rw [r95 J, r18 J]
  pointwise []
  simp only [up2_ix]
  refine Eq.trans ?_ (Fin.sum_mul_add_congr (S := 4) (n := 256) (f := fun j => (d.row y0).dso d.wts j * d.so (shard j) y1 (lane j)) fun s l hl => ?_).symm
  · rfl
  · obtain ⟨hs, hl'⟩ := shard_lane ⟨s.val * 256 + l.val, hl⟩ s l rfl
    rw [hs, hl']; rfl

theorem o93 : transpose S1024x1024 [1, 0] (Host.dotGeneral (φ₁ := .f32) (φ₂ := .f32) dot_S8192x1024_S8192x1024_S1024x1024_0_0_1_1_n_n none (res_main_v91 V0) (res_main_v40 V0)) transposes_S1024x1024_S1024x1024_1_0 = (up2 fun k j => ∑ i, (d.row i).mrg d.wts k * (d.row i).dout d.wts j : S1024x1024.Idx → EReal) := by
  funext y; idx_vars y; rw [r91 J, r40 J]
  pointwise []
  simp only [up2_ix, mul_comm]

theorem o120 : transpose S1024x1024 [1, 0] (Host.dotGeneral (φ₁ := .f32) (φ₂ := .f32) dot_S8192x1024_S8192x1024_S1024x1024_0_0_1_1_n_n none (res_main_v98 V0) (res_main_v0 V0)) transposes_S1024x1024_S1024x1024_1_0 = (up2 fun k j => ∑ i, d.a i k * (d.row i).dco d.wts j : S1024x1024.Idx → EReal) := by
  funext y; idx_vars y; rw [r98 J, r0 J]
  pointwise []
  simp only [up2_ix, mul_comm]

theorem o118 : addf (addf (addf (pad S4x512x256 ![3, 0, 0] ![0, 0, 0] ![0, 0, 0] (broadcastInDim S1x512x256 ![1, 2] bcast_S512x256_S1x512x256_1_2 (extractStridedSlice S512x256 ![0, 768] (res_main_v102 V0) slices_S512x1024_S512x256_0_768)) (constant S_ .f32 0x00000000#32) pads_S1x512x256_S4x512x256_300_000_000 h_S_) (pad S4x512x256 ![2, 0, 0] ![1, 0, 0] ![0, 0, 0] (broadcastInDim S1x512x256 ![1, 2] bcast_S512x256_S1x512x256_1_2 (extractStridedSlice S512x256 ![0, 512] (res_main_v102 V0) slices_S512x1024_S512x256_0_512)) (constant S_ .f32 0x00000000#32) pads_S1x512x256_S4x512x256_210_000_000 h_S_)) (pad S4x512x256 ![1, 0, 0] ![2, 0, 0] ![0, 0, 0] (broadcastInDim S1x512x256 ![1, 2] bcast_S512x256_S1x512x256_1_2 (extractStridedSlice S512x256 ![0, 256] (res_main_v102 V0) slices_S512x1024_S512x256_0_256)) (constant S_ .f32 0x00000000#32) pads_S1x512x256_S4x512x256_120_000_000 h_S_)) (pad S4x512x256 ![0, 0, 0] ![3, 0, 0] ![0, 0, 0] (broadcastInDim S1x512x256 ![1, 2] bcast_S512x256_S1x512x256_1_2 (extractStridedSlice S512x256 ![0, 0] (res_main_v102 V0) slices_S512x1024_S512x256_0_0)) (constant S_ .f32 0x00000000#32) pads_S1x512x256_S4x512x256_030_000_000 h_S_) = (up3 fun s k l => ∑ i, d.b i k * (d.row i).dso d.wts (col s l) : S4x512x256.Idx → EReal) := by
  funext y; idx_vars y; rw [r102 J]
  pointwise []
  simp only [up2_ix, up3_ix]
  have q (j : Fin 1024) (h : j = col y0 y2) : (∑ i, (d.row i).dso d.wts j * d.b i y1)
      = (∑ i, d.b i y1 * (d.row i).dso d.wts (col y0 y2)) := by
    rw [h]; exact Finset.sum_congr rfl fun i _ => mul_comm _ _
  have h4 := y0.isLt
  rcases (by omega : y0.val = 0 ∨ y0.val = 1 ∨ y0.val = 2 ∨ y0.val = 3) with h | h | h | h
  · rw [dif_neg (by omega), dif_neg (by omega), dif_neg (by omega), dif_pos (by omega), add_zero, add_zero, zero_add]
    exact q _ (Fin.ext (by show y2.val = y0.val * 256 + y2.val; omega))
  · rw [dif_neg (by omega), dif_neg (by omega), dif_pos (by omega), dif_neg (by omega), add_zero, add_zero, zero_add]
    exact q _ (Fin.ext (by show 256 + y2.val = y0.val * 256 + y2.val; omega))
  · rw [dif_neg (by omega), dif_pos (by omega), dif_neg (by omega), dif_neg (by omega), add_zero, add_zero, zero_add]
    exact q _ (Fin.ext (by show 512 + y2.val = y0.val * 256 + y2.val; omega))
  · rw [dif_pos (by omega), dif_neg (by omega), dif_neg (by omega), dif_neg (by omega), add_zero, add_zero, add_zero]
    exact q _ (Fin.ext (by show 768 + y2.val = y0.val * 256 + y2.val; omega))

theorem o75 : shapeCast _ (Host.reduceAdd (mulf (res_main_v54 V0) (res_main_v72 V0)) (constant S_ .f32 0x00000000#32) reducesTo_S8192x1024_S1024_d0 h_S_) shapeCasts_S1024_S1x1024 = (up2 fun _ j => ∑ i, (d.row i).dy d.wts j * (d.row i).on d.wts j : S1x1024.Idx → EReal) := by
  funext y; idx_vars y; rw [r54 J, r72 J]
  pointwise []
  simp only [up2_ix, mul_comm]

theorem o127 : broadcastInDim S1x128 ![] bcast_S_S1x128 (mulf (constant S_ .f32 0x3F000000#32) (Host.reduceAdd (Host.divf (Host.reduceAdd (mulf (res_main_v58 V0) (res_main_v58 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) = (up2 fun _ _ => ∑ i, k2048 * ∑ j, (d.row i).e d.wts j * (d.row i).e d.wts j : S1x128.Idx → EReal) := by
  funext y; idx_vars y; rw [r58 J]
  pointwise []
  simp only [up2_ix, ofBits_half, ofBits_1024, div_1024]
  rw [mul_sum_real (by norm_num)]
  refine Finset.sum_congr rfl fun i _ => ?_
  rw [mul_comm _ k1024, ← mul_assoc]
  refine congrArg (· * _) ?_
  unfold k1024 k2048; rw [← EReal.coe_mul]; norm_num

theorem o124 (j : S8192x6144.Idx) (hj : 4096 ≤ (j 1).val) : (truncf .bf16 ((concatenate S8192x6144 1 [⟨S8192x4096, ((broadcastInDim S8192x4096 ![] bcast_S_S8192x4096 (constant (F := Ideal) S_ .f32 0x00000000#32)) : (⟨S8192x4096, .f32⟩ : BufTy).Contents (Elt Ideal))⟩, ⟨S8192x1024, ((mulf (mulf (res_main_v94 V0) (res_main_v9 V0)) (mulf (res_main_v25 V0) (subf (broadcastInDim S8192x1024 ![] bcast_S_S8192x1024 (constant (F := Ideal) S_ .f32 0x3F800000#32)) (res_main_v25 V0)))) : (⟨S8192x1024, .f32⟩ : BufTy).Contents (Elt Ideal))⟩, ⟨S8192x1024, ((mulf (mulf (res_main_v94 V0) (res_main_v19 V0)) (mulf (res_main_v35 V0) (subf (broadcastInDim S8192x1024 ![] bcast_S_S8192x1024 (constant (F := Ideal) S_ .f32 0x3F800000#32)) (res_main_v35 V0)))) : (⟨S8192x1024, .f32⟩ : BufTy).Contents (Elt Ideal))⟩] concatenates_S8192x4096_S8192x1024_S8192x1024_S8192x6144_d1 : (⟨S8192x6144, .f32⟩ : BufTy).Contents (Elt Ideal))) bitsLt_bf16_f32 : FVec Ideal S8192x6144 .bf16) j = gates d j := by
  rw [r94 J, r9 J, r25 J, r19 J, r35 J]
  idx_vars j
  pointwise []
  have hb : j1.val < 6144 := j1.isLt
  rw [dif_neg (by omega)]
  simp only [up2_ix]
  by_cases h : j1.val < 5120
  · rw [dif_pos (by omega)]
    have g : gates d (ix2 j0 j1) = (d.row j0).dgc d.wts ⟨j1.val - 4096, by omega⟩ := dif_pos h
    rw [g, Row.dgc, ← mul_assoc]
  · rw [dif_neg (by omega)]
    have g : gates d (ix2 j0 j1) = (d.row j0).dgs d.wts ⟨j1.val - 5120, by omega⟩ := dif_neg h
    have e : (⟨j1.val - 4096 - 1024, by omega⟩ : Fin 1024) = ⟨j1.val - 5120, by omega⟩ := Fin.ext (by show _ - _ - _ = _ - _; omega)
    rw [g, Row.dgs, ← mul_assoc, e]

end Cert.Tail

end
-- ==== Proof.Args.lean ====
/- The arguments as the functions of `Blocks`, and the written columns: a column the kernel writes of its fourth result lies
   after the first 4096. -/
module

public import proofs.«01_k».proof.Proof.Blocks
public import proofs.«01_k».proof.Proof.Gen.On_written
public import Idealize.ShloMosaic.Lib.WordCmp

@[expose] public section

noncomputable section

namespace Cert.Tail
open Idealize.ShloMosaic

/-- A matrix, and a stack of matrices, as the functions they are. -/
theorem eq_up2 {m n : ℕ} (x : (⟨2, ![m, n]⟩ : Shape).Idx → EReal) : x = up2 fun i j => x (ix2 i j) :=
  funext fun y => congrArg x (eq_ix2 y)

theorem eq_up3 {l m n : ℕ} (x : (⟨3, ![l, m, n]⟩ : Shape).Idx → EReal) : x = up3 fun i j k => x (ix3 i j k) :=
  funext fun y => congrArg x (eq_ix3 y)

/-- Any arguments are the functions of their entries. -/
theorem exists_data (a0 : FVec Ideal KernelIdeal.S8192x1024 .bf16) (a1 : FVec Ideal KernelIdeal.S8192x512 .bf16)
    (a2 : FVec Ideal KernelIdeal.S8192x6144 .bf16) (a3 a4 : FVec Ideal KernelIdeal.S8192x1024 .f32)
    (a5 : FVec Ideal KernelIdeal.S1024x1024 .bf16) (a6 : FVec Ideal KernelIdeal.S4x512x256 .bf16)
    (a7 : FVec Ideal KernelIdeal.S1024x1024 .bf16) (a8 : FVec Ideal KernelIdeal.S1x1024 .f32) :
    ∃ d : Data, Is d a0 a1 a2 a3 a4 a5 a6 a7 a8 := by
  refine ⟨⟨_, _, _, _, _, _, _, _, fun j => a8 (ix2 0 j)⟩, eq_up2 a0, eq_up2 a1, eq_up2 a2, eq_up2 a3, eq_up2 a4, eq_up2 a5,
    eq_up3 a6, eq_up2 a7, (eq_up2 a8).trans ?_⟩
  funext y; idx_vars y
  have e : y0 = 0 := Subsingleton.elim _ _
  rw [e]; rfl

/-- A column that is written of the gradient of the projection is one of the gates'. -/
theorem written (a0 : FVec Ideal KernelIdeal.S8192x1024 .bf16) (a1 : FVec Ideal KernelIdeal.S8192x512 .bf16)
    (a2 : FVec Ideal KernelIdeal.S8192x6144 .bf16) (a3 a4 : FVec Ideal KernelIdeal.S8192x1024 .f32)
    (a5 : FVec Ideal KernelIdeal.S1024x1024 .bf16) (a6 : FVec Ideal KernelIdeal.S4x512x256 .bf16)
    (a7 : FVec Ideal KernelIdeal.S1024x1024 .bf16) (a8 : FVec Ideal KernelIdeal.S1x1024 .f32) (j : KernelIdeal.S8192x6144.Idx)
    (h : (On_written.fn (F := Ideal) a0 a1 a2 a3 a4 a5 a6 a7 a8).2.2.2.1 j = 1#1) : 4096 ≤ (j 1).val := by
  have hb : (j 1).val < 6144 := (j 1).isLt
  exact (WordCmp.cmpi_sge_ofNat_eq_one_iff (by omega) (by norm_num)).1 h

end Cert.Tail

end
-- ==== Proof.Main.lean ====
/- The kernel's results are the reference's: both are the functions of `Spec` on the arguments' entries. -/
module

public import proofs.«01_k».proof.Defs
public import proofs.«01_k».proof.Proof.Ref
public import proofs.«01_k».proof.Proof.Args

@[expose] public section

noncomputable section

namespace Cert.Tail
open Idealize.ShloMosaic Idealize.ShloMosaic.TcCoe Idealize.SL.Sem Idealize.ShloMosaic.StableHlo

theorem algebraic : Cert.algebraic_KernelIdeal_ReferenceIdeal_on_written := by
  intro m g m' g' _ hagree
  choose d hd using fun c => exists_data
    (launchContents m c (Proc.devRef .tc KernelIdeal.main_arg0)) (launchContents m c (Proc.devRef .tc KernelIdeal.main_arg1))
    (launchContents m c (Proc.devRef .tc KernelIdeal.main_arg2)) (launchContents m c (Proc.devRef .tc KernelIdeal.main_arg3))
    (launchContents m c (Proc.devRef .tc KernelIdeal.main_arg4)) (launchContents m c (Proc.devRef .tc KernelIdeal.main_arg5))
    (launchContents m c (Proc.devRef .tc KernelIdeal.main_arg6)) (launchContents m c (Proc.devRef .tc KernelIdeal.main_arg7))
    (launchContents m c (Proc.devRef .tc KernelIdeal.main_arg8))
  have hJ (c) : Is (d c)
      (launchContents m' c (Proc.devRef .tc ReferenceIdeal.main_arg0)) (launchContents m' c (Proc.devRef .tc ReferenceIdeal.main_arg1))
      (launchContents m' c (Proc.devRef .tc ReferenceIdeal.main_arg2)) (launchContents m' c (Proc.devRef .tc ReferenceIdeal.main_arg3))
      (launchContents m' c (Proc.devRef .tc ReferenceIdeal.main_arg4)) (launchContents m' c (Proc.devRef .tc ReferenceIdeal.main_arg5))
      (launchContents m' c (Proc.devRef .tc ReferenceIdeal.main_arg6)) (launchContents m' c (Proc.devRef .tc ReferenceIdeal.main_arg7))
      (launchContents m' c (Proc.devRef .tc ReferenceIdeal.main_arg8)) := by
    obtain ⟨e0, e1, e2, e3, e4, e5, e6, e7, e8⟩ := hagree c
    exact ⟨e0.trans (hd c).h0, e1.trans (hd c).h1, e2.trans (hd c).h2, e3.trans (hd c).h3, e4.trans (hd c).h4,
      e5.trans (hd c).h5, e6.trans (hd c).h6, e7.trans (hd c).h7, e8.trans (hd c).h8⟩
  refine ⟨fun c => up2 fun i => ((d c).row i).dy (d c).wts, fun c => up2 fun i => ((d c).row i).da (d c).wts,
    fun c => up2 fun i => ((d c).row i).db (d c).wts, fun c => gates (d c),
    fun c => up2 fun k j => ∑ i, ((d c).row i).mrg (d c).wts k * ((d c).row i).dout (d c).wts j,
    fun c => up2 fun k j => ∑ i, (d c).a i k * ((d c).row i).dco (d c).wts j,
    fun c => up3 fun s k l => ∑ i, (d c).b i k * ((d c).row i).dso (d c).wts (col s l),
    fun c => up2 fun _ j => ∑ i, ((d c).row i).dy (d c).wts j * ((d c).row i).on (d c).wts j,
    fun c => up2 fun _ _ => ∑ i, k2048 * ∑ j, ((d c).row i).e (d c).wts j * ((d c).row i).e (d c).wts j, ?_, ?_⟩
  · refine (θ_run _ _ _).mono (fun r h c => ?_) (Cert.KernelIdeal.Value.run_blocks m g)
    obtain ⟨h0, h1, h2, h3, h4, h5, h6, h7, h8, hk⟩ := h c
    exact ⟨fun i _ => congrFun (h0.trans (arr10 (hd c))) i, fun i _ => congrFun (h1.trans (arr11 (hd c))) i,
      fun i _ => congrFun (h2.trans (arr12 (hd c))) i,
      fun i hi => (congrFun h3 i).trans (arr13 (hd c) i (written _ _ _ _ _ _ _ _ _ i hi)),
      fun i _ => congrFun (h4.trans (arr14 (hd c))) i, fun i _ => congrFun (h5.trans (arr15 (hd c))) i,
      fun i _ => congrFun (h6.trans (arr16 (hd c))) i, fun i _ => congrFun (h7.trans (arr17 (hd c))) i,
      fun i _ => congrFun (h8.trans (arr18 (hd c))) i, hk⟩
  · refine (θ_run _ _ _).mono (fun r h c => ?_) (Cert.ReferenceIdeal.Value.run (F := Ideal) m' g')
    obtain ⟨h0, h1, h2, h3, h4, h5, h6, h7, h8, hk⟩ := h c
    exact ⟨fun i _ => congrFun (h0.trans (r72 (hJ c))) i, fun i _ => congrFun (h1.trans (o125 (hJ c))) i,
      fun i _ => congrFun (h2.trans (o126 (hJ c))) i,
      fun i hi => (congrFun h3 i).trans (o124 (hJ c) i (written _ _ _ _ _ _ _ _ _ i hi)),
      fun i _ => congrFun (h4.trans (o93 (hJ c))) i, fun i _ => congrFun (h5.trans (o120 (hJ c))) i,
      fun i _ => congrFun (h6.trans (o118 (hJ c))) i, fun i _ => congrFun (h7.trans (o75 (hJ c))) i,
      fun i _ => congrFun (h8.trans (o127 (hJ c))) i, hk⟩

end Cert.Tail

end
-- ==== Proof.WinGrad.lean ====
/- The gradient of the input projection's weights: the kernel goes through four column shards, and in each adds up the
   products of four blocks of the sequence in a scratch, which it writes out after the fourth. -/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.WinGrad
open Idealize.ShloMosaic Idealize.ShloMosaic.TcCoe Idealize.SL.Sem
open Cert.Kernel2Ideal Cert.Kernel2Ideal.Gen

/-- What a block of the sequence adds to entry `y`. -/
def term (x : Vec Ideal S2048x1024 .bf16) (d : Vec Ideal S2048x1536 .bf16) (y : S1024x1536.Idx) : EReal :=
  ∑ p : Fin 2048, (x (ix2 p (y 0)) : EReal) * (d (ix2 p (y 1)) : EReal)

theorem pay1 (y) : k0_pay1 (F := Ideal) y = (0 : EReal) := by pointwise [k0_pay1]

theorem pay2 (acc x d y) : k0_pay2 (F := Ideal) acc x d y = (acc y : EReal) + term x d y := by
  idx_vars y
  pointwise [k0_pay2]
  rfl

theorem pay3 (acc : Vec Ideal S1024x1536 .f32) (y) : k0_pay3 (F := Ideal) acc y = acc (ix2 (y 1) (y 2)) := by
  idx_vars y
  pointwise [k0_pay3]

variable (m : (ℓ : Loc nD τ sig) → Buf (Elt Ideal) ℓ) (c : Dev nD)

theorem scratchA (t : Fin cfg0.N) (h : t.val % 4 = 0) (y) :
    (outsAt0 m c t.val t.isLt).2 y = (0 : EReal) + term (iblk m c 0 t) (iblk m c 1 t) y := by
  rw [outsAt0_A m c t h (by omega)]; frame_out
  rw [pay2, pay1]

theorem scratchB (t : Fin cfg0.N) (h : ¬t.val % 4 = 0) (y) :
    (outsAt0 m c t.val t.isLt).2 y =
      ((outsAt0 m c (t.val - 1) (Nat.lt_of_le_of_lt (Nat.sub_le _ _) t.isLt)).2 y : EReal) + term (iblk m c 0 t) (iblk m c 1 t) y := by
  by_cases h' : t.val % 4 = 3
  · rw [outsAt0_C m c t h h']; frame_out
    rw [pay2]; exact congrArg (· + _) (congrFun (Memref.IsWhole.read_unread _ _) y)
  · rw [outsAt0_B m c t h h']; frame_out
    rw [pay2]; exact congrArg (· + _) (congrFun (Memref.IsWhole.read_unread _ _) y)

theorem outC (t : Fin cfg0.N) (h : t.val % 4 = 3) (y) :
    (outsAt0 m c t.val t.isLt).1 y = ((outsAt0 m c t.val t.isLt).2 (ix2 (y 1) (y 2)) : EReal) := by
  rw [outsAt0_C m c t (by omega) h]; dsimp only; frame_out
  rw [pay3]

theorem idx_out : ∀ t : Fin cfg0.N, win0_2.index t = ![t.val / 4, 0, 0] := (by decide +kernel : ∀ t : Fin grid0.N, _)
theorem idx_h : ∀ t : Fin cfg0.N, win0_0.index t = ![t.val % 4, 0] := (by decide +kernel : ∀ t : Fin grid0.N, _)
theorem idx_d : ∀ t : Fin cfg0.N, win0_1.index t = ![t.val % 4, t.val / 4] := (by decide +kernel : ∀ t : Fin grid0.N, _)

/-- The gradient of the weights, in four column shards: over the sequence, the inputs times the gradients of the outputs. -/
def grad (h : S8192x1024.Idx → EReal) (d : S8192x6144.Idx → EReal) (j : S4x1024x1536.Idx) : EReal :=
  ∑ i : Fin 8192, h (ix2 i (j 1)) * d (ix2 i ⟨(j 0).val * 1536 + (j 2).val, by
    have h0 : (j 0).val < 4 := (j 0).isLt
    have h2 : (j 2).val < 1536 := (j 2).isLt
    omega⟩)

theorem arr : (dats m 0 c).arrAt 2 cfg0.N = grad (V m c main_arg0) (V m c main_arg1) := by
  refine (dats m 0 c).arrAt_eq_of_covers 2 _ (by decide +kernel) fun t hf y => ?_
  have h3 : t.val % 4 = 3 := (flush0_2 t).mp hf
  blk_simp
  rw [after0_2, outC m c t h3, Pipeline.eq_sum_fin_of_reset_step_apply_of_flush (fun n h => (outsAt0 m c n h).2) 4 (fun _ => 0) _
    (fun t h y => scratchA m c t h y) (fun t h y => scratchB m c t h y) t h3 _, zero_add]
  unfold grad term
  refine Fin.sum_mul_add_congr fun s k hl => ?_
  congr 1 <;> blk_ext [iblk, V, idx_h ⟨_, Pipeline.run_point_lt_of_flush t h3 s⟩, idx_d ⟨_, Pipeline.run_point_lt_of_flush t h3 s⟩, idx_out t]

end Cert.WinGrad

end
-- ==== Proof.WinRef.lean ====
/- The gradient of the input projection's weights in the reference, and the claim that the kernel computes it. -/
module

public import proofs.«01_k».proof.Defs
public import proofs.«01_k».proof.Proof.WinGrad
public import proofs.«01_k».proof.Proof.Gen.Reference2Ideal.Run
public import Idealize.ShloMosaic.Lib.Quiescent

@[expose] public section

set_option maxRecDepth 16384

noncomputable section

namespace Cert.WinGrad
open Idealize.ShloMosaic Idealize.ShloMosaic.TcCoe Idealize.SL.Sem Idealize.ShloMosaic.StableHlo

section
open Cert.Reference2Ideal Cert.Reference2Ideal.Gen

variable (h : FVec Ideal S8192x1024 .bf16) (d : FVec Ideal S8192x6144 .bf16)

/-- The reference's whole gradient, before it is cut into shards. -/
def whole : FVec Ideal S1024x6144 .f32 :=
  transpose S1024x6144 [1, 0] (Host.dotGeneral dot_S8192x6144_S8192x1024_S6144x1024_0_0_1_1_n_n none
    (extf .f32 d bitsLt_bf16_f32) (extf .f32 h bitsLt_bf16_f32)) transposes_S6144x1024_S1024x6144_1_0

theorem whole_at (y) : whole h d y = ∑ i : Fin 8192, (h (ix2 i (y 0)) : EReal) * (d (ix2 i (y 1)) : EReal) := by
  idx_vars y
  pointwise [whole]
  exact Finset.sum_congr rfl fun i _ => mul_comm (G := EReal) _ _

/-- The four shards, stacked. -/
theorem stacked (w : FVec Ideal S1024x6144 .f32) (y : S4x1024x1536.Idx) : (truncf .bf16 ((concatenate S4x1024x1536 0
    [⟨S1x1024x1536, (broadcastInDim S1x1024x1536 ![1, 2] bcast_S1024x1536_S1x1024x1536_1_2 (extractStridedSlice S1024x1536 ![0, 0] w slices_S1024x6144_S1024x1536_0_0) : FVec Ideal S1x1024x1536 .f32)⟩,
     ⟨S1x1024x1536, (broadcastInDim S1x1024x1536 ![1, 2] bcast_S1024x1536_S1x1024x1536_1_2 (extractStridedSlice S1024x1536 ![0, 1536] w slices_S1024x6144_S1024x1536_0_1536) : FVec Ideal S1x1024x1536 .f32)⟩,
     ⟨S1x1024x1536, (broadcastInDim S1x1024x1536 ![1, 2] bcast_S1024x1536_S1x1024x1536_1_2 (extractStridedSlice S1024x1536 ![0, 3072] w slices_S1024x6144_S1024x1536_0_3072) : FVec Ideal S1x1024x1536 .f32)⟩,
     ⟨S1x1024x1536, (broadcastInDim S1x1024x1536 ![1, 2] bcast_S1024x1536_S1x1024x1536_1_2 (extractStridedSlice S1024x1536 ![0, 4608] w slices_S1024x6144_S1024x1536_0_4608) : FVec Ideal S1x1024x1536 .f32)⟩]
    concatenates_S1x1024x1536_S1x1024x1536_S1x1024x1536_S1x1024x1536_S4x1024x1536_d0 : FVec Ideal S4x1024x1536 .f32)) bitsLt_bf16_f32 : FVec Ideal S4x1024x1536 .bf16) y =
    w (ix2 (y 1) ⟨(y 0).val * 1536 + (y 2).val, by
      have h0 : (y 0).val < 4 := (y 0).isLt
      have h2 : (y 2).val < 1536 := (y 2).isLt
      omega⟩) := by
  idx_vars y
  pointwise []
  split_ifs <;> refine congrArg w (congrArg (ix2 y1) (Fin.ext ?_)) <;> dsimp only <;> omega

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.Reference2Ideal.Value.run (F := Ideal) m g)

end

theorem algebraic : Cert.algebraic_Kernel2Ideal_Reference2Ideal := by
  intro m g m' g' _ hagree
  refine ⟨fun c => grad (launchContents m c (Proc.devRef .tc Kernel2Ideal.main_arg0))
    (launchContents m c (Proc.devRef .tc Kernel2Ideal.main_arg1)), ?_, ?_⟩
  · refine (θ_run _ _ _).mono (fun r h c => ?_) (Cert.Kernel2Ideal.Value.run_blocks m g)
    exact ⟨(h c).1.trans (arr m c), (h c).2⟩
  · refine (θ_run _ _ _).mono (fun r h c => ?_) (Cert.Reference2Ideal.Value.run (F := Ideal) m' g')
    refine ⟨(h c).1.trans ?_, (h c).2⟩
    funext y
    refine (stacked (whole (m' ((c.tc : Thread Reference2Ideal.nD Reference2Ideal.τ).loc Reference2Ideal.main_arg0))
      (m' ((c.tc : Thread Reference2Ideal.nD Reference2Ideal.τ).loc Reference2Ideal.main_arg1))) y).trans ?_
    rw [whole_at, (hagree c).1, (hagree c).2]
    rfl

end Cert.WinGrad

end
-- ==== Proof.Words.lean ====
/- The remainder by four as the programs compute it: the signed remainder, and four more where that is negative. It is the
   word's remainder by four. -/
module

public import Idealize.ShloMosaic.Lib.Affine
public import Idealize.ShloMosaic.Lib.WordCmp

@[expose] public section

namespace Cert.Words
open Idealize.ShloMosaic

/-- The signed remainder by four is a whole number between -4 and 4, with the same remainder by four as the word. -/
theorem srem_four (x : BitVec 32) : ∃ k : Int, x.srem 4#32 = BitVec.ofInt 32 k ∧ k % 4 = (x.toNat % 4 : ℕ) ∧ -4 < k ∧ k < 4 := by
  have h1 := Int.tmod_lt_of_pos x.toInt (b := 4) (by decide)
  have h2 := Int.lt_tmod_of_pos x.toInt (b := 4) (by decide)
  refine ⟨x.toInt.tmod 4, ?_, ?_, h2, h1⟩
  · apply BitVec.eq_of_toInt_eq
    rw [BitVec.toInt_srem, BitVec.toInt_ofInt]
    show x.toInt.tmod 4 = _
    rw [Int.bmod_eq_of_le] <;> omega
  · have hx := BitVec.toInt_eq_toNat_cond x
    have hd : x.toInt = 4 * x.toInt.tdiv 4 + x.toInt.tmod 4 := (Int.mul_tdiv_add_tmod _ _).symm
    have := x.isLt
    split at hx <;> omega

/-- The remainder by four of the device's word. -/
theorem mod_four (x : BitVec 32) :
    Scalar.select (Scalar.andi (Scalar.xori (Scalar.cmpi .slt (Scalar.remsi x 4#32) 0#32) (Scalar.cmpi .slt 4#32 0#32))
      (Scalar.cmpi .ne (Scalar.remsi x 4#32) 0#32)) (Scalar.addi (Scalar.remsi x 4#32) 4#32) (Scalar.remsi x 4#32) =
    BitVec.ofNat 32 (x.toNat % 4) := by
  obtain ⟨k, h, hk, h1, h2⟩ := srem_four x
  have e : Scalar.remsi x 4#32 = BitVec.ofInt 32 k := by
    rw [← h]; exact IntOp.remsi_of_pos _ (by decide)
  rw [e]
  generalize x.toNat % 4 = n at hk
  obtain rfl : n = (k % 4).toNat := by omega
  have : k = -3 ∨ k = -2 ∨ k = -1 ∨ k = 0 ∨ k = 1 ∨ k = 2 ∨ k = 3 := by omega
  rcases this with rfl | rfl | rfl | rfl | rfl | rfl | rfl <;> decide

/-- The same, where the two signs are compared instead of combined. -/
theorem mod_four_ne (x : BitVec 32) :
    Scalar.select (Scalar.andi (Scalar.cmpi .ne (Scalar.cmpi .slt (Scalar.remsi x 4#32) 0#32) (Scalar.cmpi .slt 4#32 0#32))
      (Scalar.cmpi .ne (Scalar.remsi x 4#32) 0#32)) (Scalar.addi (Scalar.remsi x 4#32) 4#32) (Scalar.remsi x 4#32) =
    BitVec.ofNat 32 (x.toNat % 4) := by
  rw [← mod_four]
  generalize Scalar.cmpi .slt (Scalar.remsi x 4#32) 0#32 = b
  revert b
  have h : ∀ b : BitVec 1, Scalar.cmpi .ne b (Scalar.cmpi .slt 4#32 0#32) = Scalar.xori b (Scalar.cmpi .slt 4#32 0#32) := by decide
  intro b
  rw [h]

/-- The same in host code. -/
theorem host_mod_four (x : BitVec 32) :
    Scalar.select (IntOp.andi (IntOp.cmpi .ne (IntOp.cmpi .slt (IntOp.remsi .host x 4#32) 0#32) (IntOp.cmpi .slt 4#32 0#32))
      (IntOp.cmpi .ne (IntOp.remsi .host x 4#32) 0#32)) (IntOp.addi (IntOp.remsi .host x 4#32) 4#32) (IntOp.remsi .host x 4#32) =
    BitVec.ofNat 32 (x.toNat % 4) := by
  have e : IntOp.remsi .host x 4#32 = Scalar.remsi x 4#32 :=
    (IntOp.remsi_of_pos _ (by decide)).trans (IntOp.remsi_of_pos _ (by decide)).symm
  rw [e]
  exact mod_four_ne x

/-- Whether a column lies in a shard of 1536 columns. -/
theorem mask {n j : ℕ} (hn : n < 4) (hj : j < 6144) :
    IntOp.andi (IntOp.cmpi .sge (BitVec.ofNat 32 j) (IntOp.muli (BitVec.ofNat 32 n) 1536#32))
      (IntOp.cmpi .slt (BitVec.ofNat 32 j) (IntOp.addi (IntOp.muli (BitVec.ofNat 32 n) 1536#32) 1536#32)) =
    BitVec.ofBool (decide (j / 1536 = n)) := by
  have e1 : IntOp.muli (BitVec.ofNat 32 n) 1536#32 = BitVec.ofNat 32 (n * 1536) := (BitVec.ofNat_mul _ _).symm
  have e2 : IntOp.addi (BitVec.ofNat 32 (n * 1536)) 1536#32 = BitVec.ofNat 32 (n * 1536 + 1536) := (BitVec.ofNat_add _ _).symm
  have h1 : n * 1536 + 1536 < 2 ^ (32 - 1) := by show _ < 2147483648; omega
  have h2 : j < 2 ^ (32 - 1) := by show _ < 2147483648; omega
  have h3 : n * 1536 < 2 ^ (32 - 1) := by show _ < 2147483648; omega
  rw [e1, e2, WordCmp.cmpi_sge_eq, WordCmp.cmpi_slt_eq, WordCmp.toInt_ofNat_of_lt h1, WordCmp.toInt_ofNat_of_lt h2, WordCmp.toInt_ofNat_of_lt h3, WordCmp.andi_ofBool,
    ← Bool.decide_and]
  exact congrArg BitVec.ofBool (decide_eq_decide.mpr (by omega))

end Cert.Words

end
-- ==== Proof.ProjMap.lean ====
/- The column shard that a grid row of the input projection reads and writes: the remainder by four of the device's word, plus
   one, plus the row. It names a shard for every word. -/
module

public import proofs.«01_k».proof.Defs
public import proofs.«01_k».proof.Proof.Words
public import proofs.«01_k».proof.Proof.Gen.Kernel3Ideal.Frame
public import proofs.«01_k».proof.Proof.Gen.Kernel3.Frame

@[expose] public section

set_option maxRecDepth 16384

namespace Cert.Proj
open Idealize.ShloMosaic Idealize.ShloMosaic.TcCoe Idealize.SL.Sem
open Cert.Kernel3Ideal Cert.Kernel3Ideal.Gen

variable {F : FTy → Type} [FloatOps F]

/-- The word of a table. -/
abbrev word (pf : pre0.Contents (Elt F)) : BitVec 32 := pf.at 0 (Rect.unit (s := S1) ![0] S1.size inb_S1_S1_0) numel1_S1

/-- The shard of a grid row. -/
def shard (k : BitVec 32) (j : ℕ) : ℕ := (k.toNat + 1 + j) % 4

theorem shard_lt (k : BitVec 32) (j : ℕ) : shard k j < 4 := Nat.mod_lt _ (by decide)

theorem word_mod (k : BitVec 32) (j : ℕ) (hj : j < 3) :
    (Scalar.select (Scalar.andi (Scalar.xori (Scalar.cmpi .slt (Scalar.remsi (Scalar.addi (Scalar.addi k 1#32) (BitVec.ofNat 32 j)) 4#32) 0#32)
      (Scalar.cmpi .slt 4#32 0#32)) (Scalar.cmpi .ne (Scalar.remsi (Scalar.addi (Scalar.addi k 1#32) (BitVec.ofNat 32 j)) 4#32) 0#32))
      (Scalar.addi (Scalar.remsi (Scalar.addi (Scalar.addi k 1#32) (BitVec.ofNat 32 j)) 4#32) 4#32)
      (Scalar.remsi (Scalar.addi (Scalar.addi k 1#32) (BitVec.ofNat 32 j)) 4#32)).toNat = shard k j := by
  rw [Words.mod_four]
  have h1 : (Scalar.addi (Scalar.addi k 1#32) (BitVec.ofNat 32 j)).toNat = ((k.toNat + 1) % 2 ^ 32 + j % 2 ^ 32) % 2 ^ 32 := rfl
  rw [h1, BitVec.toNat_ofNat]
  unfold shard
  omega

theorem map_w (pf : pre0.Contents (Elt F)) (i : grid0.Coords) :
    cc0_transform_1 inb_S1_S1_0 numel1_S1 pf i = ![shard (word pf) (i 0).val, 0, 0] := by
  have := word_mod (word pf) (i 0).val (i 0).isLt
  exact congrArg (fun n : ℕ => ![n, 0, 0]) this

theorem map_out (pf : pre0.Contents (Elt F)) (i : grid0.Coords) :
    cc0_transform_3 inb_S1_S1_0 numel1_S1 pf i = ![(i 1).val, shard (word pf) (i 0).val] := by
  have h := word_mod (word pf) (i 0).val (i 0).isLt
  have h1 : (i 1).val < 8 := (i 1).isLt
  have e : (BitVec.ofNat 32 (i 1).val).toNat = (i 1).val := by rw [BitVec.toNat_ofNat]; omega
  exact (congrArg (fun n : ℕ => ![(BitVec.ofNat 32 (i 1).val).toNat, n]) h).trans (congrArg (fun n : ℕ => ![n, _]) e)

/-- Every block lies inside its array, whatever the table holds. -/
theorem ok_table (pf : pre0.Contents (Elt F)) : ok0 pf := by
  constructor
  · intro i
    have hs := shard_lt (word pf) (i 0).val
    refine ⟨?_, .inr (Affine.block_words_dvd (of_decide_eq_true rfl) (by decide))⟩
    rw [map_w]
    intro a
    match a with
    | 0 => show (shard _ _ + 1) * 1 ≤ 4; omega
    | 1 => show (0 + 1) * 1024 ≤ 1024; omega
    | 2 => show (0 + 1) * 1536 ≤ 1536; omega
  · intro i
    have hs := shard_lt (word pf) (i 0).val
    have h1 : (i 1).val < 8 := (i 1).isLt
    refine ⟨?_, .inr (Affine.block_words_dvd (of_decide_eq_true rfl) (by decide))⟩
    rw [map_out]
    intro a
    match a with
    | 0 => show ((i 1).val + 1) * 1024 ≤ 8192; omega
    | 1 => show (shard _ _ + 1) * 1536 ≤ 6144; omega

/-- The pipeline's side condition holds of every memory. -/
theorem ok (m : (ℓ : Loc nD τ sig) → Buf (Elt F) ℓ) : Ok m := ok_table _

/-- The same of the program read at words, whose text is the same. -/
theorem ok_words (m : (ℓ : Loc Kernel3.nD Kernel3.τ Kernel3.sig) → Buf (Elt Bits) ℓ) : Kernel3.Gen.Ok m := ok_table (F := Bits) (Kernel3.Gen.tbl m)

end Cert.Proj

end
-- ==== Proof.Proj.lean ====
/- The input projection outside the device's own column shard: the array the kernel leaves. -/
module

public import proofs.«01_k».proof.Proof.ProjMap
public import Idealize.ShloMosaic.Lib.Pointwise
public import Idealize.ShloMosaic.Lib.Pipeline.ValueKit

@[expose] public section

set_option maxRecDepth 16384

noncomputable section

namespace Cert.Proj
open Idealize.ShloMosaic Idealize.ShloMosaic.TcCoe Idealize.SL.Sem Idealize.ShloMosaic.StableHlo
open Cert.Kernel3Ideal Cert.Kernel3Ideal.Gen

theorem pay (x : Vec Ideal S1024x1024 .bf16) (w : Vec Ideal S1x1024x1536 .bf16) (y) :
    k0_pay1 (F := Ideal) x w y = ∑ d : Fin 1024, (x (ix2 (y 0) d) : EReal) * (w (ix3 0 d (y 1)) : EReal) := by
  idx_vars y
  pointwise [k0_pay1]

/-- The projection: entry (i, j) is the product of row `i` with column `j`, which lies in shard `j / 1536`. -/
def proj (h : S8192x1024.Idx → EReal) (w : S4x1024x1536.Idx → EReal) (j : S8192x6144.Idx) : EReal :=
  ∑ d : Fin 1024, h (ix2 (j 0) d) * w (ix3 ⟨(j 1).val / 1536, by have := (j 1).isLt; change _ < 6144 at this; omega⟩ d
    ⟨(j 1).val % 1536, Nat.mod_lt _ (by decide)⟩)

theorem coords : ∀ t : Fin grid0.N, (grid0.coords t 0).val = t.val / 8 ∧ (grid0.coords t 1).val = t.val % 8 := by decide +kernel

variable (m : (ℓ : Loc nD τ sig) → Buf (Elt Ideal) ℓ) (c : Dev nD)

/-- The device's word. -/
abbrev k : BitVec 32 := word (tbl m)

theorem idx_h (t : Fin (cfgM m (ok m)).N) : ((cfgM m (ok m)).win 0).index t = ![t.val % 8, 0] := by
  have : ∀ t : Fin grid0.N, cc0_transform_0 (grid0.coords t) = ![t.val % 8, 0] := by decide +kernel
  exact this t
theorem idx_w (t : Fin (cfgM m (ok m)).N) : ((cfgM m (ok m)).win 1).index t = ![shard (k m) (t.val / 8), 0, 0] :=
  (map_w (tbl m) (grid0.coords t)).trans (by rw [(coords t).1])
theorem idx_out (t : Fin (cfgM m (ok m)).N) : ((cfgM m (ok m)).win 2).index t = ![t.val % 8, shard (k m) (t.val / 8)] :=
  (map_out (tbl m) (grid0.coords t)).trans (by rw [(coords t).1, (coords t).2])

/-- Every grid point writes its block back: its successor's is another row block. -/
theorem flush (t : Fin (cfgM m (ok m)).N) : ((cfgM m (ok m)).win 2).flush t = true := by
  have hN : t.val < 24 := t.isLt
  unfold Pipeline.Window.flush
  rw [Bool.and_eq_true]
  refine ⟨rfl, ?_⟩
  rw [Bool.or_eq_true, decide_eq_true_eq, decide_eq_true_eq]
  by_cases h : t.val + 1 < 24
  · refine .inr ⟨h, fun e => ?_⟩
    rw [idx_out, idx_out] at e
    have := congrFun e 0
    change (t.val + 1) % 8 = t.val % 8 at this
    omega
  · exact .inl (by show t.val + 1 = 24; omega)

/-- The blocks written are those of the other shards. -/
theorem covers : ((cfgM m (ok m)).win 2).CoversWhere fun β => β (1 : Fin 2) ≠ (k m).toNat % 4 := by
  refine ⟨fun a => ?_, fun t _ => ⟨?_, fun a => .inl ?_⟩, fun β hβ => ?_⟩
  · change Fin 2 at a
    match a with
    | 0 => show 0 < 1024; decide
    | 1 => show 0 < 1536; decide
  · have ht : t.val < 24 := t.isLt
    rw [idx_out]
    show shard (k m) (t.val / 8) ≠ _
    unfold shard
    omega
  · change Fin 2 at a
    match a with
    | 0 => rfl
    | 1 => rfl
  · have h0 : (β (0 : Fin 2)).val < 8 := lt_of_lt_of_eq (β (0 : Fin 2)).isLt (by show (8192 + 1024 - 1) / 1024 = 8; rfl)
    have h1 : (β (1 : Fin 2)).val < 4 := lt_of_lt_of_eq (β (1 : Fin 2)).isLt (by show (6144 + 1536 - 1) / 1536 = 4; rfl)
    have hb : (β (1 : Fin 2)).val ≠ (k m).toNat % 4 := hβ
    refine ⟨⟨((β (1 : Fin 2)).val + 3 - (k m).toNat % 4) % 4 * 8 + (β (0 : Fin 2)).val, by show _ < 24; omega⟩, fun a => ?_, flush m _⟩
    rw [idx_out]
    change Fin 2 at a
    match a with
    | 0 => show (_ * 8 + _) % 8 = _; omega
    | 1 => show shard (k m) ((_ * 8 + _) / 8) = _; unfold shard; omega

/-! The blocks at coordinates. -/

/-- The block of the inputs at a grid point. -/
abbrev blkH (t : Fin (cfgM m (ok m)).N) : S1024x1024.Idx → EReal := iblk m (ok m) c 0 t
/-- The block of the weights at a grid point. -/
abbrev blkW (t : Fin (cfgM m (ok m)).N) : S1x1024x1536.Idx → EReal := iblk m (ok m) c 1 t

theorem blk_h (t : Fin (cfgM m (ok m)).N) (y : S1024x1024.Idx) : blkH m c t y = V m c main_arg1
    (ix2 ⟨t.val % 8 * 1024 + (y 0).val, by have : (y 0).val < 1024 := (y 0).isLt; omega⟩ (y 1)) := by
  show V m c main_arg1 ((((cfgM m (ok m)).win 0).rect t).emb y) = _
  refine congrArg (V m c main_arg1) (funext fun a => Fin.ext ?_)
  refine (Pipeline.Window.rect_emb_val ((cfgM m (ok m)).win 0) t y a).trans ?_
  rw [idx_h]
  change Fin 2 at a
  match a with
  | 0 => rfl
  | 1 => exact (congrArg (· + (y 1).val) (Nat.zero_mul _)).trans (Nat.zero_add _)

theorem blk_w (t : Fin (cfgM m (ok m)).N) (y : S1x1024x1536.Idx) : blkW m c t y = V m c main_arg2
    (ix3 ⟨shard (k m) (t.val / 8), shard_lt _ _⟩ (y 1) (y 2)) := by
  show V m c main_arg2 ((((cfgM m (ok m)).win 1).rect t).emb y) = _
  refine congrArg (V m c main_arg2) (funext fun a => Fin.ext ?_)
  refine (Pipeline.Window.rect_emb_val ((cfgM m (ok m)).win 1) t y a).trans ?_
  rw [idx_w]
  have h0 : (y 0).val < 1 := (y 0).isLt
  change Fin 3 at a
  match a with
  | 0 => show shard (k m) (t.val / 8) * 1 + (y 0).val = shard (k m) (t.val / 8); omega
  | 1 => exact (congrArg (· + (y 1).val) (Nat.zero_mul _)).trans (Nat.zero_add _)
  | 2 => exact (congrArg (· + (y 2).val) (Nat.zero_mul _)).trans (Nat.zero_add _)

theorem out_row (t : Fin (cfgM m (ok m)).N) (y : S1024x1536.Idx) :
    ((((cfgM m (ok m)).win 2).rect t).emb y (0 : Fin 2) : ℕ) = t.val % 8 * 1024 + (y 0).val := by
  refine (Pipeline.Window.rect_emb_val ((cfgM m (ok m)).win 2) t y (0 : Fin 2)).trans ?_
  rw [idx_out]; rfl
theorem out_col (t : Fin (cfgM m (ok m)).N) (y : S1024x1536.Idx) :
    ((((cfgM m (ok m)).win 2).rect t).emb y (1 : Fin 2) : ℕ) = shard (k m) (t.val / 8) * 1536 + (y 1).val := by
  refine (Pipeline.Window.rect_emb_val ((cfgM m (ok m)).win 2) t y (1 : Fin 2)).trans ?_
  rw [idx_out]; rfl

/-- What a grid point leaves in the output block. -/
theorem after (t : Fin (cfgM m (ok m)).N) (y : S1024x1536.Idx) : ((dats m (ok m) 0 c).after 2 t y : EReal) =
    ∑ d : Fin 1024, blkH m c t (ix2 (y 0) d) * blkW m c t (ix3 0 d (y 1)) := by
  rw [after0_2]
  unfold outsAt0
  frame_out
  refine (pay _ _ y).trans ?_
  exact Finset.sum_congr rfl fun d _ => congrArg₂ (· * ·) (congrFun (Memref.IsWhole.read_unread _ _) _) (congrFun (Memref.IsWhole.read_unread _ _) _)

theorem arr : (dats m (ok m) 0 c).arrAt 2 (cfgM m (ok m)).N = fun j : S8192x6144.Idx =>
    if (j 1).val / 1536 ≠ (k m).toNat % 4 then proj (V m c main_arg1) (V m c main_arg2) j else V m c main_v0 j := by
  refine (dats m (ok m) 0 c).arrAt_eq_of_coversWhere 2 (proj (V m c main_arg1) (V m c main_arg2)) (fun β => β (1 : Fin 2) ≠ (k m).toNat % 4) (covers m) (fun t hf y => ?_)
    (fun j => Iff.rfl)
  refine (after m c t y).trans ?_
  show _ = proj (V m c main_arg1) (V m c main_arg2) ((((cfgM m (ok m)).win 2).rect t).emb y)
  unfold proj
  refine Finset.sum_congr rfl fun d _ => ?_
  rw [blk_h, blk_w]
  have h0 := out_row m t y
  have h1 := out_col m t y
  have hy : (y (1 : Fin 2)).val < 1536 := (y (1 : Fin 2)).isLt
  refine congrArg₂ (· * ·) (congrArg (V m c main_arg1) (congrArg (ix2 · d) (Fin.ext h0.symm)))
    (congrArg (V m c main_arg2) (congrArg₂ (fun a b => ix3 a d b) (Fin.ext ?_) (Fin.ext ?_)))
  · show shard (k m) (t.val / 8) = _ / 1536
    rw [h1]; omega
  · show (y (1 : Fin 2)).val = _ % 1536
    rw [h1]; omega

end Cert.Proj

end
-- ==== Proof.ProjRef.lean ====
/- The input projection in the reference, and the claim that the kernel computes it. -/
module

public import proofs.«01_k».proof.Defs
public import proofs.«01_k».proof.Proof.Proj
public import proofs.«01_k».proof.Proof.Gen.Reference3Ideal.Run
public import Idealize.ShloMosaic.Lib.Quiescent

@[expose] public section

set_option maxRecDepth 16384

noncomputable section

namespace Cert.Proj
open Idealize.ShloMosaic Idealize.ShloMosaic.TcCoe Idealize.SL.Sem Idealize.ShloMosaic.StableHlo

section
open Cert.Reference3Ideal Cert.Reference3Ideal.Gen

variable (m : (ℓ : Loc nD τ sig) → Buf (Elt Ideal) ℓ) (c : Dev nD)

/-- The entry of four shards side by side: it lies in shard `j / 1536`. -/
theorem side_by_side (w : S4x1024x1536.Idx → EReal) (d : Fin 1024) (j : Fin 6144) :
    (if h : j.val < 1536 then w (ix3 0 d ⟨j.val, h⟩)
     else if h : j.val - 1536 < 1536 then w (ix3 1 d ⟨j.val - 1536, h⟩)
     else if h : j.val - 1536 - 1536 < 1536 then w (ix3 2 d ⟨j.val - 1536 - 1536, h⟩)
     else w (ix3 3 d ⟨j.val - 1536 - 1536 - 1536, by have := j.isLt; omega⟩)) =
    w (ix3 ⟨j.val / 1536, by have := j.isLt; omega⟩ d ⟨j.val % 1536, Nat.mod_lt _ (by decide)⟩) := by
  have := j.isLt
  split_ifs <;> refine congrArg w (congrArg₂ (fun a b => ix3 a d b) (Fin.ext ?_) (Fin.ext ?_)) <;> dsimp only [Fin.val_zero, Fin.val_one, Fin.val_two] <;>
    first | omega | (show 3 = _; omega) | (show 2 = _; omega) | (show 1 = _; omega) | (show 0 = _; omega)

theorem sum_side (h : S8192x1024.Idx → EReal) (w : S4x1024x1536.Idx → EReal) (i : Fin 8192) (j : Fin 6144) :
    ∑ d : Fin 1024, h (ix2 i d) *
      (if h : j.val < 1536 then w (ix3 0 d ⟨j.val, h⟩)
       else if h : j.val - 1536 < 1536 then w (ix3 1 d ⟨j.val - 1536, h⟩)
       else if h : j.val - 1536 - 1536 < 1536 then w (ix3 2 d ⟨j.val - 1536 - 1536, h⟩)
       else w (ix3 3 d ⟨j.val - 1536 - 1536 - 1536, by have := j.isLt; omega⟩)) = proj h w (ix2 i j) :=
  Finset.sum_congr rfl fun d _ => congrArg (h (ix2 i d) * ·) (side_by_side w d j)

/-- The reference's result: the device's own columns as they came, the product in the others. -/
theorem ref (y : S8192x6144.Idx) : (Cert.Reference3Ideal.Value.res_main_v23 (F := Ideal) m c y : EReal) =
    if (y 1).val / 1536 ≠ (m ((c.tc : Thread nD τ).loc main_arg0) (ix1 0) : BitVec 32).toNat % 4
    then proj (m ((c.tc : Thread nD τ).loc main_arg1)) (m ((c.tc : Thread nD τ).loc main_arg2)) y
    else m ((c.tc : Thread nD τ).loc main_arg3) y := by
  unfold Cert.Reference3Ideal.Value.res_main_v23
  idx_vars y
  pointwise []
  have hk : ∀ x : BitVec 32, Scalar.select (IntOp.andi (IntOp.cmpi .ne (IntOp.cmpi .slt (IntOp.remsi .host x 4#32) 0#32) (IntOp.cmpi .slt 4#32 0#32))
      (IntOp.cmpi .ne (IntOp.remsi .host x 4#32) 0#32)) (IntOp.addi (IntOp.remsi .host x 4#32) 4#32) (IntOp.remsi .host x 4#32) =
    BitVec.ofNat 32 (x.toNat % 4) := Words.host_mod_four
  have e4 : Scalar.select (IntOp.cmpi .eq (id (constantI S_ 32 4#32) ix0) 0#32) 1#32 (id (constantI S_ 32 4#32) ix0) = 4#32 := rfl
  rw [e4, hk, Words.mask (Nat.mod_lt _ (by decide)) y1.isLt]
  by_cases h : y1.val / 1536 = (m ((c.tc : Thread nD τ).loc main_arg0) (ix1 0) : BitVec 32).toNat % 4
  · rw [decide_eq_true h]
    exact (if_neg (not_not.mpr h)).symm
  · rw [decide_eq_false h]
    refine Eq.trans ?_ (if_pos h).symm
    exact sum_side (m ((c.tc : Thread nD τ).loc main_arg1)) (m ((c.tc : Thread nD τ).loc main_arg2)) y0 y1

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩)
    (Cert.Reference3Ideal.Value.run (F := Ideal) m g)

end

section
open Cert.Kernel3Ideal Cert.Kernel3Ideal.Gen

variable (m : (ℓ : Loc nD τ sig) → Buf (Elt Ideal) ℓ) (c : Dev nD)

/-- The array the region fills starts as the last argument. -/
theorem V_v0 : V m c main_v0 = m ((c.tc : Thread nD τ).loc main_arg3) := by
  unfold V hostOps0
  after_results_simp <;> rfl

/-- The device's word is the first argument's only entry. -/
theorem k_eq : k m = m ((c.tc : Thread nD τ).loc main_arg0) (ix1 0) := by
  obtain rfl : c = 0 := Subsingleton.elim _ _
  refine Eq.trans ?_ (congrFun (V_main_arg0 m 0) (ix1 0))
  refine congrArg (V m 0 main_arg0) (funext fun a => ?_)
  change Fin 1 at a
  match a with
  | 0 => exact Subsingleton.elim (α := Fin 1) _ _

/-- The array the kernel leaves, of the arguments. -/
theorem result : (dats m (ok m) 0 c).arrAt 2 (cfgM m (ok m)).N = fun j : S8192x6144.Idx =>
    if (j 1).val / 1536 ≠ (m ((c.tc : Thread nD τ).loc main_arg0) (ix1 0) : BitVec 32).toNat % 4
    then proj (m ((c.tc : Thread nD τ).loc main_arg1)) (m ((c.tc : Thread nD τ).loc main_arg2)) j
    else m ((c.tc : Thread nD τ).loc main_arg3) j := by
  rw [arr, k_eq m c, V_main_arg1, V_main_arg2, V_v0]

end

theorem algebraic : Cert.algebraic_Kernel3Ideal_Reference3Ideal := by
  intro m g m' g' _ hagree
  refine ⟨fun c => fun j : Kernel3Ideal.S8192x6144.Idx =>
    if (j 1).val / 1536 ≠ (m ((c.tc : Thread Kernel3Ideal.nD Kernel3Ideal.τ).loc Kernel3Ideal.main_arg0) (ix1 0) : BitVec 32).toNat % 4
    then proj (m ((c.tc : Thread Kernel3Ideal.nD Kernel3Ideal.τ).loc Kernel3Ideal.main_arg1)) (m ((c.tc : Thread Kernel3Ideal.nD Kernel3Ideal.τ).loc Kernel3Ideal.main_arg2)) j
    else m ((c.tc : Thread Kernel3Ideal.nD Kernel3Ideal.τ).loc Kernel3Ideal.main_arg3) j, ?_, ?_⟩
  · refine (θ_run _ _ _).mono (fun r h c => ?_) (θ_run_and (Cert.Kernel3Ideal.Gen.run_main m g (ok m)) (Cert.Kernel3Ideal.Gen.unchanged m g (ok m)))
    exact ⟨((h.1 c).1 2).trans (result m c), h.2 c⟩
  · refine (θ_run _ _ _).mono (fun r h c => ?_) (Cert.Reference3Ideal.Value.run (F := Ideal) m' g')
    refine ⟨(h c).1.trans ?_, (h c).2⟩
    funext y
    refine (ref m' c y).trans ?_
    rw [(hagree c).1, (hagree c).2.1, (hagree c).2.2.1, (hagree c).2.2.2]

end Cert.Proj

end
-- ==== Proof.Adam.lean ====
/- One step of the optimiser on one entry: from the weight, the gradient and the two moments, the change of the weight and
   the new moments. The constants are the step's own, as their float words write them. `host_*`: what a program of array
   operations that writes the step leaves at an entry. -/
module

public import Idealize.ShloMosaic.Lib.Pointwise

@[expose] public section

noncomputable section

namespace Cert.Adam
open Idealize.ShloMosaic

/-- A constant of the step. -/
abbrev k (b : BitVec 32) : EReal := Ideal.ofBits .f32 b

/-- The new first moment. -/
def m2 (g m : EReal) : EReal := k 0x3F666666#32 * m + k 0x3DCCCCCD#32 * g

/-- The new second moment. -/
def v2 (g v : EReal) : EReal := k 0x3F7FBE77#32 * v + k 0x3A83126F#32 * (g * g)

/-- The change of the weight. -/
def delta (w g m v : EReal) : EReal :=
  k 0xBA83126F#32 * (Ideal.div (Ideal.div (m2 g m) (k 0x3F26BD02#32))
    (Ideal.sqrt (Ideal.div (v2 g v) (k 0x3C231ACC#32)) + k 0x322BCC77#32) + k 0x3C23D70A#32 * w)

variable {S : Shape} (hb : (⟨0, ![]⟩ : Shape).BroadcastsInDim S ![]) (w g m v : FVec Ideal S .f32) (y : S.Idx)

/-- A constant, at every entry. -/
abbrev kk (b : BitVec 32) : FVec Ideal S .f32 := broadcastInDim S ![] hb (constant (F := Ideal) ⟨0, ![]⟩ .f32 b)

/-- The new first moments, over an array. -/
abbrev hm : FVec Ideal S .f32 := addf (mulf (kk hb 0x3F666666#32) m) (mulf (kk hb 0x3DCCCCCD#32) g)

/-- The new second moments, over an array. -/
abbrev hv : FVec Ideal S .f32 := addf (mulf (kk hb 0x3F7FBE77#32) v) (mulf (kk hb 0x3A83126F#32) (mulf g g))

/-- The changes of the weights, over an array. -/
abbrev hd : FVec Ideal S .f32 :=
  mulf (kk hb 0xBA83126F#32) (addf (Host.divf (Host.divf (hm hb g m) (kk hb 0x3F26BD02#32))
    (addf (Host.sqrt (Host.divf (hv hb g v) (kk hb 0x3C231ACC#32))) (kk hb 0x322BCC77#32))) (mulf (kk hb 0x3C23D70A#32) w))

theorem host_m2 : hm hb g m y = m2 (g y) (m y) := rfl
theorem host_v2 : hv hb g v y = v2 (g y) (v y) := rfl
theorem host_delta : hd hb w g m v y = delta (w y) (g y) (m y) (v y) := rfl

end Cert.Adam

end
-- ==== Proof.AdamWin.lean ====
/- The optimiser's step on the input projection's weights: the kernel's three results and the reference's. -/
module

public import proofs.«01_k».proof.Defs
public import proofs.«01_k».proof.Proof.Adam
public import proofs.«01_k».proof.Proof.Gen.Kernel4Ideal.Value
public import proofs.«01_k».proof.Proof.Gen.Reference4Ideal.Run
public import Idealize.ShloMosaic.Lib.Pointwise
public import Idealize.ShloMosaic.Lib.Quiescent
public import Idealize.ShloMosaic.Lib.Pipeline.ValueKit

@[expose] public section

set_option maxRecDepth 16384

noncomputable section

namespace Cert.AdamWin
open Idealize.ShloMosaic Idealize.ShloMosaic.TcCoe Idealize.SL.Sem Idealize.ShloMosaic.StableHlo

section
open Cert.Kernel4Ideal Cert.Kernel4Ideal.Gen

variable (m : (ℓ : Loc nD τ sig) → Buf (Elt Ideal) ℓ) (c : Dev nD)

theorem V0 : V m c main_v0 = shapeCast S1024x1536 (m ((c.tc : Thread nD τ).loc main_arg0)) shapeCasts_S1x1024x1536_S1024x1536 := by
  unfold V hostOps0; after_results_simp <;> rfl
theorem V1 : V m c main_v1 = shapeCast S1024x1536 (m ((c.tc : Thread nD τ).loc main_arg2)) shapeCasts_S1x1024x1536_S1024x1536 := by
  unfold V hostOps0; after_results_simp <;> rfl
theorem V2 : V m c main_v2 = shapeCast S1024x1536 (m ((c.tc : Thread nD τ).loc main_arg3)) shapeCasts_S1x1024x1536_S1024x1536 := by
  unfold V hostOps0; after_results_simp <;> rfl

theorem o4 (w g m v : Vec Ideal S256x1536 .f32) (y) : out0_4 (F := Ideal) w g m v y = Adam.delta (w y) (g y) (m y) (v y) := by
  idx_vars y
  frame_out
  pointwise [k0_pay3, k0_pay2, k0_pay1]
  rfl
theorem o5 (w g m v : Vec Ideal S256x1536 .f32) (y) : out0_5 (F := Ideal) w g m v y = Adam.m2 (g y) (m y) := by
  idx_vars y
  frame_out
  pointwise [k0_pay1]
  rfl
theorem o6 (w g m v : Vec Ideal S256x1536 .f32) (y) : out0_6 (F := Ideal) w g m v y = Adam.v2 (g y) (v y) := by
  idx_vars y
  frame_out
  pointwise [k0_pay2]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- The four operands as the region finds them. -/
abbrev W : S1024x1536.Idx → EReal := V m c main_v0
abbrev G : S1024x1536.Idx → EReal := V m c main_arg1
abbrev M : S1024x1536.Idx → EReal := V m c main_v1
abbrev U : S1024x1536.Idx → EReal := V m c main_v2

theorem arr4 : (dats m 0 c).arrAt 4 cfg0.N = fun j => Adam.delta (W m c j) (G m c j) (M m c j) (U m c j) := by
  refine (dats m 0 c).arrAt_eq_of_covers 4 _ (by decide +kernel) fun t hf y => ?_
  blk_simp
  rw [after0_4, o4]
  congr 1 <;> blk_ext [iblk, V, idx0 t, idx1 t, idx2 t, idx3 t, idx4 t]
theorem arr5 : (dats m 0 c).arrAt 5 cfg0.N = fun j => Adam.m2 (G m c j) (M m c j) := by
  refine (dats m 0 c).arrAt_eq_of_covers 5 _ (by decide +kernel) fun t hf y => ?_
  blk_simp
  rw [after0_5, o5]
  congr 1 <;> blk_ext [iblk, V, idx1 t, idx2 t, idx5 t]
theorem arr6 : (dats m 0 c).arrAt 6 cfg0.N = fun j => Adam.v2 (G m c j) (U m c j) := by
  refine (dats m 0 c).arrAt_eq_of_covers 6 _ (by decide +kernel) fun t hf y => ?_
  blk_simp
  rw [after0_6, o6]
  congr 1 <;> blk_ext [iblk, V, idx1 t, idx3 t, idx6 t]

end

section
open Cert.Reference4Ideal Cert.Reference4Ideal.Gen

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩)
    (Cert.Reference4Ideal.Value.run (F := Ideal) m g)

end

/-- A weight array without its unit axis. -/
def flat (w : (⟨3, ![1, 1024, 1536]⟩ : Shape).Idx → EReal) (j : (⟨2, ![1024, 1536]⟩ : Shape).Idx) : EReal := w (ix3 0 (j 0) (j 1))

theorem cast_flat (w : FVec Ideal ⟨3, ![1, 1024, 1536]⟩ .f32) (h) (j) :
    (shapeCast ⟨2, ![1024, 1536]⟩ w h : FVec Ideal ⟨2, ![1024, 1536]⟩ .f32) j = flat w j := by
  idx_vars j
  pointwise []
  rfl

theorem algebraic : Cert.algebraic_Kernel4Ideal_Reference4Ideal := by
  intro m g m' g' _ hagree
  refine ⟨fun c j => Adam.delta (flat (launchContents m c (Proc.devRef .tc Kernel4Ideal.main_arg0)) j)
      (launchContents m c (Proc.devRef .tc Kernel4Ideal.main_arg1) j)
      (flat (launchContents m c (Proc.devRef .tc Kernel4Ideal.main_arg2)) j)
      (flat (launchContents m c (Proc.devRef .tc Kernel4Ideal.main_arg3)) j),
    fun c j => Adam.m2 (launchContents m c (Proc.devRef .tc Kernel4Ideal.main_arg1) j)
      (flat (launchContents m c (Proc.devRef .tc Kernel4Ideal.main_arg2)) j),
    fun c j => Adam.v2 (launchContents m c (Proc.devRef .tc Kernel4Ideal.main_arg1) j)
      (flat (launchContents m c (Proc.devRef .tc Kernel4Ideal.main_arg3)) j), ?_, ?_⟩
  · refine (θ_run _ _ _).mono (fun r h c => ?_) (Cert.Kernel4Ideal.Value.run_blocks m g)
    obtain ⟨h0, h1, h2, hk⟩ := h c
    have e0 := V0 m c; have e1 := V1 m c; have e2 := V2 m c; have e3 := Kernel4Ideal.Gen.V_main_arg1 m c
    refine ⟨(h0.trans (arr4 m c)).trans (funext fun j => ?_), (h1.trans (arr5 m c)).trans (funext fun j => ?_),
      (h2.trans (arr6 m c)).trans (funext fun j => ?_), hk⟩
    · rw [W, G, M, U, e0, e1, e2, e3, cast_flat, cast_flat, cast_flat]
    · rw [G, M, e1, e3, cast_flat]
    · rw [G, U, e2, e3, cast_flat]
  · refine (θ_run _ _ _).mono (fun r h c => ?_) (Cert.Reference4Ideal.Value.run (F := Ideal) m' g')
    obtain ⟨h0, h1, h2, hk⟩ := h c
    obtain ⟨a0, a1, a2, a3⟩ := hagree c
    refine ⟨h0.trans (funext fun j => ?_), h1.trans (funext fun j => ?_), h2.trans (funext fun j => ?_), hk⟩
    · refine (Adam.host_delta _ _ _ _ _ j).trans ?_
      rw [cast_flat, cast_flat, cast_flat, a0, a1, a2, a3]
    · refine (Adam.host_m2 _ _ _ j).trans ?_
      rw [cast_flat, a1, a2]
    · refine (Adam.host_v2 _ _ _ j).trans ?_
      rw [cast_flat, a1, a3]

end Cert.AdamWin

end
-- ==== Proof.AdamGain.lean ====
/- The gradient of the input norm's gain, summed over the row blocks' parts, and the optimiser's step on the gain: the
   kernel's four results and the reference's. -/
module

public import proofs.«01_k».proof.Defs
public import proofs.«01_k».proof.Proof.Adam
public import proofs.«01_k».proof.Proof.Gen.Kernel6Ideal.Value
public import proofs.«01_k».proof.Proof.Gen.Reference6Ideal.Run
public import Idealize.ShloMosaic.Lib.Pointwise
public import Idealize.ShloMosaic.Lib.Quiescent
public import Idealize.ShloMosaic.Lib.Pipeline.ValueKit

@[expose] public section

set_option maxRecDepth 16384

noncomputable section

namespace Cert.AdamGain
open Idealize.ShloMosaic Idealize.ShloMosaic.TcCoe Idealize.SL.Sem Idealize.ShloMosaic.StableHlo

section
open Cert.Kernel6Ideal Cert.Kernel6Ideal.Gen

variable (m : (ℓ : Loc nD τ sig) → Buf (Elt Ideal) ℓ) (c : Dev nD)

theorem V0 : V m c main_v0 = shapeCast S8x8x128 (m ((c.tc : Thread nD τ).loc main_arg0)) shapeCasts_S8x1024_S8x8x128 := by
  unfold V hostOps0; after_results_simp <;> rfl
theorem V1 : V m c main_v1 = shapeCast S8x128 (m ((c.tc : Thread nD τ).loc main_arg1)) shapeCasts_S1x1024_S8x128 := by
  unfold V hostOps0; after_results_simp <;> rfl
theorem V2 : V m c main_v2 = shapeCast S8x128 (m ((c.tc : Thread nD τ).loc main_arg2)) shapeCasts_S1x1024_S8x128 := by
  unfold V hostOps0; after_results_simp <;> rfl
theorem V3 : V m c main_v3 = shapeCast S8x128 (m ((c.tc : Thread nD τ).loc main_arg3)) shapeCasts_S1x1024_S8x128 := by
  unfold V hostOps0; after_results_simp <;> rfl

/-- The sum of the eight parts. -/
def sum8 (x : S8x8x128.Idx → EReal) (y : S8x128.Idx) : EReal := ∑ i : Fin 8, x (ix3 i (y 0) (y 1))

theorem pay (x : Vec Ideal S8x8x128 .f32) (w a b : Vec Ideal S8x128 .f32) (y) : k0_pay7 (F := Ideal) x w a b y = sum8 x y := by
  unfold sum8
  rw [Fin.sum_univ_eight]
  idx_vars y
  pointwise [k0_pay7, k0_pay4]

theorem o4 (x : Vec Ideal S8x8x128 .f32) (w a b : Vec Ideal S8x128 .f32) (y) : out0_4 (F := Ideal) x w a b y = sum8 x y := by
  refine Eq.trans ?_ (pay x w a b y)
  idx_vars y
  frame_out
  rfl
theorem o5 (x : Vec Ideal S8x8x128 .f32) (w a b : Vec Ideal S8x128 .f32) (y) :
    out0_5 (F := Ideal) x w a b y = Adam.delta (w y) (sum8 x y) (a y) (b y) := by
  rw [← pay x w a b y]
  idx_vars y
  unfold out0_5 k0_pay8
  generalize k0_pay7 x w a b = g
  frame_out
  pointwise [k0_pay3, k0_pay2, k0_pay1, k0_pay5, k0_pay6]
  rfl
theorem o6 (x : Vec Ideal S8x8x128 .f32) (w a b : Vec Ideal S8x128 .f32) (y) :
    out0_6 (F := Ideal) x w a b y = Adam.m2 (sum8 x y) (a y) := by
  rw [← pay x w a b y]
  idx_vars y
  unfold out0_6 k0_pay8
  generalize k0_pay7 x w a b = g
  frame_out
  pointwise [k0_pay1, k0_pay6]
  rfl
theorem o7 (x : Vec Ideal S8x8x128 .f32) (w a b : Vec Ideal S8x128 .f32) (y) :
    out0_7 (F := Ideal) x w a b y = Adam.v2 (sum8 x y) (b y) := by
  rw [← pay x w a b y]
  idx_vars y
  unfold out0_7
  generalize k0_pay7 x w a b = g
  frame_out
  pointwise [k0_pay2]
  rfl

abbrev X : S8x8x128.Idx → EReal := V m c main_v0
abbrev W : S8x128.Idx → EReal := V m c main_v1
abbrev M : S8x128.Idx → EReal := V m c main_v2
abbrev U : S8x128.Idx → EReal := V m c main_v3

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The one grid point's blocks are the operands. -/
theorem b0 (t : Fin cfg0.N) : (iblk m c 0 t : S8x8x128.Idx → EReal) = X m c := by
  funext y
  blk_ext [iblk, V, idx0 t]
theorem b1 (t : Fin cfg0.N) : (iblk m c 1 t : S8x128.Idx → EReal) = W m c := by
  funext y
  blk_ext [iblk, V, idx1 t]
theorem b2 (t : Fin cfg0.N) : (iblk m c 2 t : S8x128.Idx → EReal) = M m c := by
  funext y
  blk_ext [iblk, V, idx2 t]
theorem b3 (t : Fin cfg0.N) : (iblk m c 3 t : S8x128.Idx → EReal) = U m c := by
  funext y
  blk_ext [iblk, V, idx3 t]

theorem e4 (t : Fin cfg0.N) (y : S8x128.Idx) : (win0_4.rect t).emb y = y := by
  blk_ext [idx4 t] <;> exact Nat.zero_add _
theorem arr4 : (dats m 0 c).arrAt 4 cfg0.N = (sum8 (X m c)) := by
  refine (dats m 0 c).arrAt_eq_of_covers 4 _ (by decide +kernel) fun t hf y => ?_
  blk_simp
  rw [after0_4, o4]
  have e : (win0_4.blk t).view.emb y = y := e4 t y
  rw [e, b0]
theorem e5 (t : Fin cfg0.N) (y : S8x128.Idx) : (win0_5.rect t).emb y = y := by
  blk_ext [idx5 t] <;> exact Nat.zero_add _
theorem arr5 : (dats m 0 c).arrAt 5 cfg0.N = (fun j => Adam.delta (W m c j) (sum8 (X m c) j) (M m c j) (U m c j)) := by
  refine (dats m 0 c).arrAt_eq_of_covers 5 _ (by decide +kernel) fun t hf y => ?_
  blk_simp
  rw [after0_5, o5]
  have e : (win0_5.blk t).view.emb y = y := e5 t y
  rw [e, b0, b1, b2, b3]
theorem e6 (t : Fin cfg0.N) (y : S8x128.Idx) : (win0_6.rect t).emb y = y := by
  blk_ext [idx6 t] <;> exact Nat.zero_add _
theorem arr6 : (dats m 0 c).arrAt 6 cfg0.N = (fun j => Adam.m2 (sum8 (X m c) j) (M m c j)) := by
  refine (dats m 0 c).arrAt_eq_of_covers 6 _ (by decide +kernel) fun t hf y => ?_
  blk_simp
  rw [after0_6, o6]
  have e : (win0_6.blk t).view.emb y = y := e6 t y
  rw [e, b0, b2]
theorem e7 (t : Fin cfg0.N) (y : S8x128.Idx) : (win0_7.rect t).emb y = y := by
  blk_ext [idx7 t] <;> exact Nat.zero_add _
theorem arr7 : (dats m 0 c).arrAt 7 cfg0.N = (fun j => Adam.v2 (sum8 (X m c) j) (U m c j)) := by
  refine (dats m 0 c).arrAt_eq_of_covers 7 _ (by decide +kernel) fun t hf y => ?_
  blk_simp
  rw [after0_7, o7]
  have e : (win0_7.blk t).view.emb y = y := e7 t y
  rw [e, b0, b3]
end

/-- An entry of an 8 x 128 array is an entry of a row of 1024. -/
def place (y : (⟨2, ![8, 128]⟩ : Shape).Idx) : Fin 1024 := ⟨(y 0).val * 128 + (y 1).val, by
  have h0 : (y 0).val < 8 := (y 0).isLt
  have h1 : (y 1).val < 128 := (y 1).isLt
  omega⟩

/-- A row of 1024, laid out as 8 x 128. -/
def row (w : (⟨2, ![1, 1024]⟩ : Shape).Idx → EReal) (y : (⟨2, ![8, 128]⟩ : Shape).Idx) : EReal := w (ix2 0 (place y))

/-- The sum of eight rows, laid out as 8 x 128. -/
def total (p : (⟨2, ![8, 1024]⟩ : Shape).Idx → EReal) (y : (⟨2, ![8, 128]⟩ : Shape).Idx) : EReal := ∑ i : Fin 8, p (ix2 i (place y))

theorem cast_row (w : FVec Ideal ⟨2, ![1, 1024]⟩ .f32) (h) (y) :
    (shapeCast ⟨2, ![8, 128]⟩ w h : FVec Ideal ⟨2, ![8, 128]⟩ .f32) y = row w y := by
  idx_vars y
  pointwise []
  rfl

theorem cast_parts (w : FVec Ideal ⟨2, ![8, 1024]⟩ .f32) (h) (y) :
    sum8 (shapeCast ⟨3, ![8, 8, 128]⟩ w h : FVec Ideal ⟨3, ![8, 8, 128]⟩ .f32) y = total w y := by
  unfold sum8 total
  refine Finset.sum_congr rfl fun i _ => ?_
  idx_vars y
  pointwise []
  rfl

section
open Cert.Reference6Ideal Cert.Reference6Ideal.Gen

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩)
    (Cert.Reference6Ideal.Value.run (F := Ideal) m g)

/-- The reference's gradient, as one row. -/
abbrev grow (p : FVec Ideal S8x1024 .f32) : FVec Ideal S1x1024 .f32 :=
  broadcastInDim S1x1024 ![1] bcast_S1024_S1x1024_1 (Host.reduceAdd p (constant S_ .f32 0x00000000#32) reducesTo_S8x1024_S1024_d0 h_S_)

theorem grow_at (p : FVec Ideal S8x1024 .f32) (y) : row (grow p) y = total p y := by
  unfold row total
  pointwise [grow]

end

theorem algebraic : Cert.algebraic_Kernel6Ideal_Reference6Ideal := by
  intro m g m' g' _ hagree
  let P := fun c => total (launchContents m c (Proc.devRef .tc Kernel6Ideal.main_arg0))
  let W' := fun c => row (launchContents m c (Proc.devRef .tc Kernel6Ideal.main_arg1))
  let M' := fun c => row (launchContents m c (Proc.devRef .tc Kernel6Ideal.main_arg2))
  let U' := fun c => row (launchContents m c (Proc.devRef .tc Kernel6Ideal.main_arg3))
  refine ⟨fun c j => P c j, fun c j => Adam.delta (W' c j) (P c j) (M' c j) (U' c j),
    fun c j => Adam.m2 (P c j) (M' c j), fun c j => Adam.v2 (P c j) (U' c j), ?_, ?_⟩
  · refine (θ_run _ _ _).mono (fun r h c => ?_) (Cert.Kernel6Ideal.Value.run_blocks m g)
    obtain ⟨h0, h1, h2, h3, hk⟩ := h c
    have e0 := V0 m c; have e1 := V1 m c; have e2 := V2 m c; have e3 := V3 m c
    refine ⟨(h0.trans (arr4 m c)).trans (funext fun j => ?_), (h1.trans (arr5 m c)).trans (funext fun j => ?_),
      (h2.trans (arr6 m c)).trans (funext fun j => ?_), (h3.trans (arr7 m c)).trans (funext fun j => ?_), hk⟩
    · rw [X, e0, cast_parts]
    · rw [X, W, M, U, e0, e1, e2, e3, cast_parts, cast_row, cast_row, cast_row]
    · rw [X, M, e0, e2, cast_parts, cast_row]
    · rw [X, U, e0, e3, cast_parts, cast_row]
  · refine (θ_run _ _ _).mono (fun r h c => ?_) (Cert.Reference6Ideal.Value.run (F := Ideal) m' g')
    obtain ⟨h0, h1, h2, h3, hk⟩ := h c
    obtain ⟨a0, a1, a2, a3⟩ := hagree c
    refine ⟨h0.trans (funext fun j => ?_), h1.trans (funext fun j => ?_), h2.trans (funext fun j => ?_), h3.trans (funext fun j => ?_), hk⟩
    · refine (cast_row _ _ j).trans ((grow_at _ j).trans ?_)
      rw [a0]
    · refine (cast_row _ _ j).trans ((Adam.host_delta _ _ (grow _) _ _ _).trans ?_)
      refine (congrArg (fun e => Adam.delta _ e _ _) (grow_at _ j)).trans ?_
      rw [a0, a1, a2, a3]
      rfl
    · refine (cast_row _ _ j).trans ((Adam.host_m2 _ (grow _) _ _).trans ?_)
      refine (congrArg₂ Adam.m2 (grow_at _ j) rfl).trans ?_
      rw [a0, a2]
      rfl
    · refine (cast_row _ _ j).trans ((Adam.host_v2 _ (grow _) _ _).trans ?_)
      refine (congrArg₂ Adam.v2 (grow_at _ j) rfl).trans ?_
      rw [a0, a3]
      rfl

end Cert.AdamGain

end
-- ==== Proof.SmallPack.lean ====
/- The thirteen small weights packed in one array of rows, and read back out of it: the packed array read where a weight's
   rows are, without the padding and in the weight's shape, is the weight. -/
module

public import proofs.«01_k».proof.Proof.Gen.Kernel7Ideal
public import Idealize.ShloMosaic.Lib.Pipeline.Value
public import Idealize.ShloMosaic.Lib.KernelVsHost

@[expose] public section

set_option maxRecDepth 16384

noncomputable section

namespace Cert.SmallPack
open Idealize.ShloMosaic Idealize.ShloMosaic.TcCoe Cert.Kernel7Ideal Cert.Kernel7Ideal.Gen

/-- The rows of a concatenation that are one of its pieces. -/
theorem slice_piece {α : Type} {T n pre : Nat} (xs : List ((s : Shape) × (s.Idx → α)))
    (h : Shape.Concatenates (xs.map (·.1)) ⟨2, ![T, 128]⟩ 0) (k : Nat) (hk : k < xs.length)
    (x : (⟨2, ![n, 128]⟩ : Shape).Idx → α) (hx : xs[k] = ⟨⟨2, ![n, 128]⟩, x⟩)
    (hpre : (((xs.take k).map (·.1)).map fun s => if h : s.rank = 2 then s.size ((0 : Fin 2).cast h.symm) else 0).sum = pre)
    (hs : (⟨2, ![T, 128]⟩ : Shape).Slices ![pre, 0] ⟨2, ![n, 128]⟩) :
    extractStridedSlice ⟨2, ![n, 128]⟩ ![pre, 0] (concatenate ⟨2, ![T, 128]⟩ 0 xs h) hs = x := by
  funext j
  refine concatenate_apply_piece (t := ⟨2, ![T, 128]⟩) 0 xs h _ k hk _ x hx rfl pre hpre j (fun b hb => ?_) ?_
  · match b, hb with
    | ⟨0, _⟩, hb => exact absurd rfl hb
    | ⟨1, _⟩, _ => exact (Nat.zero_add _).symm
  · rfl

/-- A list padded behind, without its padding. -/
theorem slice_pad {α : Type} {n N p : Nat} (x : (⟨1, ![n]⟩ : Shape).Idx → α) {u : Shape} (v : u.Idx → α)
    (h : (⟨1, ![n]⟩ : Shape).Pads ![0] ![p] ![0] ⟨1, ![N]⟩) (hu : 0 < u.numel) (hs : (⟨1, ![N]⟩ : Shape).Slices ![0] ⟨1, ![n]⟩) :
    extractStridedSlice ⟨1, ![n]⟩ ![0] (pad ⟨1, ![N]⟩ ![0] ![p] ![0] x v h hu) hs = x := by
  funext j
  refine pad_apply_of_inside _ _ _ x v h hu _ j fun a => ?_
  match a with
  | ⟨0, _⟩ => show 0 + (j 0).val = 0 + (j 0).val * (0 + 1); omega

/-- A list padded by nothing. -/
theorem pad_none {α : Type} {n : Nat} (x : (⟨1, ![n]⟩ : Shape).Idx → α) {u : Shape} (v : u.Idx → α)
    (h : (⟨1, ![n]⟩ : Shape).Pads ![0] ![0] ![0] ⟨1, ![n]⟩) (hu : 0 < u.numel) :
    pad ⟨1, ![n]⟩ ![0] ![0] ![0] x v h hu = x := by
  funext j
  refine pad_apply_of_inside _ _ _ x v h hu _ j fun a => ?_
  match a with
  | ⟨0, _⟩ => show (j 0).val = 0 + (j 0).val * (0 + 1); omega

/-- The value a list is padded with. -/
abbrev zero : S_.Idx → EReal := (sitofp .f32 (constantI S_ 32 0#32) : FVec Ideal S_ .f32)

/-- Weight 0 as rows. -/
abbrev rows0 (x : S1x1024.Idx → EReal) : S8x128.Idx → EReal :=
  shapeCast S8x128 (pad S1024 ![0] ![0] ![0] (shapeCast S1024 x shapeCasts_S1x1024_S1024) zero pads_S1024_S1024_000 h_S_) shapeCasts_S1024_S8x128

/-- Weight 1 as rows. -/
abbrev rows1 (x : S1x1024.Idx → EReal) : S8x128.Idx → EReal :=
  shapeCast S8x128 (pad S1024 ![0] ![0] ![0] (shapeCast S1024 x shapeCasts_S1x1024_S1024) zero pads_S1024_S1024_000 h_S_) shapeCasts_S1024_S8x128

/-- Weight 2 as rows. -/
abbrev rows2 (x : S1x1024.Idx → EReal) : S8x128.Idx → EReal :=
  shapeCast S8x128 (pad S1024 ![0] ![0] ![0] (shapeCast S1024 x shapeCasts_S1x1024_S1024) zero pads_S1024_S1024_000 h_S_) shapeCasts_S1024_S8x128

/-- Weight 3 as rows. -/
abbrev rows3 (x : S1x32x64.Idx → EReal) : S16x128.Idx → EReal :=
  shapeCast S16x128 (pad S2048 ![0] ![0] ![0] (shapeCast S2048 x shapeCasts_S1x32x64_S2048) zero pads_S2048_S2048_000 h_S_) shapeCasts_S2048_S16x128

/-- Weight 4 as rows. -/
abbrev rows4 (x : S1x32x64.Idx → EReal) : S16x128.Idx → EReal :=
  shapeCast S16x128 (pad S2048 ![0] ![0] ![0] (shapeCast S2048 x shapeCasts_S1x32x64_S2048) zero pads_S2048_S2048_000 h_S_) shapeCasts_S2048_S16x128

/-- Weight 5 as rows. -/
abbrev rows5 (x : S1x32.Idx → EReal) : S8x128.Idx → EReal :=
  shapeCast S8x128 (pad S1024 ![0] ![992] ![0] (shapeCast S32 x shapeCasts_S1x32_S32) zero pads_S32_S1024_09920 h_S_) shapeCasts_S1024_S8x128

/-- Weight 6 as rows. -/
abbrev rows6 (x : S1x32x64x16.Idx → EReal) : S256x128.Idx → EReal :=
  shapeCast S256x128 (pad S32768 ![0] ![0] ![0] (shapeCast S32768 x shapeCasts_S1x32x64x16_S32768) zero pads_S32768_S32768_000 h_S_) shapeCasts_S32768_S256x128

/-- Weight 7 as rows. -/
abbrev rows7 (x : S1x32x64x16.Idx → EReal) : S256x128.Idx → EReal :=
  shapeCast S256x128 (pad S32768 ![0] ![0] ![0] (shapeCast S32768 x shapeCasts_S1x32x64x16_S32768) zero pads_S32768_S32768_000 h_S_) shapeCasts_S32768_S256x128

/-- Weight 8 as rows. -/
abbrev rows8 (x : S1x32x16x64.Idx → EReal) : S256x128.Idx → EReal :=
  shapeCast S256x128 (pad S32768 ![0] ![0] ![0] (shapeCast S32768 x shapeCasts_S1x32x16x64_S32768) zero pads_S32768_S32768_000 h_S_) shapeCasts_S32768_S256x128

/-- Weight 9 as rows. -/
abbrev rows9 (x : S1x32x16x64.Idx → EReal) : S256x128.Idx → EReal :=
  shapeCast S256x128 (pad S32768 ![0] ![0] ![0] (shapeCast S32768 x shapeCasts_S1x32x16x64_S32768) zero pads_S32768_S32768_000 h_S_) shapeCasts_S32768_S256x128

/-- Weight 10 as rows. -/
abbrev rows10 (x : S1x32x16.Idx → EReal) : S8x128.Idx → EReal :=
  shapeCast S8x128 (pad S1024 ![0] ![512] ![0] (shapeCast S512 x shapeCasts_S1x32x16_S512) zero pads_S512_S1024_05120 h_S_) shapeCasts_S1024_S8x128

/-- Weight 11 as rows. -/
abbrev rows11 (x : S1x512.Idx → EReal) : S8x128.Idx → EReal :=
  shapeCast S8x128 (pad S1024 ![0] ![512] ![0] (shapeCast S512 x shapeCasts_S1x512_S512) zero pads_S512_S1024_05120 h_S_) shapeCasts_S1024_S8x128

/-- Weight 12 as rows. -/
abbrev rows12 (x : S1x1024.Idx → EReal) : S8x128.Idx → EReal :=
  shapeCast S8x128 (pad S1024 ![0] ![0] ![0] (shapeCast S1024 x shapeCasts_S1x1024_S1024) zero pads_S1024_S1024_000 h_S_) shapeCasts_S1024_S8x128

/-- The rows that no weight fills. -/
abbrev rest : S40x128.Idx → EReal := (broadcastInDim S40x128 ![] bcast_S_S40x128 (constant (F := Ideal) S_ .f32 0x00000000#32) : FVec Ideal S40x128 .f32)

/-- The thirteen weights packed. -/
abbrev packed (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : S1152x128.Idx → EReal :=
  concatenate S1152x128 0 [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] concatenates_S8x128_S8x128_S8x128_S16x128_S16x128_S8x128_S256x128_S256x128_S256x128_S256x128_S8x128_S8x128_S8x128_S40x128_S1152x128_d0

/-- Weight 0 out of the packed array. -/
abbrev get0 (x : S1152x128.Idx → EReal) : S1x1024.Idx → EReal :=
  shapeCast S1x1024 (shapeCast S1024 (extractStridedSlice S8x128 ![0, 0] x slices_S1152x128_S8x128_0_0) shapeCasts_S8x128_S1024) shapeCasts_S1024_S1x1024

set_option maxHeartbeats 4000000 in
theorem piece0 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![0, 0] (packed x0 x1 x2 x3 x4 x5 x6 x7 x8 x9 x10 x11 x12) slices_S1152x128_S8x128_0_0 = rows0 x0 :=
  slice_piece (T := 1152) (n := 8) (pre := 0) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 0 (by show _ < 14; decide) (rows0 x0) rfl rfl _
theorem get_packed0 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get0 (packed x0 x1 x2 x3 x4 x5 x6 x7 x8 x9 x10 x11 x12) = x0 := by
  unfold get0
  rw [piece0]
  rw [shapeCast_shapeCast, pad_none, shapeCast_shapeCast]

/-- Weight 1 out of the packed array. -/
abbrev get1 (x : S1152x128.Idx → EReal) : S1x1024.Idx → EReal :=
  shapeCast S1x1024 (shapeCast S1024 (extractStridedSlice S8x128 ![8, 0] x slices_S1152x128_S8x128_8_0) shapeCasts_S8x128_S1024) shapeCasts_S1024_S1x1024

set_option maxHeartbeats 4000000 in
theorem piece1 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![8, 0] (packed x0 x1 x2 x3 x4 x5 x6 x7 x8 x9 x10 x11 x12) slices_S1152x128_S8x128_8_0 = rows1 x1 :=
  slice_piece (T := 1152) (n := 8) (pre := 8) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 1 (by show _ < 14; decide) (rows1 x1) rfl rfl _
theorem get_packed1 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get1 (packed x0 x1 x2 x3 x4 x5 x6 x7 x8 x9 x10 x11 x12) = x1 := by
  unfold get1
  rw [piece1]
  rw [shapeCast_shapeCast, pad_none, shapeCast_shapeCast]

/-- Weight 2 out of the packed array. -/
abbrev get2 (x : S1152x128.Idx → EReal) : S1x1024.Idx → EReal :=
  shapeCast S1x1024 (shapeCast S1024 (extractStridedSlice S8x128 ![16, 0] x slices_S1152x128_S8x128_16_0) shapeCasts_S8x128_S1024) shapeCasts_S1024_S1x1024

set_option maxHeartbeats 4000000 in
theorem piece2 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![16, 0] (packed x0 x1 x2 x3 x4 x5 x6 x7 x8 x9 x10 x11 x12) slices_S1152x128_S8x128_16_0 = rows2 x2 :=
  slice_piece (T := 1152) (n := 8) (pre := 16) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 2 (by show _ < 14; decide) (rows2 x2) rfl rfl _
theorem get_packed2 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get2 (packed x0 x1 x2 x3 x4 x5 x6 x7 x8 x9 x10 x11 x12) = x2 := by
  unfold get2
  rw [piece2]
  rw [shapeCast_shapeCast, pad_none, shapeCast_shapeCast]

/-- Weight 3 out of the packed array. -/
abbrev get3 (x : S1152x128.Idx → EReal) : S1x32x64.Idx → EReal :=
  shapeCast S1x32x64 (shapeCast S2048 (extractStridedSlice S16x128 ![24, 0] x slices_S1152x128_S16x128_24_0) shapeCasts_S16x128_S2048) shapeCasts_S2048_S1x32x64

set_option maxHeartbeats 4000000 in
theorem piece3 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S16x128 ![24, 0] (packed x0 x1 x2 x3 x4 x5 x6 x7 x8 x9 x10 x11 x12) slices_S1152x128_S16x128_24_0 = rows3 x3 :=
  slice_piece (T := 1152) (n := 16) (pre := 24) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 3 (by show _ < 14; decide) (rows3 x3) rfl rfl _
theorem get_packed3 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get3 (packed x0 x1 x2 x3 x4 x5 x6 x7 x8 x9 x10 x11 x12) = x3 := by
  unfold get3
  rw [piece3]
  rw [shapeCast_shapeCast, pad_none, shapeCast_shapeCast]

/-- Weight 4 out of the packed array. -/
abbrev get4 (x : S1152x128.Idx → EReal) : S1x32x64.Idx → EReal :=
  shapeCast S1x32x64 (shapeCast S2048 (extractStridedSlice S16x128 ![40, 0] x slices_S1152x128_S16x128_40_0) shapeCasts_S16x128_S2048) shapeCasts_S2048_S1x32x64

set_option maxHeartbeats 4000000 in
theorem piece4 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S16x128 ![40, 0] (packed x0 x1 x2 x3 x4 x5 x6 x7 x8 x9 x10 x11 x12) slices_S1152x128_S16x128_40_0 = rows4 x4 :=
  slice_piece (T := 1152) (n := 16) (pre := 40) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 4 (by show _ < 14; decide) (rows4 x4) rfl rfl _
theorem get_packed4 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get4 (packed x0 x1 x2 x3 x4 x5 x6 x7 x8 x9 x10 x11 x12) = x4 := by
  unfold get4
  rw [piece4]
  rw [shapeCast_shapeCast, pad_none, shapeCast_shapeCast]

/-- Weight 5 out of the packed array. -/
abbrev get5 (x : S1152x128.Idx → EReal) : S1x32.Idx → EReal :=
  shapeCast S1x32 (extractStridedSlice S32 ![0] (shapeCast S1024 (extractStridedSlice S8x128 ![56, 0] x slices_S1152x128_S8x128_56_0) shapeCasts_S8x128_S1024) slices_S1024_S32_0) shapeCasts_S32_S1x32

set_option maxHeartbeats 4000000 in
theorem piece5 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![56, 0] (packed x0 x1 x2 x3 x4 x5 x6 x7 x8 x9 x10 x11 x12) slices_S1152x128_S8x128_56_0 = rows5 x5 :=
  slice_piece (T := 1152) (n := 8) (pre := 56) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 5 (by show _ < 14; decide) (rows5 x5) rfl rfl _
theorem get_packed5 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get5 (packed x0 x1 x2 x3 x4 x5 x6 x7 x8 x9 x10 x11 x12) = x5 := by
  unfold get5
  rw [piece5]
  rw [shapeCast_shapeCast, slice_pad, shapeCast_shapeCast]

/-- Weight 6 out of the packed array. -/
abbrev get6 (x : S1152x128.Idx → EReal) : S1x32x64x16.Idx → EReal :=
  shapeCast S1x32x64x16 (shapeCast S32768 (extractStridedSlice S256x128 ![64, 0] x slices_S1152x128_S256x128_64_0) shapeCasts_S256x128_S32768) shapeCasts_S32768_S1x32x64x16

set_option maxHeartbeats 4000000 in
theorem piece6 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S256x128 ![64, 0] (packed x0 x1 x2 x3 x4 x5 x6 x7 x8 x9 x10 x11 x12) slices_S1152x128_S256x128_64_0 = rows6 x6 :=
  slice_piece (T := 1152) (n := 256) (pre := 64) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 6 (by show _ < 14; decide) (rows6 x6) rfl rfl _
theorem get_packed6 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get6 (packed x0 x1 x2 x3 x4 x5 x6 x7 x8 x9 x10 x11 x12) = x6 := by
  unfold get6
  rw [piece6]
  rw [shapeCast_shapeCast, pad_none, shapeCast_shapeCast]

/-- Weight 7 out of the packed array. -/
abbrev get7 (x : S1152x128.Idx → EReal) : S1x32x64x16.Idx → EReal :=
  shapeCast S1x32x64x16 (shapeCast S32768 (extractStridedSlice S256x128 ![320, 0] x slices_S1152x128_S256x128_320_0) shapeCasts_S256x128_S32768) shapeCasts_S32768_S1x32x64x16

set_option maxHeartbeats 4000000 in
theorem piece7 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S256x128 ![320, 0] (packed x0 x1 x2 x3 x4 x5 x6 x7 x8 x9 x10 x11 x12) slices_S1152x128_S256x128_320_0 = rows7 x7 :=
  slice_piece (T := 1152) (n := 256) (pre := 320) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 7 (by show _ < 14; decide) (rows7 x7) rfl rfl _
theorem get_packed7 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get7 (packed x0 x1 x2 x3 x4 x5 x6 x7 x8 x9 x10 x11 x12) = x7 := by
  unfold get7
  rw [piece7]
  rw [shapeCast_shapeCast, pad_none, shapeCast_shapeCast]

/-- Weight 8 out of the packed array. -/
abbrev get8 (x : S1152x128.Idx → EReal) : S1x32x16x64.Idx → EReal :=
  shapeCast S1x32x16x64 (shapeCast S32768 (extractStridedSlice S256x128 ![576, 0] x slices_S1152x128_S256x128_576_0) shapeCasts_S256x128_S32768) shapeCasts_S32768_S1x32x16x64

set_option maxHeartbeats 4000000 in
theorem piece8 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S256x128 ![576, 0] (packed x0 x1 x2 x3 x4 x5 x6 x7 x8 x9 x10 x11 x12) slices_S1152x128_S256x128_576_0 = rows8 x8 :=
  slice_piece (T := 1152) (n := 256) (pre := 576) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 8 (by show _ < 14; decide) (rows8 x8) rfl rfl _
theorem get_packed8 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get8 (packed x0 x1 x2 x3 x4 x5 x6 x7 x8 x9 x10 x11 x12) = x8 := by
  unfold get8
  rw [piece8]
  rw [shapeCast_shapeCast, pad_none, shapeCast_shapeCast]

/-- Weight 9 out of the packed array. -/
abbrev get9 (x : S1152x128.Idx → EReal) : S1x32x16x64.Idx → EReal :=
  shapeCast S1x32x16x64 (shapeCast S32768 (extractStridedSlice S256x128 ![832, 0] x slices_S1152x128_S256x128_832_0) shapeCasts_S256x128_S32768) shapeCasts_S32768_S1x32x16x64

set_option maxHeartbeats 4000000 in
theorem piece9 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S256x128 ![832, 0] (packed x0 x1 x2 x3 x4 x5 x6 x7 x8 x9 x10 x11 x12) slices_S1152x128_S256x128_832_0 = rows9 x9 :=
  slice_piece (T := 1152) (n := 256) (pre := 832) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 9 (by show _ < 14; decide) (rows9 x9) rfl rfl _
theorem get_packed9 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get9 (packed x0 x1 x2 x3 x4 x5 x6 x7 x8 x9 x10 x11 x12) = x9 := by
  unfold get9
  rw [piece9]
  rw [shapeCast_shapeCast, pad_none, shapeCast_shapeCast]

/-- Weight 10 out of the packed array. -/
abbrev get10 (x : S1152x128.Idx → EReal) : S1x32x16.Idx → EReal :=
  shapeCast S1x32x16 (extractStridedSlice S512 ![0] (shapeCast S1024 (extractStridedSlice S8x128 ![1088, 0] x slices_S1152x128_S8x128_1088_0) shapeCasts_S8x128_S1024) slices_S1024_S512_0) shapeCasts_S512_S1x32x16

set_option maxHeartbeats 4000000 in
theorem piece10 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![1088, 0] (packed x0 x1 x2 x3 x4 x5 x6 x7 x8 x9 x10 x11 x12) slices_S1152x128_S8x128_1088_0 = rows10 x10 :=
  slice_piece (T := 1152) (n := 8) (pre := 1088) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 10 (by show _ < 14; decide) (rows10 x10) rfl rfl _
theorem get_packed10 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get10 (packed x0 x1 x2 x3 x4 x5 x6 x7 x8 x9 x10 x11 x12) = x10 := by
  unfold get10
  rw [piece10]
  rw [shapeCast_shapeCast, slice_pad, shapeCast_shapeCast]

/-- Weight 11 out of the packed array. -/
abbrev get11 (x : S1152x128.Idx → EReal) : S1x512.Idx → EReal :=
  shapeCast S1x512 (extractStridedSlice S512 ![0] (shapeCast S1024 (extractStridedSlice S8x128 ![1096, 0] x slices_S1152x128_S8x128_1096_0) shapeCasts_S8x128_S1024) slices_S1024_S512_0) shapeCasts_S512_S1x512

set_option maxHeartbeats 4000000 in
theorem piece11 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![1096, 0] (packed x0 x1 x2 x3 x4 x5 x6 x7 x8 x9 x10 x11 x12) slices_S1152x128_S8x128_1096_0 = rows11 x11 :=
  slice_piece (T := 1152) (n := 8) (pre := 1096) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 11 (by show _ < 14; decide) (rows11 x11) rfl rfl _
theorem get_packed11 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get11 (packed x0 x1 x2 x3 x4 x5 x6 x7 x8 x9 x10 x11 x12) = x11 := by
  unfold get11
  rw [piece11]
  rw [shapeCast_shapeCast, slice_pad, shapeCast_shapeCast]

/-- Weight 12 out of the packed array. -/
abbrev get12 (x : S1152x128.Idx → EReal) : S1x1024.Idx → EReal :=
  shapeCast S1x1024 (shapeCast S1024 (extractStridedSlice S8x128 ![1104, 0] x slices_S1152x128_S8x128_1104_0) shapeCasts_S8x128_S1024) shapeCasts_S1024_S1x1024

set_option maxHeartbeats 4000000 in
theorem piece12 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) :
    extractStridedSlice S8x128 ![1104, 0] (packed x0 x1 x2 x3 x4 x5 x6 x7 x8 x9 x10 x11 x12) slices_S1152x128_S8x128_1104_0 = rows12 x12 :=
  slice_piece (T := 1152) (n := 8) (pre := 1104) [⟨S8x128, rows0 x0⟩, ⟨S8x128, rows1 x1⟩, ⟨S8x128, rows2 x2⟩, ⟨S16x128, rows3 x3⟩, ⟨S16x128, rows4 x4⟩, ⟨S8x128, rows5 x5⟩, ⟨S256x128, rows6 x6⟩, ⟨S256x128, rows7 x7⟩, ⟨S256x128, rows8 x8⟩, ⟨S256x128, rows9 x9⟩, ⟨S8x128, rows10 x10⟩, ⟨S8x128, rows11 x11⟩, ⟨S8x128, rows12 x12⟩, ⟨S40x128, rest⟩] _ 12 (by show _ < 14; decide) (rows12 x12) rfl rfl _
theorem get_packed12 (x0 : S1x1024.Idx → EReal) (x1 : S1x1024.Idx → EReal) (x2 : S1x1024.Idx → EReal) (x3 : S1x32x64.Idx → EReal) (x4 : S1x32x64.Idx → EReal) (x5 : S1x32.Idx → EReal) (x6 : S1x32x64x16.Idx → EReal) (x7 : S1x32x64x16.Idx → EReal) (x8 : S1x32x16x64.Idx → EReal) (x9 : S1x32x16x64.Idx → EReal) (x10 : S1x32x16.Idx → EReal) (x11 : S1x512.Idx → EReal) (x12 : S1x1024.Idx → EReal) : get12 (packed x0 x1 x2 x3 x4 x5 x6 x7 x8 x9 x10 x11 x12) = x12 := by
  unfold get12
  rw [piece12]
  rw [shapeCast_shapeCast, pad_none, shapeCast_shapeCast]

end Cert.SmallPack

end
-- ==== Proof.SmallHead.lean ====
/- The four packed operands of the optimiser's step on the small weights, as the operations before the region leave them. -/
module

public import proofs.«01_k».proof.Proof.SmallPack
public import proofs.«01_k».proof.Proof.Gen.Kernel7Ideal.Launch
public import Idealize.ShloMosaic.Lib.StableHlo.RunRead

@[expose] public section

set_option maxRecDepth 16384

noncomputable section

namespace Cert.Small
open Idealize.ShloMosaic Idealize.ShloMosaic.TcCoe Idealize.ShloMosaic.StableHlo Cert.SmallPack
open Cert.Kernel7Ideal Cert.Kernel7Ideal.Gen

variable (V : Valuation τ sig (Elt Ideal))

/-- The operations before the region. -/
abbrev before : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104]

set_option maxHeartbeats 8000000 in
theorem head0 : StableHlo.after before V (Proc.devRef .tc main_v40) =
    packed (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  after_reads_simp
  rfl

set_option maxHeartbeats 8000000 in
theorem head1 : StableHlo.after before V (Proc.devRef .tc main_v81) =
    packed (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  after_reads_simp
  rfl

set_option maxHeartbeats 8000000 in
theorem head2 : StableHlo.after before V (Proc.devRef .tc main_v122) =
    packed (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34)) (V (Proc.devRef .tc main_arg35)) (V (Proc.devRef .tc main_arg36)) (V (Proc.devRef .tc main_arg37)) (V (Proc.devRef .tc main_arg38)) := by
  after_reads_simp
  rfl

set_option maxHeartbeats 8000000 in
theorem head3 : StableHlo.after before V (Proc.devRef .tc main_v163) =
    packed (V (Proc.devRef .tc main_arg39)) (V (Proc.devRef .tc main_arg40)) (V (Proc.devRef .tc main_arg41)) (V (Proc.devRef .tc main_arg42)) (V (Proc.devRef .tc main_arg43)) (V (Proc.devRef .tc main_arg44)) (V (Proc.devRef .tc main_arg45)) (V (Proc.devRef .tc main_arg46)) (V (Proc.devRef .tc main_arg47)) (V (Proc.devRef .tc main_arg48)) (V (Proc.devRef .tc main_arg49)) (V (Proc.devRef .tc main_arg50)) (V (Proc.devRef .tc main_arg51)) := by
  after_reads_simp
  rfl

end Cert.Small

end
-- ==== Proof.SmallArrays.lean ====
/- The optimiser's step on the packed small weights: the packed operands as the region finds them, and the three arrays that
   it leaves. -/
module

public import proofs.«01_k».proof.Proof.Adam
public import proofs.«01_k».proof.Proof.SmallHead
public import proofs.«01_k».proof.Proof.Gen.Kernel7Ideal.Frame
public import Idealize.ShloMosaic.Lib.Pointwise
public import Idealize.ShloMosaic.Lib.Pipeline.ValueKit
public import Idealize.ShloMosaic.Lib.StableHlo.RunRead

@[expose] public section

set_option maxRecDepth 16384

noncomputable section

namespace Cert.Small
open Idealize.ShloMosaic Idealize.ShloMosaic.TcCoe Idealize.SL.Sem Idealize.ShloMosaic.StableHlo Cert.SmallPack
open Cert.Kernel7Ideal Cert.Kernel7Ideal.Gen

variable (m : (ℓ : Loc nD τ sig) → Buf (Elt Ideal) ℓ) (c : Dev nD)

/-- Operand 0 of the call. -/
abbrev W : S1152x128.Idx → EReal := V m c main_v40

/-- Operand 1 of the call. -/
abbrev G : S1152x128.Idx → EReal := V m c main_v81

/-- Operand 2 of the call. -/
abbrev M : S1152x128.Idx → EReal := V m c main_v122

/-- Operand 3 of the call. -/
abbrev U : S1152x128.Idx → EReal := V m c main_v163

theorem W_eq : W m c = packed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := head0 _

theorem G_eq : G m c = packed (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := head1 _

theorem M_eq : M m c = packed (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) := head2 _

theorem U_eq : U m c = packed (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47)) (m ((c.tc : Thread nD τ).loc main_arg48)) (m ((c.tc : Thread nD τ).loc main_arg49)) (m ((c.tc : Thread nD τ).loc main_arg50)) (m ((c.tc : Thread nD τ).loc main_arg51)) := head3 _

theorem o4 (w g m v : Vec Ideal S128x128 .f32) (y) : out0_4 (F := Ideal) w g m v y = Adam.delta (w y) (g y) (m y) (v y) := by
  idx_vars y
  frame_out
  pointwise [k0_pay4, k0_pay3, k0_pay2, k0_pay1]
  rfl
theorem o5 (w g m v : Vec Ideal S128x128 .f32) (y) : out0_5 (F := Ideal) w g m v y = Adam.m2 (g y) (m y) := by
  idx_vars y
  frame_out
  pointwise [k0_pay2, k0_pay1]
  rfl
theorem o6 (w g m v : Vec Ideal S128x128 .f32) (y) : out0_6 (F := Ideal) w g m v y = Adam.v2 (g y) (v y) := by
  idx_vars y
  frame_out
  pointwise [k0_pay3, k0_pay1]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem arr4 : (dats m 0 c).arrAt 4 cfg0.N = fun j => Adam.delta (W m c j) (G m c j) (M m c j) (U m c j) := by
  refine (dats m 0 c).arrAt_eq_of_covers 4 _ (by decide +kernel) fun t hf y => ?_
  blk_simp
  rw [after0_4, o4]
  congr 1 <;> blk_ext [iblk, V, idx0 t, idx1 t, idx2 t, idx3 t, idx4 t]

theorem arr5 : (dats m 0 c).arrAt 5 cfg0.N = fun j => Adam.m2 (G m c j) (M m c j) := by
  refine (dats m 0 c).arrAt_eq_of_covers 5 _ (by decide +kernel) fun t hf y => ?_
  blk_simp
  rw [after0_5, o5]
  congr 1 <;> blk_ext [iblk, V, idx1 t, idx2 t, idx5 t]

theorem arr6 : (dats m 0 c).arrAt 6 cfg0.N = fun j => Adam.v2 (G m c j) (U m c j) := by
  refine (dats m 0 c).arrAt_eq_of_covers 6 _ (by decide +kernel) fun t hf y => ?_
  blk_simp
  rw [after0_6, o6]
  congr 1 <;> blk_ext [iblk, V, idx1 t, idx3 t, idx6 t]

/-- What the buffers hold when the region is left. -/
def E : Valuation τ sig (Elt Ideal) := Pipeline.withArrays spec0 c (V0 m c) fun w => (dats m 0 c).arrAt w cfg0.N

theorem inj : Function.Injective (Pipeline.arrRef spec0) := by decide

theorem exit4 : E m c (Proc.devRef .tc main_v164_0) = fun j => Adam.delta (W m c j) (G m c j) (M m c j) (U m c j) := by
  unfold E
  exact (Pipeline.withArrays_arr spec0 inj c (V0 m c) _ 4).trans (arr4 m c)
theorem exit5 : E m c (Proc.devRef .tc main_v164_1) = fun j => Adam.m2 (G m c j) (M m c j) := by
  unfold E
  exact (Pipeline.withArrays_arr spec0 inj c (V0 m c) _ 5).trans (arr5 m c)
theorem exit6 : E m c (Proc.devRef .tc main_v164_2) = fun j => Adam.v2 (G m c j) (U m c j) := by
  unfold E
  exact (Pipeline.withArrays_arr spec0 inj c (V0 m c) _ 6).trans (arr6 m c)

theorem after_tail (b : Ref sig .tc) : Pipeline.afterTail₀ cfgs (dats m) 0 (V0 m) [hostOps1] c b = StableHlo.after hostOps1 (E m c) (Proc.devRef .tc b) := by
  unfold Pipeline.afterTail₀ E
  rw [List.flatten_cons, List.flatten_nil, List.append_nil]

theorem getW0 : get0 (W m c) = m ((c.tc : Thread nD τ).loc main_arg0) := (congrArg get0 (W_eq m c)).trans (get_packed0 _ _ _ _ _ _ _ _ _ _ _ _ _ )
theorem getW1 : get1 (W m c) = m ((c.tc : Thread nD τ).loc main_arg1) := (congrArg get1 (W_eq m c)).trans (get_packed1 _ _ _ _ _ _ _ _ _ _ _ _ _ )
theorem getW2 : get2 (W m c) = m ((c.tc : Thread nD τ).loc main_arg2) := (congrArg get2 (W_eq m c)).trans (get_packed2 _ _ _ _ _ _ _ _ _ _ _ _ _ )
theorem getW3 : get3 (W m c) = m ((c.tc : Thread nD τ).loc main_arg3) := (congrArg get3 (W_eq m c)).trans (get_packed3 _ _ _ _ _ _ _ _ _ _ _ _ _ )
theorem getW4 : get4 (W m c) = m ((c.tc : Thread nD τ).loc main_arg4) := (congrArg get4 (W_eq m c)).trans (get_packed4 _ _ _ _ _ _ _ _ _ _ _ _ _ )
theorem getW5 : get5 (W m c) = m ((c.tc : Thread nD τ).loc main_arg5) := (congrArg get5 (W_eq m c)).trans (get_packed5 _ _ _ _ _ _ _ _ _ _ _ _ _ )
theorem getW6 : get6 (W m c) = m ((c.tc : Thread nD τ).loc main_arg6) := (congrArg get6 (W_eq m c)).trans (get_packed6 _ _ _ _ _ _ _ _ _ _ _ _ _ )
theorem getW7 : get7 (W m c) = m ((c.tc : Thread nD τ).loc main_arg7) := (congrArg get7 (W_eq m c)).trans (get_packed7 _ _ _ _ _ _ _ _ _ _ _ _ _ )
theorem getW8 : get8 (W m c) = m ((c.tc : Thread nD τ).loc main_arg8) := (congrArg get8 (W_eq m c)).trans (get_packed8 _ _ _ _ _ _ _ _ _ _ _ _ _ )
theorem getW9 : get9 (W m c) = m ((c.tc : Thread nD τ).loc main_arg9) := (congrArg get9 (W_eq m c)).trans (get_packed9 _ _ _ _ _ _ _ _ _ _ _ _ _ )
theorem getW10 : get10 (W m c) = m ((c.tc : Thread nD τ).loc main_arg10) := (congrArg get10 (W_eq m c)).trans (get_packed10 _ _ _ _ _ _ _ _ _ _ _ _ _ )
theorem getW11 : get11 (W m c) = m ((c.tc : Thread nD τ).loc main_arg11) := (congrArg get11 (W_eq m c)).trans (get_packed11 _ _ _ _ _ _ _ _ _ _ _ _ _ )
theorem getW12 : get12 (W m c) = m ((c.tc : Thread nD τ).loc main_arg12) := (congrArg get12 (W_eq m c)).trans (get_packed12 _ _ _ _ _ _ _ _ _ _ _ _ _ )
theorem getG0 : get0 (G m c) = m ((c.tc : Thread nD τ).loc main_arg13) := (congrArg get0 (G_eq m c)).trans (get_packed0 _ _ _ _ _ _ _ _ _ _ _ _ _ )
theorem getG1 : get1 (G m c) = m ((c.tc : Thread nD τ).loc main_arg14) := (congrArg get1 (G_eq m c)).trans (get_packed1 _ _ _ _ _ _ _ _ _ _ _ _ _ )
theorem getG2 : get2 (G m c) = m ((c.tc : Thread nD τ).loc main_arg15) := (congrArg get2 (G_eq m c)).trans (get_packed2 _ _ _ _ _ _ _ _ _ _ _ _ _ )
theorem getG3 : get3 (G m c) = m ((c.tc : Thread nD τ).loc main_arg16) := (congrArg get3 (G_eq m c)).trans (get_packed3 _ _ _ _ _ _ _ _ _ _ _ _ _ )
theorem getG4 : get4 (G m c) = m ((c.tc : Thread nD τ).loc main_arg17) := (congrArg get4 (G_eq m c)).trans (get_packed4 _ _ _ _ _ _ _ _ _ _ _ _ _ )
theorem getG5 : get5 (G m c) = m ((c.tc : Thread nD τ).loc main_arg18) := (congrArg get5 (G_eq m c)).trans (get_packed5 _ _ _ _ _ _ _ _ _ _ _ _ _ )
theorem getG6 : get6 (G m c) = m ((c.tc : Thread nD τ).loc main_arg19) := (congrArg get6 (G_eq m c)).trans (get_packed6 _ _ _ _ _ _ _ _ _ _ _ _ _ )
theorem getG7 : get7 (G m c) = m ((c.tc : Thread nD τ).loc main_arg20) := (congrArg get7 (G_eq m c)).trans (get_packed7 _ _ _ _ _ _ _ _ _ _ _ _ _ )
theorem getG8 : get8 (G m c) = m ((c.tc : Thread nD τ).loc main_arg21) := (congrArg get8 (G_eq m c)).trans (get_packed8 _ _ _ _ _ _ _ _ _ _ _ _ _ )
theorem getG9 : get9 (G m c) = m ((c.tc : Thread nD τ).loc main_arg22) := (congrArg get9 (G_eq m c)).trans (get_packed9 _ _ _ _ _ _ _ _ _ _ _ _ _ )
theorem getG10 : get10 (G m c) = m ((c.tc : Thread nD τ).loc main_arg23) := (congrArg get10 (G_eq m c)).trans (get_packed10 _ _ _ _ _ _ _ _ _ _ _ _ _ )
theorem getG11 : get11 (G m c) = m ((c.tc : Thread nD τ).loc main_arg24) := (congrArg get11 (G_eq m c)).trans (get_packed11 _ _ _ _ _ _ _ _ _ _ _ _ _ )
theorem getG12 : get12 (G m c) = m ((c.tc : Thread nD τ).loc main_arg25) := (congrArg get12 (G_eq m c)).trans (get_packed12 _ _ _ _ _ _ _ _ _ _ _ _ _ )
theorem getM0 : get0 (M m c) = m ((c.tc : Thread nD τ).loc main_arg26) := (congrArg get0 (M_eq m c)).trans (get_packed0 _ _ _ _ _ _ _ _ _ _ _ _ _ )
theorem getM1 : get1 (M m c) = m ((c.tc : Thread nD τ).loc main_arg27) := (congrArg get1 (M_eq m c)).trans (get_packed1 _ _ _ _ _ _ _ _ _ _ _ _ _ )
theorem getM2 : get2 (M m c) = m ((c.tc : Thread nD τ).loc main_arg28) := (congrArg get2 (M_eq m c)).trans (get_packed2 _ _ _ _ _ _ _ _ _ _ _ _ _ )
theorem getM3 : get3 (M m c) = m ((c.tc : Thread nD τ).loc main_arg29) := (congrArg get3 (M_eq m c)).trans (get_packed3 _ _ _ _ _ _ _ _ _ _ _ _ _ )
theorem getM4 : get4 (M m c) = m ((c.tc : Thread nD τ).loc main_arg30) := (congrArg get4 (M_eq m c)).trans (get_packed4 _ _ _ _ _ _ _ _ _ _ _ _ _ )
theorem getM5 : get5 (M m c) = m ((c.tc : Thread nD τ).loc main_arg31) := (congrArg get5 (M_eq m c)).trans (get_packed5 _ _ _ _ _ _ _ _ _ _ _ _ _ )
theorem getM6 : get6 (M m c) = m ((c.tc : Thread nD τ).loc main_arg32) := (congrArg get6 (M_eq m c)).trans (get_packed6 _ _ _ _ _ _ _ _ _ _ _ _ _ )
theorem getM7 : get7 (M m c) = m ((c.tc : Thread nD τ).loc main_arg33) := (congrArg get7 (M_eq m c)).trans (get_packed7 _ _ _ _ _ _ _ _ _ _ _ _ _ )
theorem getM8 : get8 (M m c) = m ((c.tc : Thread nD τ).loc main_arg34) := (congrArg get8 (M_eq m c)).trans (get_packed8 _ _ _ _ _ _ _ _ _ _ _ _ _ )
theorem getM9 : get9 (M m c) = m ((c.tc : Thread nD τ).loc main_arg35) := (congrArg get9 (M_eq m c)).trans (get_packed9 _ _ _ _ _ _ _ _ _ _ _ _ _ )
theorem getM10 : get10 (M m c) = m ((c.tc : Thread nD τ).loc main_arg36) := (congrArg get10 (M_eq m c)).trans (get_packed10 _ _ _ _ _ _ _ _ _ _ _ _ _ )
theorem getM11 : get11 (M m c) = m ((c.tc : Thread nD τ).loc main_arg37) := (congrArg get11 (M_eq m c)).trans (get_packed11 _ _ _ _ _ _ _ _ _ _ _ _ _ )
theorem getM12 : get12 (M m c) = m ((c.tc : Thread nD τ).loc main_arg38) := (congrArg get12 (M_eq m c)).trans (get_packed12 _ _ _ _ _ _ _ _ _ _ _ _ _ )
theorem getU0 : get0 (U m c) = m ((c.tc : Thread nD τ).loc main_arg39) := (congrArg get0 (U_eq m c)).trans (get_packed0 _ _ _ _ _ _ _ _ _ _ _ _ _ )
theorem getU1 : get1 (U m c) = m ((c.tc : Thread nD τ).loc main_arg40) := (congrArg get1 (U_eq m c)).trans (get_packed1 _ _ _ _ _ _ _ _ _ _ _ _ _ )
theorem getU2 : get2 (U m c) = m ((c.tc : Thread nD τ).loc main_arg41) := (congrArg get2 (U_eq m c)).trans (get_packed2 _ _ _ _ _ _ _ _ _ _ _ _ _ )
theorem getU3 : get3 (U m c) = m ((c.tc : Thread nD τ).loc main_arg42) := (congrArg get3 (U_eq m c)).trans (get_packed3 _ _ _ _ _ _ _ _ _ _ _ _ _ )
theorem getU4 : get4 (U m c) = m ((c.tc : Thread nD τ).loc main_arg43) := (congrArg get4 (U_eq m c)).trans (get_packed4 _ _ _ _ _ _ _ _ _ _ _ _ _ )
theorem getU5 : get5 (U m c) = m ((c.tc : Thread nD τ).loc main_arg44) := (congrArg get5 (U_eq m c)).trans (get_packed5 _ _ _ _ _ _ _ _ _ _ _ _ _ )
theorem getU6 : get6 (U m c) = m ((c.tc : Thread nD τ).loc main_arg45) := (congrArg get6 (U_eq m c)).trans (get_packed6 _ _ _ _ _ _ _ _ _ _ _ _ _ )
theorem getU7 : get7 (U m c) = m ((c.tc : Thread nD τ).loc main_arg46) := (congrArg get7 (U_eq m c)).trans (get_packed7 _ _ _ _ _ _ _ _ _ _ _ _ _ )
theorem getU8 : get8 (U m c) = m ((c.tc : Thread nD τ).loc main_arg47) := (congrArg get8 (U_eq m c)).trans (get_packed8 _ _ _ _ _ _ _ _ _ _ _ _ _ )
theorem getU9 : get9 (U m c) = m ((c.tc : Thread nD τ).loc main_arg48) := (congrArg get9 (U_eq m c)).trans (get_packed9 _ _ _ _ _ _ _ _ _ _ _ _ _ )
theorem getU10 : get10 (U m c) = m ((c.tc : Thread nD τ).loc main_arg49) := (congrArg get10 (U_eq m c)).trans (get_packed10 _ _ _ _ _ _ _ _ _ _ _ _ _ )
theorem getU11 : get11 (U m c) = m ((c.tc : Thread nD τ).loc main_arg50) := (congrArg get11 (U_eq m c)).trans (get_packed11 _ _ _ _ _ _ _ _ _ _ _ _ _ )
theorem getU12 : get12 (U m c) = m ((c.tc : Thread nD τ).loc main_arg51) := (congrArg get12 (U_eq m c)).trans (get_packed12 _ _ _ _ _ _ _ _ _ _ _ _ _ )

end Cert.Small

end
-- ==== Proof.SmallTail.lean ====
/- The thirty-nine results that the program reads back out of the three packed arrays. -/
module

public import proofs.«01_k».proof.Proof.Adam
public import proofs.«01_k».proof.Proof.SmallPack
public import proofs.«01_k».proof.Proof.Gen.Kernel7Ideal.Launch
public import Idealize.ShloMosaic.Lib.StableHlo.RunRead

@[expose] public section

set_option maxRecDepth 16384

noncomputable section

namespace Cert.Small
open Idealize.ShloMosaic Idealize.ShloMosaic.TcCoe Idealize.ShloMosaic.StableHlo Cert.SmallPack
open Cert.Kernel7Ideal Cert.Kernel7Ideal.Gen

variable (V : Valuation τ sig (Elt Ideal))

theorem tail0_0 : StableHlo.after hostOps1 V (Proc.devRef .tc main_v167) = get0 (V (Proc.devRef .tc main_v164_0)) := by
  after_reads_simp
  rfl
theorem tail0_1 : StableHlo.after hostOps1 V (Proc.devRef .tc main_v170) = get1 (V (Proc.devRef .tc main_v164_0)) := by
  after_reads_simp
  rfl
theorem tail0_2 : StableHlo.after hostOps1 V (Proc.devRef .tc main_v173) = get2 (V (Proc.devRef .tc main_v164_0)) := by
  after_reads_simp
  rfl
theorem tail0_3 : StableHlo.after hostOps1 V (Proc.devRef .tc main_v176) = get3 (V (Proc.devRef .tc main_v164_0)) := by
  after_reads_simp
  rfl
theorem tail0_4 : StableHlo.after hostOps1 V (Proc.devRef .tc main_v179) = get4 (V (Proc.devRef .tc main_v164_0)) := by
  after_reads_simp
  rfl
theorem tail0_5 : StableHlo.after hostOps1 V (Proc.devRef .tc main_v183) = get5 (V (Proc.devRef .tc main_v164_0)) := by
  after_reads_simp
  rfl
theorem tail0_6 : StableHlo.after hostOps1 V (Proc.devRef .tc main_v186) = get6 (V (Proc.devRef .tc main_v164_0)) := by
  after_reads_simp
  rfl
theorem tail0_7 : StableHlo.after hostOps1 V (Proc.devRef .tc main_v189) = get7 (V (Proc.devRef .tc main_v164_0)) := by
  after_reads_simp
  rfl
theorem tail0_8 : StableHlo.after hostOps1 V (Proc.devRef .tc main_v192) = get8 (V (Proc.devRef .tc main_v164_0)) := by
  after_reads_simp
  rfl
theorem tail0_9 : StableHlo.after hostOps1 V (Proc.devRef .tc main_v195) = get9 (V (Proc.devRef .tc main_v164_0)) := by
  after_reads_simp
  rfl
theorem tail0_10 : StableHlo.after hostOps1 V (Proc.devRef .tc main_v199) = get10 (V (Proc.devRef .tc main_v164_0)) := by
  after_reads_simp
  rfl
theorem tail0_11 : StableHlo.after hostOps1 V (Proc.devRef .tc main_v203) = get11 (V (Proc.devRef .tc main_v164_0)) := by
  after_reads_simp
  rfl
theorem tail0_12 : StableHlo.after hostOps1 V (Proc.devRef .tc main_v206) = get12 (V (Proc.devRef .tc main_v164_0)) := by
  after_reads_simp
  rfl
theorem tail1_0 : StableHlo.after hostOps1 V (Proc.devRef .tc main_v211) = get0 (V (Proc.devRef .tc main_v164_1)) := by
  after_reads_simp
  rfl
theorem tail1_1 : StableHlo.after hostOps1 V (Proc.devRef .tc main_v214) = get1 (V (Proc.devRef .tc main_v164_1)) := by
  after_reads_simp
  rfl
theorem tail1_2 : StableHlo.after hostOps1 V (Proc.devRef .tc main_v217) = get2 (V (Proc.devRef .tc main_v164_1)) := by
  after_reads_simp
  rfl
theorem tail1_3 : StableHlo.after hostOps1 V (Proc.devRef .tc main_v220) = get3 (V (Proc.devRef .tc main_v164_1)) := by
  after_reads_simp
  rfl
theorem tail1_4 : StableHlo.after hostOps1 V (Proc.devRef .tc main_v223) = get4 (V (Proc.devRef .tc main_v164_1)) := by
  after_reads_simp
  rfl
theorem tail1_5 : StableHlo.after hostOps1 V (Proc.devRef .tc main_v227) = get5 (V (Proc.devRef .tc main_v164_1)) := by
  after_reads_simp
  rfl
theorem tail1_6 : StableHlo.after hostOps1 V (Proc.devRef .tc main_v230) = get6 (V (Proc.devRef .tc main_v164_1)) := by
  after_reads_simp
  rfl
theorem tail1_7 : StableHlo.after hostOps1 V (Proc.devRef .tc main_v233) = get7 (V (Proc.devRef .tc main_v164_1)) := by
  after_reads_simp
  rfl
theorem tail1_8 : StableHlo.after hostOps1 V (Proc.devRef .tc main_v236) = get8 (V (Proc.devRef .tc main_v164_1)) := by
  after_reads_simp
  rfl
theorem tail1_9 : StableHlo.after hostOps1 V (Proc.devRef .tc main_v239) = get9 (V (Proc.devRef .tc main_v164_1)) := by
  after_reads_simp
  rfl
theorem tail1_10 : StableHlo.after hostOps1 V (Proc.devRef .tc main_v243) = get10 (V (Proc.devRef .tc main_v164_1)) := by
  after_reads_simp
  rfl
theorem tail1_11 : StableHlo.after hostOps1 V (Proc.devRef .tc main_v247) = get11 (V (Proc.devRef .tc main_v164_1)) := by
  after_reads_simp
  rfl
theorem tail1_12 : StableHlo.after hostOps1 V (Proc.devRef .tc main_v250) = get12 (V (Proc.devRef .tc main_v164_1)) := by
  after_reads_simp
  rfl
theorem tail2_0 : StableHlo.after hostOps1 V (Proc.devRef .tc main_v255) = get0 (V (Proc.devRef .tc main_v164_2)) := by
  after_reads_simp
  rfl
theorem tail2_1 : StableHlo.after hostOps1 V (Proc.devRef .tc main_v258) = get1 (V (Proc.devRef .tc main_v164_2)) := by
  after_reads_simp
  rfl
theorem tail2_2 : StableHlo.after hostOps1 V (Proc.devRef .tc main_v261) = get2 (V (Proc.devRef .tc main_v164_2)) := by
  after_reads_simp
  rfl
theorem tail2_3 : StableHlo.after hostOps1 V (Proc.devRef .tc main_v264) = get3 (V (Proc.devRef .tc main_v164_2)) := by
  after_reads_simp
  rfl
theorem tail2_4 : StableHlo.after hostOps1 V (Proc.devRef .tc main_v267) = get4 (V (Proc.devRef .tc main_v164_2)) := by
  after_reads_simp
  rfl
theorem tail2_5 : StableHlo.after hostOps1 V (Proc.devRef .tc main_v271) = get5 (V (Proc.devRef .tc main_v164_2)) := by
  after_reads_simp
  rfl
theorem tail2_6 : StableHlo.after hostOps1 V (Proc.devRef .tc main_v274) = get6 (V (Proc.devRef .tc main_v164_2)) := by
  after_reads_simp
  rfl
theorem tail2_7 : StableHlo.after hostOps1 V (Proc.devRef .tc main_v277) = get7 (V (Proc.devRef .tc main_v164_2)) := by
  after_reads_simp
  rfl
theorem tail2_8 : StableHlo.after hostOps1 V (Proc.devRef .tc main_v280) = get8 (V (Proc.devRef .tc main_v164_2)) := by
  after_reads_simp
  rfl
theorem tail2_9 : StableHlo.after hostOps1 V (Proc.devRef .tc main_v283) = get9 (V (Proc.devRef .tc main_v164_2)) := by
  after_reads_simp
  rfl
theorem tail2_10 : StableHlo.after hostOps1 V (Proc.devRef .tc main_v287) = get10 (V (Proc.devRef .tc main_v164_2)) := by
  after_reads_simp
  rfl
theorem tail2_11 : StableHlo.after hostOps1 V (Proc.devRef .tc main_v291) = get11 (V (Proc.devRef .tc main_v164_2)) := by
  after_reads_simp
  rfl
theorem tail2_12 : StableHlo.after hostOps1 V (Proc.devRef .tc main_v294) = get12 (V (Proc.devRef .tc main_v164_2)) := by
  after_reads_simp
  rfl
theorem out0_0 {w g u v : S1152x128.Idx → EReal} {w' g' u' v' : S1x1024.Idx → EReal} (hw : get0 w = w') (hg : get0 g = g') (hu : get0 u = u') (hv : get0 v = v')
    (h : V (Proc.devRef .tc main_v164_0) = fun j => Adam.delta (w j) (g j) (u j) (v j)) :
    StableHlo.after hostOps1 V (Proc.devRef .tc main_v167) = fun j => Adam.delta (w' j) (g' j) (u' j) (v' j) := by
  rw [tail0_0, h]
  subst hw hg hu hv
  rfl
theorem out0_1 {w g u v : S1152x128.Idx → EReal} {w' g' u' v' : S1x1024.Idx → EReal} (hw : get1 w = w') (hg : get1 g = g') (hu : get1 u = u') (hv : get1 v = v')
    (h : V (Proc.devRef .tc main_v164_0) = fun j => Adam.delta (w j) (g j) (u j) (v j)) :
    StableHlo.after hostOps1 V (Proc.devRef .tc main_v170) = fun j => Adam.delta (w' j) (g' j) (u' j) (v' j) := by
  rw [tail0_1, h]
  subst hw hg hu hv
  rfl
theorem out0_2 {w g u v : S1152x128.Idx → EReal} {w' g' u' v' : S1x1024.Idx → EReal} (hw : get2 w = w') (hg : get2 g = g') (hu : get2 u = u') (hv : get2 v = v')
    (h : V (Proc.devRef .tc main_v164_0) = fun j => Adam.delta (w j) (g j) (u j) (v j)) :
    StableHlo.after hostOps1 V (Proc.devRef .tc main_v173) = fun j => Adam.delta (w' j) (g' j) (u' j) (v' j) := by
  rw [tail0_2, h]
  subst hw hg hu hv
  rfl
theorem out0_3 {w g u v : S1152x128.Idx → EReal} {w' g' u' v' : S1x32x64.Idx → EReal} (hw : get3 w = w') (hg : get3 g = g') (hu : get3 u = u') (hv : get3 v = v')
    (h : V (Proc.devRef .tc main_v164_0) = fun j => Adam.delta (w j) (g j) (u j) (v j)) :
    StableHlo.after hostOps1 V (Proc.devRef .tc main_v176) = fun j => Adam.delta (w' j) (g' j) (u' j) (v' j) := by
  rw [tail0_3, h]
  subst hw hg hu hv
  rfl
theorem out0_4 {w g u v : S1152x128.Idx → EReal} {w' g' u' v' : S1x32x64.Idx → EReal} (hw : get4 w = w') (hg : get4 g = g') (hu : get4 u = u') (hv : get4 v = v')
    (h : V (Proc.devRef .tc main_v164_0) = fun j => Adam.delta (w j) (g j) (u j) (v j)) :
    StableHlo.after hostOps1 V (Proc.devRef .tc main_v179) = fun j => Adam.delta (w' j) (g' j) (u' j) (v' j) := by
  rw [tail0_4, h]
  subst hw hg hu hv
  rfl
theorem out0_5 {w g u v : S1152x128.Idx → EReal} {w' g' u' v' : S1x32.Idx → EReal} (hw : get5 w = w') (hg : get5 g = g') (hu : get5 u = u') (hv : get5 v = v')
    (h : V (Proc.devRef .tc main_v164_0) = fun j => Adam.delta (w j) (g j) (u j) (v j)) :
    StableHlo.after hostOps1 V (Proc.devRef .tc main_v183) = fun j => Adam.delta (w' j) (g' j) (u' j) (v' j) := by
  rw [tail0_5, h]
  subst hw hg hu hv
  rfl
theorem out0_6 {w g u v : S1152x128.Idx → EReal} {w' g' u' v' : S1x32x64x16.Idx → EReal} (hw : get6 w = w') (hg : get6 g = g') (hu : get6 u = u') (hv : get6 v = v')
    (h : V (Proc.devRef .tc main_v164_0) = fun j => Adam.delta (w j) (g j) (u j) (v j)) :
    StableHlo.after hostOps1 V (Proc.devRef .tc main_v186) = fun j => Adam.delta (w' j) (g' j) (u' j) (v' j) := by
  rw [tail0_6, h]
  subst hw hg hu hv
  rfl
theorem out0_7 {w g u v : S1152x128.Idx → EReal} {w' g' u' v' : S1x32x64x16.Idx → EReal} (hw : get7 w = w') (hg : get7 g = g') (hu : get7 u = u') (hv : get7 v = v')
    (h : V (Proc.devRef .tc main_v164_0) = fun j => Adam.delta (w j) (g j) (u j) (v j)) :
    StableHlo.after hostOps1 V (Proc.devRef .tc main_v189) = fun j => Adam.delta (w' j) (g' j) (u' j) (v' j) := by
  rw [tail0_7, h]
  subst hw hg hu hv
  rfl
theorem out0_8 {w g u v : S1152x128.Idx → EReal} {w' g' u' v' : S1x32x16x64.Idx → EReal} (hw : get8 w = w') (hg : get8 g = g') (hu : get8 u = u') (hv : get8 v = v')
    (h : V (Proc.devRef .tc main_v164_0) = fun j => Adam.delta (w j) (g j) (u j) (v j)) :
    StableHlo.after hostOps1 V (Proc.devRef .tc main_v192) = fun j => Adam.delta (w' j) (g' j) (u' j) (v' j) := by
  rw [tail0_8, h]
  subst hw hg hu hv
  rfl
theorem out0_9 {w g u v : S1152x128.Idx → EReal} {w' g' u' v' : S1x32x16x64.Idx → EReal} (hw : get9 w = w') (hg : get9 g = g') (hu : get9 u = u') (hv : get9 v = v')
    (h : V (Proc.devRef .tc main_v164_0) = fun j => Adam.delta (w j) (g j) (u j) (v j)) :
    StableHlo.after hostOps1 V (Proc.devRef .tc main_v195) = fun j => Adam.delta (w' j) (g' j) (u' j) (v' j) := by
  rw [tail0_9, h]
  subst hw hg hu hv
  rfl
theorem out0_10 {w g u v : S1152x128.Idx → EReal} {w' g' u' v' : S1x32x16.Idx → EReal} (hw : get10 w = w') (hg : get10 g = g') (hu : get10 u = u') (hv : get10 v = v')
    (h : V (Proc.devRef .tc main_v164_0) = fun j => Adam.delta (w j) (g j) (u j) (v j)) :
    StableHlo.after hostOps1 V (Proc.devRef .tc main_v199) = fun j => Adam.delta (w' j) (g' j) (u' j) (v' j) := by
  rw [tail0_10, h]
  subst hw hg hu hv
  rfl
theorem out0_11 {w g u v : S1152x128.Idx → EReal} {w' g' u' v' : S1x512.Idx → EReal} (hw : get11 w = w') (hg : get11 g = g') (hu : get11 u = u') (hv : get11 v = v')
    (h : V (Proc.devRef .tc main_v164_0) = fun j => Adam.delta (w j) (g j) (u j) (v j)) :
    StableHlo.after hostOps1 V (Proc.devRef .tc main_v203) = fun j => Adam.delta (w' j) (g' j) (u' j) (v' j) := by
  rw [tail0_11, h]
  subst hw hg hu hv
  rfl
theorem out0_12 {w g u v : S1152x128.Idx → EReal} {w' g' u' v' : S1x1024.Idx → EReal} (hw : get12 w = w') (hg : get12 g = g') (hu : get12 u = u') (hv : get12 v = v')
    (h : V (Proc.devRef .tc main_v164_0) = fun j => Adam.delta (w j) (g j) (u j) (v j)) :
    StableHlo.after hostOps1 V (Proc.devRef .tc main_v206) = fun j => Adam.delta (w' j) (g' j) (u' j) (v' j) := by
  rw [tail0_12, h]
  subst hw hg hu hv
  rfl
theorem out1_0 {g u : S1152x128.Idx → EReal} {g' u' : S1x1024.Idx → EReal} (hg : get0 g = g') (hu : get0 u = u')
    (h : V (Proc.devRef .tc main_v164_1) = fun j => Adam.m2 (g j) (u j)) :
    StableHlo.after hostOps1 V (Proc.devRef .tc main_v211) = fun j => Adam.m2 (g' j) (u' j) := by
  rw [tail1_0, h]
  subst hg hu
  rfl
theorem out1_1 {g u : S1152x128.Idx → EReal} {g' u' : S1x1024.Idx → EReal} (hg : get1 g = g') (hu : get1 u = u')
    (h : V (Proc.devRef .tc main_v164_1) = fun j => Adam.m2 (g j) (u j)) :
    StableHlo.after hostOps1 V (Proc.devRef .tc main_v214) = fun j => Adam.m2 (g' j) (u' j) := by
  rw [tail1_1, h]
  subst hg hu
  rfl
theorem out1_2 {g u : S1152x128.Idx → EReal} {g' u' : S1x1024.Idx → EReal} (hg : get2 g = g') (hu : get2 u = u')
    (h : V (Proc.devRef .tc main_v164_1) = fun j => Adam.m2 (g j) (u j)) :
    StableHlo.after hostOps1 V (Proc.devRef .tc main_v217) = fun j => Adam.m2 (g' j) (u' j) := by
  rw [tail1_2, h]
  subst hg hu
  rfl
theorem out1_3 {g u : S1152x128.Idx → EReal} {g' u' : S1x32x64.Idx → EReal} (hg : get3 g = g') (hu : get3 u = u')
    (h : V (Proc.devRef .tc main_v164_1) = fun j => Adam.m2 (g j) (u j)) :
    StableHlo.after hostOps1 V (Proc.devRef .tc main_v220) = fun j => Adam.m2 (g' j) (u' j) := by
  rw [tail1_3, h]
  subst hg hu
  rfl
theorem out1_4 {g u : S1152x128.Idx → EReal} {g' u' : S1x32x64.Idx → EReal} (hg : get4 g = g') (hu : get4 u = u')
    (h : V (Proc.devRef .tc main_v164_1) = fun j => Adam.m2 (g j) (u j)) :
    StableHlo.after hostOps1 V (Proc.devRef .tc main_v223) = fun j => Adam.m2 (g' j) (u' j) := by
  rw [tail1_4, h]
  subst hg hu
  rfl
theorem out1_5 {g u : S1152x128.Idx → EReal} {g' u' : S1x32.Idx → EReal} (hg : get5 g = g') (hu : get5 u = u')
    (h : V (Proc.devRef .tc main_v164_1) = fun j => Adam.m2 (g j) (u j)) :
    StableHlo.after hostOps1 V (Proc.devRef .tc main_v227) = fun j => Adam.m2 (g' j) (u' j) := by
  rw [tail1_5, h]
  subst hg hu
  rfl
theorem out1_6 {g u : S1152x128.Idx → EReal} {g' u' : S1x32x64x16.Idx → EReal} (hg : get6 g = g') (hu : get6 u = u')
    (h : V (Proc.devRef .tc main_v164_1) = fun j => Adam.m2 (g j) (u j)) :
    StableHlo.after hostOps1 V (Proc.devRef .tc main_v230) = fun j => Adam.m2 (g' j) (u' j) := by
  rw [tail1_6, h]
  subst hg hu
  rfl
theorem out1_7 {g u : S1152x128.Idx → EReal} {g' u' : S1x32x64x16.Idx → EReal} (hg : get7 g = g') (hu : get7 u = u')
    (h : V (Proc.devRef .tc main_v164_1) = fun j => Adam.m2 (g j) (u j)) :
    StableHlo.after hostOps1 V (Proc.devRef .tc main_v233) = fun j => Adam.m2 (g' j) (u' j) := by
  rw [tail1_7, h]
  subst hg hu
  rfl
theorem out1_8 {g u : S1152x128.Idx → EReal} {g' u' : S1x32x16x64.Idx → EReal} (hg : get8 g = g') (hu : get8 u = u')
    (h : V (Proc.devRef .tc main_v164_1) = fun j => Adam.m2 (g j) (u j)) :
    StableHlo.after hostOps1 V (Proc.devRef .tc main_v236) = fun j => Adam.m2 (g' j) (u' j) := by
  rw [tail1_8, h]
  subst hg hu
  rfl
theorem out1_9 {g u : S1152x128.Idx → EReal} {g' u' : S1x32x16x64.Idx → EReal} (hg : get9 g = g') (hu : get9 u = u')
    (h : V (Proc.devRef .tc main_v164_1) = fun j => Adam.m2 (g j) (u j)) :
    StableHlo.after hostOps1 V (Proc.devRef .tc main_v239) = fun j => Adam.m2 (g' j) (u' j) := by
  rw [tail1_9, h]
  subst hg hu
  rfl
theorem out1_10 {g u : S1152x128.Idx → EReal} {g' u' : S1x32x16.Idx → EReal} (hg : get10 g = g') (hu : get10 u = u')
    (h : V (Proc.devRef .tc main_v164_1) = fun j => Adam.m2 (g j) (u j)) :
    StableHlo.after hostOps1 V (Proc.devRef .tc main_v243) = fun j => Adam.m2 (g' j) (u' j) := by
  rw [tail1_10, h]
  subst hg hu
  rfl
theorem out1_11 {g u : S1152x128.Idx → EReal} {g' u' : S1x512.Idx → EReal} (hg : get11 g = g') (hu : get11 u = u')
    (h : V (Proc.devRef .tc main_v164_1) = fun j => Adam.m2 (g j) (u j)) :
    StableHlo.after hostOps1 V (Proc.devRef .tc main_v247) = fun j => Adam.m2 (g' j) (u' j) := by
  rw [tail1_11, h]
  subst hg hu
  rfl
theorem out1_12 {g u : S1152x128.Idx → EReal} {g' u' : S1x1024.Idx → EReal} (hg : get12 g = g') (hu : get12 u = u')
    (h : V (Proc.devRef .tc main_v164_1) = fun j => Adam.m2 (g j) (u j)) :
    StableHlo.after hostOps1 V (Proc.devRef .tc main_v250) = fun j => Adam.m2 (g' j) (u' j) := by
  rw [tail1_12, h]
  subst hg hu
  rfl
theorem out2_0 {g v : S1152x128.Idx → EReal} {g' v' : S1x1024.Idx → EReal} (hg : get0 g = g') (hv : get0 v = v')
    (h : V (Proc.devRef .tc main_v164_2) = fun j => Adam.v2 (g j) (v j)) :
    StableHlo.after hostOps1 V (Proc.devRef .tc main_v255) = fun j => Adam.v2 (g' j) (v' j) := by
  rw [tail2_0, h]
  subst hg hv
  rfl
theorem out2_1 {g v : S1152x128.Idx → EReal} {g' v' : S1x1024.Idx → EReal} (hg : get1 g = g') (hv : get1 v = v')
    (h : V (Proc.devRef .tc main_v164_2) = fun j => Adam.v2 (g j) (v j)) :
    StableHlo.after hostOps1 V (Proc.devRef .tc main_v258) = fun j => Adam.v2 (g' j) (v' j) := by
  rw [tail2_1, h]
  subst hg hv
  rfl
theorem out2_2 {g v : S1152x128.Idx → EReal} {g' v' : S1x1024.Idx → EReal} (hg : get2 g = g') (hv : get2 v = v')
    (h : V (Proc.devRef .tc main_v164_2) = fun j => Adam.v2 (g j) (v j)) :
    StableHlo.after hostOps1 V (Proc.devRef .tc main_v261) = fun j => Adam.v2 (g' j) (v' j) := by
  rw [tail2_2, h]
  subst hg hv
  rfl
theorem out2_3 {g v : S1152x128.Idx → EReal} {g' v' : S1x32x64.Idx → EReal} (hg : get3 g = g') (hv : get3 v = v')
    (h : V (Proc.devRef .tc main_v164_2) = fun j => Adam.v2 (g j) (v j)) :
    StableHlo.after hostOps1 V (Proc.devRef .tc main_v264) = fun j => Adam.v2 (g' j) (v' j) := by
  rw [tail2_3, h]
  subst hg hv
  rfl
theorem out2_4 {g v : S1152x128.Idx → EReal} {g' v' : S1x32x64.Idx → EReal} (hg : get4 g = g') (hv : get4 v = v')
    (h : V (Proc.devRef .tc main_v164_2) = fun j => Adam.v2 (g j) (v j)) :
    StableHlo.after hostOps1 V (Proc.devRef .tc main_v267) = fun j => Adam.v2 (g' j) (v' j) := by
  rw [tail2_4, h]
  subst hg hv
  rfl
theorem out2_5 {g v : S1152x128.Idx → EReal} {g' v' : S1x32.Idx → EReal} (hg : get5 g = g') (hv : get5 v = v')
    (h : V (Proc.devRef .tc main_v164_2) = fun j => Adam.v2 (g j) (v j)) :
    StableHlo.after hostOps1 V (Proc.devRef .tc main_v271) = fun j => Adam.v2 (g' j) (v' j) := by
  rw [tail2_5, h]
  subst hg hv
  rfl
theorem out2_6 {g v : S1152x128.Idx → EReal} {g' v' : S1x32x64x16.Idx → EReal} (hg : get6 g = g') (hv : get6 v = v')
    (h : V (Proc.devRef .tc main_v164_2) = fun j => Adam.v2 (g j) (v j)) :
    StableHlo.after hostOps1 V (Proc.devRef .tc main_v274) = fun j => Adam.v2 (g' j) (v' j) := by
  rw [tail2_6, h]
  subst hg hv
  rfl
theorem out2_7 {g v : S1152x128.Idx → EReal} {g' v' : S1x32x64x16.Idx → EReal} (hg : get7 g = g') (hv : get7 v = v')
    (h : V (Proc.devRef .tc main_v164_2) = fun j => Adam.v2 (g j) (v j)) :
    StableHlo.after hostOps1 V (Proc.devRef .tc main_v277) = fun j => Adam.v2 (g' j) (v' j) := by
  rw [tail2_7, h]
  subst hg hv
  rfl
theorem out2_8 {g v : S1152x128.Idx → EReal} {g' v' : S1x32x16x64.Idx → EReal} (hg : get8 g = g') (hv : get8 v = v')
    (h : V (Proc.devRef .tc main_v164_2) = fun j => Adam.v2 (g j) (v j)) :
    StableHlo.after hostOps1 V (Proc.devRef .tc main_v280) = fun j => Adam.v2 (g' j) (v' j) := by
  rw [tail2_8, h]
  subst hg hv
  rfl
theorem out2_9 {g v : S1152x128.Idx → EReal} {g' v' : S1x32x16x64.Idx → EReal} (hg : get9 g = g') (hv : get9 v = v')
    (h : V (Proc.devRef .tc main_v164_2) = fun j => Adam.v2 (g j) (v j)) :
    StableHlo.after hostOps1 V (Proc.devRef .tc main_v283) = fun j => Adam.v2 (g' j) (v' j) := by
  rw [tail2_9, h]
  subst hg hv
  rfl
theorem out2_10 {g v : S1152x128.Idx → EReal} {g' v' : S1x32x16.Idx → EReal} (hg : get10 g = g') (hv : get10 v = v')
    (h : V (Proc.devRef .tc main_v164_2) = fun j => Adam.v2 (g j) (v j)) :
    StableHlo.after hostOps1 V (Proc.devRef .tc main_v287) = fun j => Adam.v2 (g' j) (v' j) := by
  rw [tail2_10, h]
  subst hg hv
  rfl
theorem out2_11 {g v : S1152x128.Idx → EReal} {g' v' : S1x512.Idx → EReal} (hg : get11 g = g') (hv : get11 v = v')
    (h : V (Proc.devRef .tc main_v164_2) = fun j => Adam.v2 (g j) (v j)) :
    StableHlo.after hostOps1 V (Proc.devRef .tc main_v291) = fun j => Adam.v2 (g' j) (v' j) := by
  rw [tail2_11, h]
  subst hg hv
  rfl
theorem out2_12 {g v : S1152x128.Idx → EReal} {g' v' : S1x1024.Idx → EReal} (hg : get12 g = g') (hv : get12 v = v')
    (h : V (Proc.devRef .tc main_v164_2) = fun j => Adam.v2 (g j) (v j)) :
    StableHlo.after hostOps1 V (Proc.devRef .tc main_v294) = fun j => Adam.v2 (g' j) (v' j) := by
  rw [tail2_12, h]
  subst hg hv
  rfl

end Cert.Small

end
-- ==== Proof.SmallPost.lean ====
/- The optimiser's step on the packed small weights: the kernel's thirty-nine results, as functions of its arguments. -/
module

public import proofs.«01_k».proof.Proof.SmallArrays
public import proofs.«01_k».proof.Proof.SmallTail

@[expose] public section

set_option maxRecDepth 16384

noncomputable section

namespace Cert.Small
open Idealize.ShloMosaic Idealize.ShloMosaic.TcCoe Idealize.SL.Sem Idealize.ShloMosaic.StableHlo Cert.SmallPack

section
open Cert.Kernel7Ideal Cert.Kernel7Ideal.Gen

variable (m : (ℓ : Loc nD τ sig) → Buf (Elt Ideal) ℓ) (c : Dev nD)

/-- Result 0. -/
def R0_0 (j : S1x1024.Idx) : EReal := Adam.delta (m ((c.tc : Thread nD τ).loc main_arg0) j) (m ((c.tc : Thread nD τ).loc main_arg13) j) (m ((c.tc : Thread nD τ).loc main_arg26) j) (m ((c.tc : Thread nD τ).loc main_arg39) j)
/-- Result 1. -/
def R0_1 (j : S1x1024.Idx) : EReal := Adam.delta (m ((c.tc : Thread nD τ).loc main_arg1) j) (m ((c.tc : Thread nD τ).loc main_arg14) j) (m ((c.tc : Thread nD τ).loc main_arg27) j) (m ((c.tc : Thread nD τ).loc main_arg40) j)
/-- Result 2. -/
def R0_2 (j : S1x1024.Idx) : EReal := Adam.delta (m ((c.tc : Thread nD τ).loc main_arg2) j) (m ((c.tc : Thread nD τ).loc main_arg15) j) (m ((c.tc : Thread nD τ).loc main_arg28) j) (m ((c.tc : Thread nD τ).loc main_arg41) j)
/-- Result 3. -/
def R0_3 (j : S1x32x64.Idx) : EReal := Adam.delta (m ((c.tc : Thread nD τ).loc main_arg3) j) (m ((c.tc : Thread nD τ).loc main_arg16) j) (m ((c.tc : Thread nD τ).loc main_arg29) j) (m ((c.tc : Thread nD τ).loc main_arg42) j)
/-- Result 4. -/
def R0_4 (j : S1x32x64.Idx) : EReal := Adam.delta (m ((c.tc : Thread nD τ).loc main_arg4) j) (m ((c.tc : Thread nD τ).loc main_arg17) j) (m ((c.tc : Thread nD τ).loc main_arg30) j) (m ((c.tc : Thread nD τ).loc main_arg43) j)
/-- Result 5. -/
def R0_5 (j : S1x32.Idx) : EReal := Adam.delta (m ((c.tc : Thread nD τ).loc main_arg5) j) (m ((c.tc : Thread nD τ).loc main_arg18) j) (m ((c.tc : Thread nD τ).loc main_arg31) j) (m ((c.tc : Thread nD τ).loc main_arg44) j)
/-- Result 6. -/
def R0_6 (j : S1x32x64x16.Idx) : EReal := Adam.delta (m ((c.tc : Thread nD τ).loc main_arg6) j) (m ((c.tc : Thread nD τ).loc main_arg19) j) (m ((c.tc : Thread nD τ).loc main_arg32) j) (m ((c.tc : Thread nD τ).loc main_arg45) j)
/-- Result 7. -/
def R0_7 (j : S1x32x64x16.Idx) : EReal := Adam.delta (m ((c.tc : Thread nD τ).loc main_arg7) j) (m ((c.tc : Thread nD τ).loc main_arg20) j) (m ((c.tc : Thread nD τ).loc main_arg33) j) (m ((c.tc : Thread nD τ).loc main_arg46) j)
/-- Result 8. -/
def R0_8 (j : S1x32x16x64.Idx) : EReal := Adam.delta (m ((c.tc : Thread nD τ).loc main_arg8) j) (m ((c.tc : Thread nD τ).loc main_arg21) j) (m ((c.tc : Thread nD τ).loc main_arg34) j) (m ((c.tc : Thread nD τ).loc main_arg47) j)
/-- Result 9. -/
def R0_9 (j : S1x32x16x64.Idx) : EReal := Adam.delta (m ((c.tc : Thread nD τ).loc main_arg9) j) (m ((c.tc : Thread nD τ).loc main_arg22) j) (m ((c.tc : Thread nD τ).loc main_arg35) j) (m ((c.tc : Thread nD τ).loc main_arg48) j)
/-- Result 10. -/
def R0_10 (j : S1x32x16.Idx) : EReal := Adam.delta (m ((c.tc : Thread nD τ).loc main_arg10) j) (m ((c.tc : Thread nD τ).loc main_arg23) j) (m ((c.tc : Thread nD τ).loc main_arg36) j) (m ((c.tc : Thread nD τ).loc main_arg49) j)
/-- Result 11. -/
def R0_11 (j : S1x512.Idx) : EReal := Adam.delta (m ((c.tc : Thread nD τ).loc main_arg11) j) (m ((c.tc : Thread nD τ).loc main_arg24) j) (m ((c.tc : Thread nD τ).loc main_arg37) j) (m ((c.tc : Thread nD τ).loc main_arg50) j)
/-- Result 12. -/
def R0_12 (j : S1x1024.Idx) : EReal := Adam.delta (m ((c.tc : Thread nD τ).loc main_arg12) j) (m ((c.tc : Thread nD τ).loc main_arg25) j) (m ((c.tc : Thread nD τ).loc main_arg38) j) (m ((c.tc : Thread nD τ).loc main_arg51) j)
/-- Result 13. -/
def R1_0 (j : S1x1024.Idx) : EReal := Adam.m2 (m ((c.tc : Thread nD τ).loc main_arg13) j) (m ((c.tc : Thread nD τ).loc main_arg26) j)
/-- Result 14. -/
def R1_1 (j : S1x1024.Idx) : EReal := Adam.m2 (m ((c.tc : Thread nD τ).loc main_arg14) j) (m ((c.tc : Thread nD τ).loc main_arg27) j)
/-- Result 15. -/
def R1_2 (j : S1x1024.Idx) : EReal := Adam.m2 (m ((c.tc : Thread nD τ).loc main_arg15) j) (m ((c.tc : Thread nD τ).loc main_arg28) j)
/-- Result 16. -/
def R1_3 (j : S1x32x64.Idx) : EReal := Adam.m2 (m ((c.tc : Thread nD τ).loc main_arg16) j) (m ((c.tc : Thread nD τ).loc main_arg29) j)
/-- Result 17. -/
def R1_4 (j : S1x32x64.Idx) : EReal := Adam.m2 (m ((c.tc : Thread nD τ).loc main_arg17) j) (m ((c.tc : Thread nD τ).loc main_arg30) j)
/-- Result 18. -/
def R1_5 (j : S1x32.Idx) : EReal := Adam.m2 (m ((c.tc : Thread nD τ).loc main_arg18) j) (m ((c.tc : Thread nD τ).loc main_arg31) j)
/-- Result 19. -/
def R1_6 (j : S1x32x64x16.Idx) : EReal := Adam.m2 (m ((c.tc : Thread nD τ).loc main_arg19) j) (m ((c.tc : Thread nD τ).loc main_arg32) j)
/-- Result 20. -/
def R1_7 (j : S1x32x64x16.Idx) : EReal := Adam.m2 (m ((c.tc : Thread nD τ).loc main_arg20) j) (m ((c.tc : Thread nD τ).loc main_arg33) j)
/-- Result 21. -/
def R1_8 (j : S1x32x16x64.Idx) : EReal := Adam.m2 (m ((c.tc : Thread nD τ).loc main_arg21) j) (m ((c.tc : Thread nD τ).loc main_arg34) j)
/-- Result 22. -/
def R1_9 (j : S1x32x16x64.Idx) : EReal := Adam.m2 (m ((c.tc : Thread nD τ).loc main_arg22) j) (m ((c.tc : Thread nD τ).loc main_arg35) j)
/-- Result 23. -/
def R1_10 (j : S1x32x16.Idx) : EReal := Adam.m2 (m ((c.tc : Thread nD τ).loc main_arg23) j) (m ((c.tc : Thread nD τ).loc main_arg36) j)
/-- Result 24. -/
def R1_11 (j : S1x512.Idx) : EReal := Adam.m2 (m ((c.tc : Thread nD τ).loc main_arg24) j) (m ((c.tc : Thread nD τ).loc main_arg37) j)
/-- Result 25. -/
def R1_12 (j : S1x1024.Idx) : EReal := Adam.m2 (m ((c.tc : Thread nD τ).loc main_arg25) j) (m ((c.tc : Thread nD τ).loc main_arg38) j)
/-- Result 26. -/
def R2_0 (j : S1x1024.Idx) : EReal := Adam.v2 (m ((c.tc : Thread nD τ).loc main_arg13) j) (m ((c.tc : Thread nD τ).loc main_arg39) j)
/-- Result 27. -/
def R2_1 (j : S1x1024.Idx) : EReal := Adam.v2 (m ((c.tc : Thread nD τ).loc main_arg14) j) (m ((c.tc : Thread nD τ).loc main_arg40) j)
/-- Result 28. -/
def R2_2 (j : S1x1024.Idx) : EReal := Adam.v2 (m ((c.tc : Thread nD τ).loc main_arg15) j) (m ((c.tc : Thread nD τ).loc main_arg41) j)
/-- Result 29. -/
def R2_3 (j : S1x32x64.Idx) : EReal := Adam.v2 (m ((c.tc : Thread nD τ).loc main_arg16) j) (m ((c.tc : Thread nD τ).loc main_arg42) j)
/-- Result 30. -/
def R2_4 (j : S1x32x64.Idx) : EReal := Adam.v2 (m ((c.tc : Thread nD τ).loc main_arg17) j) (m ((c.tc : Thread nD τ).loc main_arg43) j)
/-- Result 31. -/
def R2_5 (j : S1x32.Idx) : EReal := Adam.v2 (m ((c.tc : Thread nD τ).loc main_arg18) j) (m ((c.tc : Thread nD τ).loc main_arg44) j)
/-- Result 32. -/
def R2_6 (j : S1x32x64x16.Idx) : EReal := Adam.v2 (m ((c.tc : Thread nD τ).loc main_arg19) j) (m ((c.tc : Thread nD τ).loc main_arg45) j)
/-- Result 33. -/
def R2_7 (j : S1x32x64x16.Idx) : EReal := Adam.v2 (m ((c.tc : Thread nD τ).loc main_arg20) j) (m ((c.tc : Thread nD τ).loc main_arg46) j)
/-- Result 34. -/
def R2_8 (j : S1x32x16x64.Idx) : EReal := Adam.v2 (m ((c.tc : Thread nD τ).loc main_arg21) j) (m ((c.tc : Thread nD τ).loc main_arg47) j)
/-- Result 35. -/
def R2_9 (j : S1x32x16x64.Idx) : EReal := Adam.v2 (m ((c.tc : Thread nD τ).loc main_arg22) j) (m ((c.tc : Thread nD τ).loc main_arg48) j)
/-- Result 36. -/
def R2_10 (j : S1x32x16.Idx) : EReal := Adam.v2 (m ((c.tc : Thread nD τ).loc main_arg23) j) (m ((c.tc : Thread nD τ).loc main_arg49) j)
/-- Result 37. -/
def R2_11 (j : S1x512.Idx) : EReal := Adam.v2 (m ((c.tc : Thread nD τ).loc main_arg24) j) (m ((c.tc : Thread nD τ).loc main_arg50) j)
/-- Result 38. -/
def R2_12 (j : S1x1024.Idx) : EReal := Adam.v2 (m ((c.tc : Thread nD τ).loc main_arg25) j) (m ((c.tc : Thread nD τ).loc main_arg51) j)

variable (r : PUnit × MemSt nD τ sig (Elt Ideal))
  (h : Pipeline.FramePost cfgs (dats m) 0 (Pipeline.afterTail₀ cfgs (dats m) 0 (V0 m) [hostOps1]) r)
include h

theorem post0_0 : r.2.mem ((c.tc : Thread nD τ).loc main_v167) = R0_0 m c :=
  ((h c).2 main_v167 (Pipeline.mem_restRefs_of main_v167 (by decide) (by decide))).trans
    ((after_tail m c main_v167).trans (out0_0 (E m c) (getW0 m c) (getG0 m c) (getM0 m c) (getU0 m c) (exit4 m c)))
theorem post0_1 : r.2.mem ((c.tc : Thread nD τ).loc main_v170) = R0_1 m c :=
  ((h c).2 main_v170 (Pipeline.mem_restRefs_of main_v170 (by decide) (by decide))).trans
    ((after_tail m c main_v170).trans (out0_1 (E m c) (getW1 m c) (getG1 m c) (getM1 m c) (getU1 m c) (exit4 m c)))
theorem post0_2 : r.2.mem ((c.tc : Thread nD τ).loc main_v173) = R0_2 m c :=
  ((h c).2 main_v173 (Pipeline.mem_restRefs_of main_v173 (by decide) (by decide))).trans
    ((after_tail m c main_v173).trans (out0_2 (E m c) (getW2 m c) (getG2 m c) (getM2 m c) (getU2 m c) (exit4 m c)))
theorem post0_3 : r.2.mem ((c.tc : Thread nD τ).loc main_v176) = R0_3 m c :=
  ((h c).2 main_v176 (Pipeline.mem_restRefs_of main_v176 (by decide) (by decide))).trans
    ((after_tail m c main_v176).trans (out0_3 (E m c) (getW3 m c) (getG3 m c) (getM3 m c) (getU3 m c) (exit4 m c)))
theorem post0_4 : r.2.mem ((c.tc : Thread nD τ).loc main_v179) = R0_4 m c :=
  ((h c).2 main_v179 (Pipeline.mem_restRefs_of main_v179 (by decide) (by decide))).trans
    ((after_tail m c main_v179).trans (out0_4 (E m c) (getW4 m c) (getG4 m c) (getM4 m c) (getU4 m c) (exit4 m c)))
theorem post0_5 : r.2.mem ((c.tc : Thread nD τ).loc main_v183) = R0_5 m c :=
  ((h c).2 main_v183 (Pipeline.mem_restRefs_of main_v183 (by decide) (by decide))).trans
    ((after_tail m c main_v183).trans (out0_5 (E m c) (getW5 m c) (getG5 m c) (getM5 m c) (getU5 m c) (exit4 m c)))
theorem post0_6 : r.2.mem ((c.tc : Thread nD τ).loc main_v186) = R0_6 m c :=
  ((h c).2 main_v186 (Pipeline.mem_restRefs_of main_v186 (by decide) (by decide))).trans
    ((after_tail m c main_v186).trans (out0_6 (E m c) (getW6 m c) (getG6 m c) (getM6 m c) (getU6 m c) (exit4 m c)))
theorem post0_7 : r.2.mem ((c.tc : Thread nD τ).loc main_v189) = R0_7 m c :=
  ((h c).2 main_v189 (Pipeline.mem_restRefs_of main_v189 (by decide) (by decide))).trans
    ((after_tail m c main_v189).trans (out0_7 (E m c) (getW7 m c) (getG7 m c) (getM7 m c) (getU7 m c) (exit4 m c)))
theorem post0_8 : r.2.mem ((c.tc : Thread nD τ).loc main_v192) = R0_8 m c :=
  ((h c).2 main_v192 (Pipeline.mem_restRefs_of main_v192 (by decide) (by decide))).trans
    ((after_tail m c main_v192).trans (out0_8 (E m c) (getW8 m c) (getG8 m c) (getM8 m c) (getU8 m c) (exit4 m c)))
theorem post0_9 : r.2.mem ((c.tc : Thread nD τ).loc main_v195) = R0_9 m c :=
  ((h c).2 main_v195 (Pipeline.mem_restRefs_of main_v195 (by decide) (by decide))).trans
    ((after_tail m c main_v195).trans (out0_9 (E m c) (getW9 m c) (getG9 m c) (getM9 m c) (getU9 m c) (exit4 m c)))
theorem post0_10 : r.2.mem ((c.tc : Thread nD τ).loc main_v199) = R0_10 m c :=
  ((h c).2 main_v199 (Pipeline.mem_restRefs_of main_v199 (by decide) (by decide))).trans
    ((after_tail m c main_v199).trans (out0_10 (E m c) (getW10 m c) (getG10 m c) (getM10 m c) (getU10 m c) (exit4 m c)))
theorem post0_11 : r.2.mem ((c.tc : Thread nD τ).loc main_v203) = R0_11 m c :=
  ((h c).2 main_v203 (Pipeline.mem_restRefs_of main_v203 (by decide) (by decide))).trans
    ((after_tail m c main_v203).trans (out0_11 (E m c) (getW11 m c) (getG11 m c) (getM11 m c) (getU11 m c) (exit4 m c)))
theorem post0_12 : r.2.mem ((c.tc : Thread nD τ).loc main_v206) = R0_12 m c :=
  ((h c).2 main_v206 (Pipeline.mem_restRefs_of main_v206 (by decide) (by decide))).trans
    ((after_tail m c main_v206).trans (out0_12 (E m c) (getW12 m c) (getG12 m c) (getM12 m c) (getU12 m c) (exit4 m c)))
theorem post1_0 : r.2.mem ((c.tc : Thread nD τ).loc main_v211) = R1_0 m c :=
  ((h c).2 main_v211 (Pipeline.mem_restRefs_of main_v211 (by decide) (by decide))).trans
    ((after_tail m c main_v211).trans (out1_0 (E m c) (getG0 m c) (getM0 m c) (exit5 m c)))
theorem post1_1 : r.2.mem ((c.tc : Thread nD τ).loc main_v214) = R1_1 m c :=
  ((h c).2 main_v214 (Pipeline.mem_restRefs_of main_v214 (by decide) (by decide))).trans
    ((after_tail m c main_v214).trans (out1_1 (E m c) (getG1 m c) (getM1 m c) (exit5 m c)))
theorem post1_2 : r.2.mem ((c.tc : Thread nD τ).loc main_v217) = R1_2 m c :=
  ((h c).2 main_v217 (Pipeline.mem_restRefs_of main_v217 (by decide) (by decide))).trans
    ((after_tail m c main_v217).trans (out1_2 (E m c) (getG2 m c) (getM2 m c) (exit5 m c)))
theorem post1_3 : r.2.mem ((c.tc : Thread nD τ).loc main_v220) = R1_3 m c :=
  ((h c).2 main_v220 (Pipeline.mem_restRefs_of main_v220 (by decide) (by decide))).trans
    ((after_tail m c main_v220).trans (out1_3 (E m c) (getG3 m c) (getM3 m c) (exit5 m c)))
theorem post1_4 : r.2.mem ((c.tc : Thread nD τ).loc main_v223) = R1_4 m c :=
  ((h c).2 main_v223 (Pipeline.mem_restRefs_of main_v223 (by decide) (by decide))).trans
    ((after_tail m c main_v223).trans (out1_4 (E m c) (getG4 m c) (getM4 m c) (exit5 m c)))
theorem post1_5 : r.2.mem ((c.tc : Thread nD τ).loc main_v227) = R1_5 m c :=
  ((h c).2 main_v227 (Pipeline.mem_restRefs_of main_v227 (by decide) (by decide))).trans
    ((after_tail m c main_v227).trans (out1_5 (E m c) (getG5 m c) (getM5 m c) (exit5 m c)))
theorem post1_6 : r.2.mem ((c.tc : Thread nD τ).loc main_v230) = R1_6 m c :=
  ((h c).2 main_v230 (Pipeline.mem_restRefs_of main_v230 (by decide) (by decide))).trans
    ((after_tail m c main_v230).trans (out1_6 (E m c) (getG6 m c) (getM6 m c) (exit5 m c)))
theorem post1_7 : r.2.mem ((c.tc : Thread nD τ).loc main_v233) = R1_7 m c :=
  ((h c).2 main_v233 (Pipeline.mem_restRefs_of main_v233 (by decide) (by decide))).trans
    ((after_tail m c main_v233).trans (out1_7 (E m c) (getG7 m c) (getM7 m c) (exit5 m c)))
theorem post1_8 : r.2.mem ((c.tc : Thread nD τ).loc main_v236) = R1_8 m c :=
  ((h c).2 main_v236 (Pipeline.mem_restRefs_of main_v236 (by decide) (by decide))).trans
    ((after_tail m c main_v236).trans (out1_8 (E m c) (getG8 m c) (getM8 m c) (exit5 m c)))
theorem post1_9 : r.2.mem ((c.tc : Thread nD τ).loc main_v239) = R1_9 m c :=
  ((h c).2 main_v239 (Pipeline.mem_restRefs_of main_v239 (by decide) (by decide))).trans
    ((after_tail m c main_v239).trans (out1_9 (E m c) (getG9 m c) (getM9 m c) (exit5 m c)))
theorem post1_10 : r.2.mem ((c.tc : Thread nD τ).loc main_v243) = R1_10 m c :=
  ((h c).2 main_v243 (Pipeline.mem_restRefs_of main_v243 (by decide) (by decide))).trans
    ((after_tail m c main_v243).trans (out1_10 (E m c) (getG10 m c) (getM10 m c) (exit5 m c)))
theorem post1_11 : r.2.mem ((c.tc : Thread nD τ).loc main_v247) = R1_11 m c :=
  ((h c).2 main_v247 (Pipeline.mem_restRefs_of main_v247 (by decide) (by decide))).trans
    ((after_tail m c main_v247).trans (out1_11 (E m c) (getG11 m c) (getM11 m c) (exit5 m c)))
theorem post1_12 : r.2.mem ((c.tc : Thread nD τ).loc main_v250) = R1_12 m c :=
  ((h c).2 main_v250 (Pipeline.mem_restRefs_of main_v250 (by decide) (by decide))).trans
    ((after_tail m c main_v250).trans (out1_12 (E m c) (getG12 m c) (getM12 m c) (exit5 m c)))
theorem post2_0 : r.2.mem ((c.tc : Thread nD τ).loc main_v255) = R2_0 m c :=
  ((h c).2 main_v255 (Pipeline.mem_restRefs_of main_v255 (by decide) (by decide))).trans
    ((after_tail m c main_v255).trans (out2_0 (E m c) (getG0 m c) (getU0 m c) (exit6 m c)))
theorem post2_1 : r.2.mem ((c.tc : Thread nD τ).loc main_v258) = R2_1 m c :=
  ((h c).2 main_v258 (Pipeline.mem_restRefs_of main_v258 (by decide) (by decide))).trans
    ((after_tail m c main_v258).trans (out2_1 (E m c) (getG1 m c) (getU1 m c) (exit6 m c)))
theorem post2_2 : r.2.mem ((c.tc : Thread nD τ).loc main_v261) = R2_2 m c :=
  ((h c).2 main_v261 (Pipeline.mem_restRefs_of main_v261 (by decide) (by decide))).trans
    ((after_tail m c main_v261).trans (out2_2 (E m c) (getG2 m c) (getU2 m c) (exit6 m c)))
theorem post2_3 : r.2.mem ((c.tc : Thread nD τ).loc main_v264) = R2_3 m c :=
  ((h c).2 main_v264 (Pipeline.mem_restRefs_of main_v264 (by decide) (by decide))).trans
    ((after_tail m c main_v264).trans (out2_3 (E m c) (getG3 m c) (getU3 m c) (exit6 m c)))
theorem post2_4 : r.2.mem ((c.tc : Thread nD τ).loc main_v267) = R2_4 m c :=
  ((h c).2 main_v267 (Pipeline.mem_restRefs_of main_v267 (by decide) (by decide))).trans
    ((after_tail m c main_v267).trans (out2_4 (E m c) (getG4 m c) (getU4 m c) (exit6 m c)))
theorem post2_5 : r.2.mem ((c.tc : Thread nD τ).loc main_v271) = R2_5 m c :=
  ((h c).2 main_v271 (Pipeline.mem_restRefs_of main_v271 (by decide) (by decide))).trans
    ((after_tail m c main_v271).trans (out2_5 (E m c) (getG5 m c) (getU5 m c) (exit6 m c)))
theorem post2_6 : r.2.mem ((c.tc : Thread nD τ).loc main_v274) = R2_6 m c :=
  ((h c).2 main_v274 (Pipeline.mem_restRefs_of main_v274 (by decide) (by decide))).trans
    ((after_tail m c main_v274).trans (out2_6 (E m c) (getG6 m c) (getU6 m c) (exit6 m c)))
theorem post2_7 : r.2.mem ((c.tc : Thread nD τ).loc main_v277) = R2_7 m c :=
  ((h c).2 main_v277 (Pipeline.mem_restRefs_of main_v277 (by decide) (by decide))).trans
    ((after_tail m c main_v277).trans (out2_7 (E m c) (getG7 m c) (getU7 m c) (exit6 m c)))
theorem post2_8 : r.2.mem ((c.tc : Thread nD τ).loc main_v280) = R2_8 m c :=
  ((h c).2 main_v280 (Pipeline.mem_restRefs_of main_v280 (by decide) (by decide))).trans
    ((after_tail m c main_v280).trans (out2_8 (E m c) (getG8 m c) (getU8 m c) (exit6 m c)))
theorem post2_9 : r.2.mem ((c.tc : Thread nD τ).loc main_v283) = R2_9 m c :=
  ((h c).2 main_v283 (Pipeline.mem_restRefs_of main_v283 (by decide) (by decide))).trans
    ((after_tail m c main_v283).trans (out2_9 (E m c) (getG9 m c) (getU9 m c) (exit6 m c)))
theorem post2_10 : r.2.mem ((c.tc : Thread nD τ).loc main_v287) = R2_10 m c :=
  ((h c).2 main_v287 (Pipeline.mem_restRefs_of main_v287 (by decide) (by decide))).trans
    ((after_tail m c main_v287).trans (out2_10 (E m c) (getG10 m c) (getU10 m c) (exit6 m c)))
theorem post2_11 : r.2.mem ((c.tc : Thread nD τ).loc main_v291) = R2_11 m c :=
  ((h c).2 main_v291 (Pipeline.mem_restRefs_of main_v291 (by decide) (by decide))).trans
    ((after_tail m c main_v291).trans (out2_11 (E m c) (getG11 m c) (getU11 m c) (exit6 m c)))
theorem post2_12 : r.2.mem ((c.tc : Thread nD τ).loc main_v294) = R2_12 m c :=
  ((h c).2 main_v294 (Pipeline.mem_restRefs_of main_v294 (by decide) (by decide))).trans
    ((after_tail m c main_v294).trans (out2_12 (E m c) (getG12 m c) (getU12 m c) (exit6 m c)))
end

end Cert.Small

end
-- ==== Proof.Small.lean ====
/- The optimiser's step on the small weights in the reference, and the claim that the kernel computes it. -/
module

public import proofs.«01_k».proof.Defs
public import proofs.«01_k».proof.Proof.SmallPost
public import proofs.«01_k».proof.Proof.Gen.Kernel7.Frame
public import proofs.«01_k».proof.Proof.Gen.Reference7Ideal.Run
public import Idealize.ShloMosaic.Lib.Quiescent

@[expose] public section

set_option maxRecDepth 16384

noncomputable section

namespace Cert.Small
open Idealize.ShloMosaic Idealize.ShloMosaic.TcCoe Idealize.SL.Sem Idealize.ShloMosaic.StableHlo

section
open Cert.Reference7Ideal Cert.Reference7Ideal.Gen

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51))
      ∧ r.2.sem = fun _ => 0) :=
  (θ_run defs _ _).mono (fun r h => ⟨fun c => by
      have H := h c
      iterate 39 replace H := H.2
      exact H, sem_eq_zero_of_no_sems (by decide) r.2⟩)
    (Cert.Reference7Ideal.Value.run (F := Ideal) m g)

end

variable {S : Shape} (hb : (⟨0, ![]⟩ : Shape).BroadcastsInDim S ![]) {w g m v w' g' m' v' : FVec Ideal S .f32}

theorem ref_delta (hw : w = w') (hg : g = g') (hm : m = m') (hv : v = v') :
    Adam.hd hb w g m v = fun j => Adam.delta (w' j) (g' j) (m' j) (v' j) := by
  subst hw hg hm hv; rfl
theorem ref_m2 (hg : g = g') (hm : m = m') : Adam.hm hb g m = fun j => Adam.m2 (g' j) (m' j) := by
  subst hg hm; rfl
theorem ref_v2 (hg : g = g') (hv : v = v') : Adam.hv hb g v = fun j => Adam.v2 (g' j) (v' j) := by
  subst hg hv; rfl

set_option maxHeartbeats 8000000 in
theorem algebraic : Cert.algebraic_Kernel7Ideal_Reference7Ideal := by
  intro m g m' g' _ hagree
  refine ⟨fun c => R0_0 m c, fun c => R0_1 m c, fun c => R0_2 m c, fun c => R0_3 m c, fun c => R0_4 m c, fun c => R0_5 m c, fun c => R0_6 m c, fun c => R0_7 m c, fun c => R0_8 m c, fun c => R0_9 m c, fun c => R0_10 m c, fun c => R0_11 m c, fun c => R0_12 m c, fun c => R1_0 m c, fun c => R1_1 m c, fun c => R1_2 m c, fun c => R1_3 m c, fun c => R1_4 m c, fun c => R1_5 m c, fun c => R1_6 m c, fun c => R1_7 m c, fun c => R1_8 m c, fun c => R1_9 m c, fun c => R1_10 m c, fun c => R1_11 m c, fun c => R1_12 m c, fun c => R2_0 m c, fun c => R2_1 m c, fun c => R2_2 m c, fun c => R2_3 m c, fun c => R2_4 m c, fun c => R2_5 m c, fun c => R2_6 m c, fun c => R2_7 m c, fun c => R2_8 m c, fun c => R2_9 m c, fun c => R2_10 m c, fun c => R2_11 m c, fun c => R2_12 m c, ?_, ?_⟩
  · refine (θ_run _ _ _).mono (fun r h c => ?_) (θ_run_and (Cert.Kernel7Ideal.Gen.run_main m g) (Cert.Kernel7Ideal.Gen.unchanged m g))
    exact ⟨post0_0 m c r h.1, post0_1 m c r h.1, post0_2 m c r h.1, post0_3 m c r h.1, post0_4 m c r h.1, post0_5 m c r h.1, post0_6 m c r h.1, post0_7 m c r h.1, post0_8 m c r h.1, post0_9 m c r h.1, post0_10 m c r h.1, post0_11 m c r h.1, post0_12 m c r h.1, post1_0 m c r h.1, post1_1 m c r h.1, post1_2 m c r h.1, post1_3 m c r h.1, post1_4 m c r h.1, post1_5 m c r h.1, post1_6 m c r h.1, post1_7 m c r h.1, post1_8 m c r h.1, post1_9 m c r h.1, post1_10 m c r h.1, post1_11 m c r h.1, post1_12 m c r h.1, post2_0 m c r h.1, post2_1 m c r h.1, post2_2 m c r h.1, post2_3 m c r h.1, post2_4 m c r h.1, post2_5 m c r h.1, post2_6 m c r h.1, post2_7 m c r h.1, post2_8 m c r h.1, post2_9 m c r h.1, post2_10 m c r h.1, post2_11 m c r h.1, post2_12 m c r h.1, h.2 c⟩
  · refine (θ_run _ _ _).mono (fun r h c => ?_) (Cert.Reference7Ideal.Value.run (F := Ideal) m' g')
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51⟩ := hagree c
    refine And.imp (fun e => e.trans (ref_delta (S := Cert.Reference7Ideal.S1x1024) _ a0 a13 a26 a39)) ?_ (h c)
    refine And.imp (fun e => e.trans (ref_delta (S := Cert.Reference7Ideal.S1x1024) _ a1 a14 a27 a40)) ?_
    refine And.imp (fun e => e.trans (ref_delta (S := Cert.Reference7Ideal.S1x1024) _ a2 a15 a28 a41)) ?_
    refine And.imp (fun e => e.trans (ref_delta (S := Cert.Reference7Ideal.S1x32x64) _ a3 a16 a29 a42)) ?_
    refine And.imp (fun e => e.trans (ref_delta (S := Cert.Reference7Ideal.S1x32x64) _ a4 a17 a30 a43)) ?_
    refine And.imp (fun e => e.trans (ref_delta (S := Cert.Reference7Ideal.S1x32) _ a5 a18 a31 a44)) ?_
    refine And.imp (fun e => e.trans (ref_delta (S := Cert.Reference7Ideal.S1x32x64x16) _ a6 a19 a32 a45)) ?_
    refine And.imp (fun e => e.trans (ref_delta (S := Cert.Reference7Ideal.S1x32x64x16) _ a7 a20 a33 a46)) ?_
    refine And.imp (fun e => e.trans (ref_delta (S := Cert.Reference7Ideal.S1x32x16x64) _ a8 a21 a34 a47)) ?_
    refine And.imp (fun e => e.trans (ref_delta (S := Cert.Reference7Ideal.S1x32x16x64) _ a9 a22 a35 a48)) ?_
    refine And.imp (fun e => e.trans (ref_delta (S := Cert.Reference7Ideal.S1x32x16) _ a10 a23 a36 a49)) ?_
    refine And.imp (fun e => e.trans (ref_delta (S := Cert.Reference7Ideal.S1x512) _ a11 a24 a37 a50)) ?_
    refine And.imp (fun e => e.trans (ref_delta (S := Cert.Reference7Ideal.S1x1024) _ a12 a25 a38 a51)) ?_
    refine And.imp (fun e => e.trans (ref_m2 (S := Cert.Reference7Ideal.S1x1024) _ a13 a26)) ?_
    refine And.imp (fun e => e.trans (ref_m2 (S := Cert.Reference7Ideal.S1x1024) _ a14 a27)) ?_
    refine And.imp (fun e => e.trans (ref_m2 (S := Cert.Reference7Ideal.S1x1024) _ a15 a28)) ?_
    refine And.imp (fun e => e.trans (ref_m2 (S := Cert.Reference7Ideal.S1x32x64) _ a16 a29)) ?_
    refine And.imp (fun e => e.trans (ref_m2 (S := Cert.Reference7Ideal.S1x32x64) _ a17 a30)) ?_
    refine And.imp (fun e => e.trans (ref_m2 (S := Cert.Reference7Ideal.S1x32) _ a18 a31)) ?_
    refine And.imp (fun e => e.trans (ref_m2 (S := Cert.Reference7Ideal.S1x32x64x16) _ a19 a32)) ?_
    refine And.imp (fun e => e.trans (ref_m2 (S := Cert.Reference7Ideal.S1x32x64x16) _ a20 a33)) ?_
    refine And.imp (fun e => e.trans (ref_m2 (S := Cert.Reference7Ideal.S1x32x16x64) _ a21 a34)) ?_
    refine And.imp (fun e => e.trans (ref_m2 (S := Cert.Reference7Ideal.S1x32x16x64) _ a22 a35)) ?_
    refine And.imp (fun e => e.trans (ref_m2 (S := Cert.Reference7Ideal.S1x32x16) _ a23 a36)) ?_
    refine And.imp (fun e => e.trans (ref_m2 (S := Cert.Reference7Ideal.S1x512) _ a24 a37)) ?_
    refine And.imp (fun e => e.trans (ref_m2 (S := Cert.Reference7Ideal.S1x1024) _ a25 a38)) ?_
    refine And.imp (fun e => e.trans (ref_v2 (S := Cert.Reference7Ideal.S1x1024) _ a13 a39)) ?_
    refine And.imp (fun e => e.trans (ref_v2 (S := Cert.Reference7Ideal.S1x1024) _ a14 a40)) ?_
    refine And.imp (fun e => e.trans (ref_v2 (S := Cert.Reference7Ideal.S1x1024) _ a15 a41)) ?_
    refine And.imp (fun e => e.trans (ref_v2 (S := Cert.Reference7Ideal.S1x32x64) _ a16 a42)) ?_
    refine And.imp (fun e => e.trans (ref_v2 (S := Cert.Reference7Ideal.S1x32x64) _ a17 a43)) ?_
    refine And.imp (fun e => e.trans (ref_v2 (S := Cert.Reference7Ideal.S1x32) _ a18 a44)) ?_
    refine And.imp (fun e => e.trans (ref_v2 (S := Cert.Reference7Ideal.S1x32x64x16) _ a19 a45)) ?_
    refine And.imp (fun e => e.trans (ref_v2 (S := Cert.Reference7Ideal.S1x32x64x16) _ a20 a46)) ?_
    refine And.imp (fun e => e.trans (ref_v2 (S := Cert.Reference7Ideal.S1x32x16x64) _ a21 a47)) ?_
    refine And.imp (fun e => e.trans (ref_v2 (S := Cert.Reference7Ideal.S1x32x16x64) _ a22 a48)) ?_
    refine And.imp (fun e => e.trans (ref_v2 (S := Cert.Reference7Ideal.S1x32x16) _ a23 a49)) ?_
    refine And.imp (fun e => e.trans (ref_v2 (S := Cert.Reference7Ideal.S1x512) _ a24 a50)) ?_
    refine And.imp (fun e => e.trans (ref_v2 (S := Cert.Reference7Ideal.S1x1024) _ a25 a51)) ?_
    exact id

end Cert.Small

end
-- ==== Proof.RestRun.lean ====
/- The run of the optimiser's step on five weights: what each result's buffer holds after the body, the body's triple, and the
   run of the whole program with it, for any reading of the floats. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AdamRest
open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2100000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-! ## The body's accesses -/

abbrev r0_0 : Rect S256x1024 := Rect.unit (s := S256x1024) ![0, 0] S256x1024.size inb_S256x1024_S256x1024_0_0
abbrev r0_1 : Rect S128x512 := Rect.unit (s := S128x512) ![0, 0] S128x512.size inb_S128x512_S128x512_0_0
abbrev r0_2 : Rect S512x256 := Rect.unit (s := S512x256) ![0, 0] S512x256.size inb_S512x256_S512x256_0_0
abbrev r0_3 : Rect S31x256 := Rect.unit (s := S31x256) ![0, 0] S31x256.size inb_S31x256_S31x256_0_0

/-! ## What the body leaves in each output window's buffer -/

/-- Window 20's staging buffer after the body, from the input windows' blocks: its 1 store as pieces, LAST
    FIRST (Lib/Pipeline/FrameBody.lean `View.canon`; the payloads are the skeleton's). -/
def out0_20 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S256x1024 .f32 :=
  View.canon [⟨r0_0, k0_pay3 (View.ld x0 r0_0) (View.ld x5 r0_0) (View.ld x10 r0_0) (View.ld x15 r0_0)⟩]

/-- Its stores tile the buffer (checked by evaluation), so they cover it. -/
theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 21's staging buffer after the body, from the input windows' blocks: its 1 store as pieces, LAST
    FIRST (Lib/Pipeline/FrameBody.lean `View.canon`; the payloads are the skeleton's). -/
def out0_21 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S256x1024 .f32 :=
  View.canon [⟨r0_0, k0_pay6 (View.ld x1 r0_0) (View.ld x6 r0_0) (View.ld x11 r0_0) (View.ld x16 r0_0)⟩]

/-- Its stores tile the buffer (checked by evaluation), so they cover it. -/
theorem cover0_21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 22's staging buffer after the body, from the input windows' blocks: its 1 store as pieces, LAST
    FIRST (Lib/Pipeline/FrameBody.lean `View.canon`; the payloads are the skeleton's). -/
def out0_22 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S128x512 .f32 :=
  View.canon [⟨r0_1, k0_pay9 (View.ld x2 r0_1) (View.ld x7 r0_1) (View.ld x12 r0_1) (View.ld x17 r0_1)⟩]

/-- Its stores tile the buffer (checked by evaluation), so they cover it. -/
theorem cover0_22 (p0 : Vec F S128x512 .f32) (y : S128x512.Idx) :
    ∃ pc ∈ ([⟨r0_1, p0⟩] : List (View.Piece (Elt F) S128x512 .f32)), y ∈ pc.1.set :=
  View.cover_of_tiled [⟨r0_1, p0⟩] S128x512.size (by rfl) y

/-- Window 23's staging buffer after the body, from the input windows' blocks: its 1 store as pieces, LAST
    FIRST (Lib/Pipeline/FrameBody.lean `View.canon`; the payloads are the skeleton's). -/
def out0_23 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S512x256 .f32 :=
  View.canon [⟨r0_2, k0_pay12 (View.ld x3 r0_2) (View.ld x8 r0_2) (View.ld x13 r0_2) (View.ld x18 r0_2)⟩]

/-- Its stores tile the buffer (checked by evaluation), so they cover it. -/
theorem cover0_23 (p0 : Vec F S512x256 .f32) (y : S512x256.Idx) :
    ∃ pc ∈ ([⟨r0_2, p0⟩] : List (View.Piece (Elt F) S512x256 .f32)), y ∈ pc.1.set :=
  View.cover_of_tiled [⟨r0_2, p0⟩] S512x256.size (by rfl) y

/-- Window 24's staging buffer after the body, from the input windows' blocks: its 1 store as pieces, LAST
    FIRST (Lib/Pipeline/FrameBody.lean `View.canon`; the payloads are the skeleton's). -/
def out0_24 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S31x256 .f32 :=
  View.canon [⟨r0_3, k0_pay15 (View.ld x4 r0_3) (View.ld x9 r0_3) (View.ld x14 r0_3) (View.ld x19 r0_3)⟩]

/-- Its stores tile the buffer (checked by evaluation), so they cover it. -/
theorem cover0_24 (p0 : Vec F S31x256 .f32) (y : S31x256.Idx) :
    ∃ pc ∈ ([⟨r0_3, p0⟩] : List (View.Piece (Elt F) S31x256 .f32)), y ∈ pc.1.set :=
  View.cover_of_tiled [⟨r0_3, p0⟩] S31x256.size (by rfl) y

/-- Window 25's staging buffer after the body, from the input windows' blocks: its 1 store as pieces, LAST
    FIRST (Lib/Pipeline/FrameBody.lean `View.canon`; the payloads are the skeleton's). -/
def out0_25 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S256x1024 .f32 :=
  View.canon [⟨r0_0, k0_pay1 (View.ld x5 r0_0) (View.ld x10 r0_0)⟩]

/-- Its stores tile the buffer (checked by evaluation), so they cover it. -/
theorem cover0_25 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 26's staging buffer after the body, from the input windows' blocks: its 1 store as pieces, LAST
    FIRST (Lib/Pipeline/FrameBody.lean `View.canon`; the payloads are the skeleton's). -/
def out0_26 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S256x1024 .f32 :=
  View.canon [⟨r0_0, k0_pay4 (View.ld x6 r0_0) (View.ld x11 r0_0)⟩]

/-- Its stores tile the buffer (checked by evaluation), so they cover it. -/
theorem cover0_26 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 27's staging buffer after the body, from the input windows' blocks: its 1 store as pieces, LAST
    FIRST (Lib/Pipeline/FrameBody.lean `View.canon`; the payloads are the skeleton's). -/
def out0_27 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S128x512 .f32 :=
  View.canon [⟨r0_1, k0_pay7 (View.ld x7 r0_1) (View.ld x12 r0_1)⟩]

/-- Its stores tile the buffer (checked by evaluation), so they cover it. -/
theorem cover0_27 (p0 : Vec F S128x512 .f32) (y : S128x512.Idx) :
    ∃ pc ∈ ([⟨r0_1, p0⟩] : List (View.Piece (Elt F) S128x512 .f32)), y ∈ pc.1.set :=
  View.cover_of_tiled [⟨r0_1, p0⟩] S128x512.size (by rfl) y

/-- Window 28's staging buffer after the body, from the input windows' blocks: its 1 store as pieces, LAST
    FIRST (Lib/Pipeline/FrameBody.lean `View.canon`; the payloads are the skeleton's). -/
def out0_28 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S512x256 .f32 :=
  View.canon [⟨r0_2, k0_pay10 (View.ld x8 r0_2) (View.ld x13 r0_2)⟩]

/-- Its stores tile the buffer (checked by evaluation), so they cover it. -/
theorem cover0_28 (p0 : Vec F S512x256 .f32) (y : S512x256.Idx) :
    ∃ pc ∈ ([⟨r0_2, p0⟩] : List (View.Piece (Elt F) S512x256 .f32)), y ∈ pc.1.set :=
  View.cover_of_tiled [⟨r0_2, p0⟩] S512x256.size (by rfl) y

/-- Window 29's staging buffer after the body, from the input windows' blocks: its 1 store as pieces, LAST
    FIRST (Lib/Pipeline/FrameBody.lean `View.canon`; the payloads are the skeleton's). -/
def out0_29 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S31x256 .f32 :=
  View.canon [⟨r0_3, k0_pay13 (View.ld x9 r0_3) (View.ld x14 r0_3)⟩]

/-- Its stores tile the buffer (checked by evaluation), so they cover it. -/
theorem cover0_29 (p0 : Vec F S31x256 .f32) (y : S31x256.Idx) :
    ∃ pc ∈ ([⟨r0_3, p0⟩] : List (View.Piece (Elt F) S31x256 .f32)), y ∈ pc.1.set :=
  View.cover_of_tiled [⟨r0_3, p0⟩] S31x256.size (by rfl) y

/-- Window 30's staging buffer after the body, from the input windows' blocks: its 1 store as pieces, LAST
    FIRST (Lib/Pipeline/FrameBody.lean `View.canon`; the payloads are the skeleton's). -/
def out0_30 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S256x1024 .f32 :=
  View.canon [⟨r0_0, k0_pay2 (View.ld x5 r0_0) (View.ld x15 r0_0)⟩]

/-- Its stores tile the buffer (checked by evaluation), so they cover it. -/
theorem cover0_30 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 31's staging buffer after the body, from the input windows' blocks: its 1 store as pieces, LAST
    FIRST (Lib/Pipeline/FrameBody.lean `View.canon`; the payloads are the skeleton's). -/
def out0_31 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S256x1024 .f32 :=
  View.canon [⟨r0_0, k0_pay5 (View.ld x6 r0_0) (View.ld x16 r0_0)⟩]

/-- Its stores tile the buffer (checked by evaluation), so they cover it. -/
theorem cover0_31 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 32's staging buffer after the body, from the input windows' blocks: its 1 store as pieces, LAST
    FIRST (Lib/Pipeline/FrameBody.lean `View.canon`; the payloads are the skeleton's). -/
def out0_32 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S128x512 .f32 :=
  View.canon [⟨r0_1, k0_pay8 (View.ld x7 r0_1) (View.ld x17 r0_1)⟩]

/-- Its stores tile the buffer (checked by evaluation), so they cover it. -/
theorem cover0_32 (p0 : Vec F S128x512 .f32) (y : S128x512.Idx) :
    ∃ pc ∈ ([⟨r0_1, p0⟩] : List (View.Piece (Elt F) S128x512 .f32)), y ∈ pc.1.set :=
  View.cover_of_tiled [⟨r0_1, p0⟩] S128x512.size (by rfl) y

/-- Window 33's staging buffer after the body, from the input windows' blocks: its 1 store as pieces, LAST
    FIRST (Lib/Pipeline/FrameBody.lean `View.canon`; the payloads are the skeleton's). -/
def out0_33 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S512x256 .f32 :=
  View.canon [⟨r0_2, k0_pay11 (View.ld x8 r0_2) (View.ld x18 r0_2)⟩]

/-- Its stores tile the buffer (checked by evaluation), so they cover it. -/
theorem cover0_33 (p0 : Vec F S512x256 .f32) (y : S512x256.Idx) :
    ∃ pc ∈ ([⟨r0_2, p0⟩] : List (View.Piece (Elt F) S512x256 .f32)), y ∈ pc.1.set :=
  View.cover_of_tiled [⟨r0_2, p0⟩] S512x256.size (by rfl) y

/-- Window 34's staging buffer after the body, from the input windows' blocks: its 1 store as pieces, LAST
    FIRST (Lib/Pipeline/FrameBody.lean `View.canon`; the payloads are the skeleton's). -/
def out0_34 (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) : Vec F S31x256 .f32 :=
  View.canon [⟨r0_3, k0_pay14 (View.ld x9 r0_3) (View.ld x19 r0_3)⟩]

/-- Its stores tile the buffer (checked by evaluation), so they cover it. -/
theorem cover0_34 (p0 : Vec F S31x256 .f32) (y : S31x256.Idx) :
    ∃ pc ∈ ([⟨r0_3, p0⟩] : List (View.Piece (Elt F) S31x256 .f32)), y ∈ pc.1.set :=
  View.cover_of_tiled [⟨r0_3, p0⟩] S31x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S256x1024 .f32) (harg0 : arg0.IsWhole) (arg1 : Memref sig .tc .vmem S256x1024 .f32) (harg1 : arg1.IsWhole) (arg2 : Memref sig .tc .vmem S128x512 .f32) (harg2 : arg2.IsWhole) (arg3 : Memref sig .tc .vmem S512x256 .f32) (harg3 : arg3.IsWhole) (arg4 : Memref sig .tc .vmem S31x256 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S128x512 .f32) (harg7 : arg7.IsWhole) (arg8 : Memref sig .tc .vmem S512x256 .f32) (harg8 : arg8.IsWhole) (arg9 : Memref sig .tc .vmem S31x256 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S128x512 .f32) (harg12 : arg12.IsWhole) (arg13 : Memref sig .tc .vmem S512x256 .f32) (harg13 : arg13.IsWhole) (arg14 : Memref sig .tc .vmem S31x256 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S128x512 .f32) (harg17 : arg17.IsWhole) (arg18 : Memref sig .tc .vmem S512x256 .f32) (harg18 : arg18.IsWhole) (arg19 : Memref sig .tc .vmem S31x256 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S128x512 .f32) (harg22 : arg22.IsWhole) (arg23 : Memref sig .tc .vmem S512x256 .f32) (harg23 : arg23.IsWhole) (arg24 : Memref sig .tc .vmem S31x256 .f32) (harg24 : arg24.IsWhole) (arg25 : Memref sig .tc .vmem S256x1024 .f32) (harg25 : arg25.IsWhole) (arg26 : Memref sig .tc .vmem S256x1024 .f32) (harg26 : arg26.IsWhole) (arg27 : Memref sig .tc .vmem S128x512 .f32) (harg27 : arg27.IsWhole) (arg28 : Memref sig .tc .vmem S512x256 .f32) (harg28 : arg28.IsWhole) (arg29 : Memref sig .tc .vmem S31x256 .f32) (harg29 : arg29.IsWhole) (arg30 : Memref sig .tc .vmem S256x1024 .f32) (harg30 : arg30.IsWhole) (arg31 : Memref sig .tc .vmem S256x1024 .f32) (harg31 : arg31.IsWhole) (arg32 : Memref sig .tc .vmem S128x512 .f32) (harg32 : arg32.IsWhole) (arg33 : Memref sig .tc .vmem S512x256 .f32) (harg33 : arg33.IsWhole) (arg34 : Memref sig .tc .vmem S31x256 .f32) (harg34 : arg34.IsWhole)
    (x0 : Vec F S256x1024 .f32) (x1 : Vec F S256x1024 .f32) (x2 : Vec F S128x512 .f32) (x3 : Vec F S512x256 .f32) (x4 : Vec F S31x256 .f32) (x5 : Vec F S256x1024 .f32) (x6 : Vec F S256x1024 .f32) (x7 : Vec F S128x512 .f32) (x8 : Vec F S512x256 .f32) (x9 : Vec F S31x256 .f32) (x10 : Vec F S256x1024 .f32) (x11 : Vec F S256x1024 .f32) (x12 : Vec F S128x512 .f32) (x13 : Vec F S512x256 .f32) (x14 : Vec F S31x256 .f32) (x15 : Vec F S256x1024 .f32) (x16 : Vec F S256x1024 .f32) (x17 : Vec F S128x512 .f32) (x18 : Vec F S512x256 .f32) (x19 : Vec F S31x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (out0_20 x0 x1 x2 x3 x4 x5 x6 x7 x8 x9 x10 x11 x12 x13 x14 x15 x16 x17 x18 x19) ∗ owns (c : Thread nD τ) arg21 fullShare (out0_21 x0 x1 x2 x3 x4 x5 x6 x7 x8 x9 x10 x11 x12 x13 x14 x15 x16 x17 x18 x19) ∗ owns (c : Thread nD τ) arg22 fullShare (out0_22 x0 x1 x2 x3 x4 x5 x6 x7 x8 x9 x10 x11 x12 x13 x14 x15 x16 x17 x18 x19) ∗ owns (c : Thread nD τ) arg23 fullShare (out0_23 x0 x1 x2 x3 x4 x5 x6 x7 x8 x9 x10 x11 x12 x13 x14 x15 x16 x17 x18 x19) ∗ owns (c : Thread nD τ) arg24 fullShare (out0_24 x0 x1 x2 x3 x4 x5 x6 x7 x8 x9 x10 x11 x12 x13 x14 x15 x16 x17 x18 x19) ∗ owns (c : Thread nD τ) arg25 fullShare (out0_25 x0 x1 x2 x3 x4 x5 x6 x7 x8 x9 x10 x11 x12 x13 x14 x15 x16 x17 x18 x19) ∗ owns (c : Thread nD τ) arg26 fullShare (out0_26 x0 x1 x2 x3 x4 x5 x6 x7 x8 x9 x10 x11 x12 x13 x14 x15 x16 x17 x18 x19) ∗ owns (c : Thread nD τ) arg27 fullShare (out0_27 x0 x1 x2 x3 x4 x5 x6 x7 x8 x9 x10 x11 x12 x13 x14 x15 x16 x17 x18 x19) ∗ owns (c : Thread nD τ) arg28 fullShare (out0_28 x0 x1 x2 x3 x4 x5 x6 x7 x8 x9 x10 x11 x12 x13 x14 x15 x16 x17 x18 x19) ∗ owns (c : Thread nD τ) arg29 fullShare (out0_29 x0 x1 x2 x3 x4 x5 x6 x7 x8 x9 x10 x11 x12 x13 x14 x15 x16 x17 x18 x19) ∗ owns (c : Thread nD τ) arg30 fullShare (out0_30 x0 x1 x2 x3 x4 x5 x6 x7 x8 x9 x10 x11 x12 x13 x14 x15 x16 x17 x18 x19) ∗ owns (c : Thread nD τ) arg31 fullShare (out0_31 x0 x1 x2 x3 x4 x5 x6 x7 x8 x9 x10 x11 x12 x13 x14 x15 x16 x17 x18 x19) ∗ owns (c : Thread nD τ) arg32 fullShare (out0_32 x0 x1 x2 x3 x4 x5 x6 x7 x8 x9 x10 x11 x12 x13 x14 x15 x16 x17 x18 x19) ∗ owns (c : Thread nD τ) arg33 fullShare (out0_33 x0 x1 x2 x3 x4 x5 x6 x7 x8 x9 x10 x11 x12 x13 x14 x15 x16 x17 x18 x19) ∗ owns (c : Thread nD τ) arg34 fullShare (out0_34 x0 x1 x2 x3 x4 x5 x6 x7 x8 x9 x10 x11 x12 x13 x14 x15 x16 x17 x18 x19)) -∗ K ⟨⟩))
      ⊢ wp frame (wpE (defs₀ (F := F)) Variants.none c none) E (cc0_adamw_rest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_adamw_rest_eq_skeleton]; unfold cc0_adamw_rest_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  iexists _; isplitr
  swap; · iexact H34
  ipureintro
  exact View.read_writes_eq_canon _ _ _ (cover0_34 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 35, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t))

-- the triple has thirty-five windows
set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

-- thirty-five windows
set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The run leaves the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.AdamRest

end
-- ==== Proof.RestArrays.lean ====
/- The optimiser's step on five weights at once: the kernel's fifteen results and the reference's. Weight `n` has the
   operands `n`, `n + 5` (gradient), `n + 10` (first moment) and `n + 15` (second moment), and the kernel leaves its change in
   window `20 + n` and its new moments in windows `25 + n` and `30 + n`. -/
module

public import proofs.«01_k».proof.Proof.Adam
public import proofs.«01_k».proof.Proof.RestRun
public import Idealize.ShloMosaic.Lib.Pointwise
public import Idealize.ShloMosaic.Lib.Pipeline.ValueKit

@[expose] public section

set_option maxRecDepth 16384

noncomputable section

namespace Cert.RestClaim
open Idealize.ShloMosaic Idealize.ShloMosaic.TcCoe Idealize.SL.Sem Idealize.ShloMosaic.StableHlo

section
open Cert.Kernel5Ideal Cert.Kernel5Ideal.Gen Cert.AdamRest

variable (m : (ℓ : Loc nD τ sig) → Buf (Elt Ideal) ℓ) (c : Dev nD)

/-! The reshaped operands as the region finds them. -/
theorem V0 : V m c main_v0 = shapeCast S256x1024 (m ((c.tc : Thread nD τ).loc main_arg0)) shapeCasts_S1x256x1024_S256x1024 := by
  unfold V hostOps0; after_results_simp <;> rfl
theorem V1 : V m c main_v1 = shapeCast S256x1024 (m ((c.tc : Thread nD τ).loc main_arg1)) shapeCasts_S1x256x1024_S256x1024 := by
  unfold V hostOps0; after_results_simp <;> rfl
theorem V2 : V m c main_v2 = shapeCast S128x512 (m ((c.tc : Thread nD τ).loc main_arg2)) shapeCasts_S1x128x512_S128x512 := by
  unfold V hostOps0; after_results_simp <;> rfl
theorem V3 : V m c main_v3 = shapeCast S512x256 (m ((c.tc : Thread nD τ).loc main_arg3)) shapeCasts_S1x512x256_S512x256 := by
  unfold V hostOps0; after_results_simp <;> rfl
theorem V4 : V m c main_v4 = shapeCast S31x256 (m ((c.tc : Thread nD τ).loc main_arg4)) shapeCasts_S1x31x256_S31x256 := by
  unfold V hostOps0; after_results_simp <;> rfl
theorem V5 : V m c main_v5 = shapeCast S256x1024 (m ((c.tc : Thread nD τ).loc main_arg10)) shapeCasts_S1x256x1024_S256x1024 := by
  unfold V hostOps0; after_results_simp <;> rfl
theorem V6 : V m c main_v6 = shapeCast S256x1024 (m ((c.tc : Thread nD τ).loc main_arg11)) shapeCasts_S1x256x1024_S256x1024 := by
  unfold V hostOps0; after_results_simp <;> rfl
theorem V7 : V m c main_v7 = shapeCast S128x512 (m ((c.tc : Thread nD τ).loc main_arg12)) shapeCasts_S1x128x512_S128x512 := by
  unfold V hostOps0; after_results_simp <;> rfl
theorem V8 : V m c main_v8 = shapeCast S512x256 (m ((c.tc : Thread nD τ).loc main_arg13)) shapeCasts_S1x512x256_S512x256 := by
  unfold V hostOps0; after_results_simp <;> rfl
theorem V9 : V m c main_v9 = shapeCast S31x256 (m ((c.tc : Thread nD τ).loc main_arg14)) shapeCasts_S1x31x256_S31x256 := by
  unfold V hostOps0; after_results_simp <;> rfl
theorem V10 : V m c main_v10 = shapeCast S256x1024 (m ((c.tc : Thread nD τ).loc main_arg15)) shapeCasts_S1x256x1024_S256x1024 := by
  unfold V hostOps0; after_results_simp <;> rfl
theorem V11 : V m c main_v11 = shapeCast S256x1024 (m ((c.tc : Thread nD τ).loc main_arg16)) shapeCasts_S1x256x1024_S256x1024 := by
  unfold V hostOps0; after_results_simp <;> rfl
theorem V12 : V m c main_v12 = shapeCast S128x512 (m ((c.tc : Thread nD τ).loc main_arg17)) shapeCasts_S1x128x512_S128x512 := by
  unfold V hostOps0; after_results_simp <;> rfl
theorem V13 : V m c main_v13 = shapeCast S512x256 (m ((c.tc : Thread nD τ).loc main_arg18)) shapeCasts_S1x512x256_S512x256 := by
  unfold V hostOps0; after_results_simp <;> rfl
theorem V14 : V m c main_v14 = shapeCast S31x256 (m ((c.tc : Thread nD τ).loc main_arg19)) shapeCasts_S1x31x256_S31x256 := by
  unfold V hostOps0; after_results_simp <;> rfl

/-! The payloads at an entry. -/
theorem d0 (w g m v : Vec Ideal S256x1024 .f32) (y) : k0_pay3 (F := Ideal) w g m v y = Adam.delta (w y) (g y) (m y) (v y) := by
  idx_vars y; pointwise [k0_pay3, k0_pay2, k0_pay1]; rfl
theorem m0 (g m : Vec Ideal S256x1024 .f32) (y) : k0_pay1 (F := Ideal) g m y = Adam.m2 (g y) (m y) := by
  idx_vars y; pointwise [k0_pay1]; rfl
theorem v0 (g v : Vec Ideal S256x1024 .f32) (y) : k0_pay2 (F := Ideal) g v y = Adam.v2 (g y) (v y) := by
  idx_vars y; pointwise [k0_pay2]; rfl
theorem d1 (w g m v : Vec Ideal S256x1024 .f32) (y) : k0_pay6 (F := Ideal) w g m v y = Adam.delta (w y) (g y) (m y) (v y) := by
  idx_vars y; pointwise [k0_pay6, k0_pay5, k0_pay4]; rfl
theorem m1 (g m : Vec Ideal S256x1024 .f32) (y) : k0_pay4 (F := Ideal) g m y = Adam.m2 (g y) (m y) := by
  idx_vars y; pointwise [k0_pay4]; rfl
theorem v1 (g v : Vec Ideal S256x1024 .f32) (y) : k0_pay5 (F := Ideal) g v y = Adam.v2 (g y) (v y) := by
  idx_vars y; pointwise [k0_pay5]; rfl
theorem d2 (w g m v : Vec Ideal S128x512 .f32) (y) : k0_pay9 (F := Ideal) w g m v y = Adam.delta (w y) (g y) (m y) (v y) := by
  idx_vars y; pointwise [k0_pay9, k0_pay8, k0_pay7]; rfl
theorem m2 (g m : Vec Ideal S128x512 .f32) (y) : k0_pay7 (F := Ideal) g m y = Adam.m2 (g y) (m y) := by
  idx_vars y; pointwise [k0_pay7]; rfl
theorem v2 (g v : Vec Ideal S128x512 .f32) (y) : k0_pay8 (F := Ideal) g v y = Adam.v2 (g y) (v y) := by
  idx_vars y; pointwise [k0_pay8]; rfl
theorem d3 (w g m v : Vec Ideal S512x256 .f32) (y) : k0_pay12 (F := Ideal) w g m v y = Adam.delta (w y) (g y) (m y) (v y) := by
  idx_vars y; pointwise [k0_pay12, k0_pay11, k0_pay10]; rfl
theorem m3 (g m : Vec Ideal S512x256 .f32) (y) : k0_pay10 (F := Ideal) g m y = Adam.m2 (g y) (m y) := by
  idx_vars y; pointwise [k0_pay10]; rfl
theorem v3 (g v : Vec Ideal S512x256 .f32) (y) : k0_pay11 (F := Ideal) g v y = Adam.v2 (g y) (v y) := by
  idx_vars y; pointwise [k0_pay11]; rfl
theorem d4 (w g m v : Vec Ideal S31x256 .f32) (y) : k0_pay15 (F := Ideal) w g m v y = Adam.delta (w y) (g y) (m y) (v y) := by
  idx_vars y; pointwise [k0_pay15, k0_pay14, k0_pay13]; rfl
theorem m4 (g m : Vec Ideal S31x256 .f32) (y) : k0_pay13 (F := Ideal) g m y = Adam.m2 (g y) (m y) := by
  idx_vars y; pointwise [k0_pay13]; rfl
theorem v4 (g v : Vec Ideal S31x256 .f32) (y) : k0_pay14 (F := Ideal) g v y = Adam.v2 (g y) (v y) := by
  idx_vars y; pointwise [k0_pay14]; rfl

/-! The arrays the region leaves. -/
theorem arr20 : (dats m 0 c).arrAt 20 cfg0.N = fun j => (Adam.delta (V m c main_v0 j) (V m c main_arg5 j) (V m c main_v5 j) (V m c main_v10 j) : EReal) := by
  refine (dats m 0 c).arrAt_eq_of_covers 20 _ (by decide +kernel) fun t hf y => ?_
  blk_simp
  rw [after0_20]
  frame_out
  rw [d0]
  congr 1 <;> blk_ext [iblk, V]
theorem arr21 : (dats m 0 c).arrAt 21 cfg0.N = fun j => (Adam.delta (V m c main_v1 j) (V m c main_arg6 j) (V m c main_v6 j) (V m c main_v11 j) : EReal) := by
  refine (dats m 0 c).arrAt_eq_of_covers 21 _ (by decide +kernel) fun t hf y => ?_
  blk_simp
  rw [after0_21]
  frame_out
  rw [d1]
  congr 1 <;> blk_ext [iblk, V]
theorem arr22 : (dats m 0 c).arrAt 22 cfg0.N = fun j => (Adam.delta (V m c main_v2 j) (V m c main_arg7 j) (V m c main_v7 j) (V m c main_v12 j) : EReal) := by
  refine (dats m 0 c).arrAt_eq_of_covers 22 _ (by decide +kernel) fun t hf y => ?_
  blk_simp
  rw [after0_22]
  frame_out
  rw [d2]
  congr 1 <;> blk_ext [iblk, V]
theorem arr23 : (dats m 0 c).arrAt 23 cfg0.N = fun j => (Adam.delta (V m c main_v3 j) (V m c main_arg8 j) (V m c main_v8 j) (V m c main_v13 j) : EReal) := by
  refine (dats m 0 c).arrAt_eq_of_covers 23 _ (by decide +kernel) fun t hf y => ?_
  blk_simp
  rw [after0_23]
  frame_out
  rw [d3]
  congr 1 <;> blk_ext [iblk, V]
theorem arr24 : (dats m 0 c).arrAt 24 cfg0.N = fun j => (Adam.delta (V m c main_v4 j) (V m c main_arg9 j) (V m c main_v9 j) (V m c main_v14 j) : EReal) := by
  refine (dats m 0 c).arrAt_eq_of_covers 24 _ (by decide +kernel) fun t hf y => ?_
  blk_simp
  rw [after0_24]
  frame_out
  rw [d4]
  congr 1 <;> blk_ext [iblk, V]
theorem arr25 : (dats m 0 c).arrAt 25 cfg0.N = fun j => (Adam.m2 (V m c main_arg5 j) (V m c main_v5 j) : EReal) := by
  refine (dats m 0 c).arrAt_eq_of_covers 25 _ (by decide +kernel) fun t hf y => ?_
  blk_simp
  rw [after0_25]
  frame_out
  rw [m0]
  congr 1 <;> blk_ext [iblk, V]
theorem arr26 : (dats m 0 c).arrAt 26 cfg0.N = fun j => (Adam.m2 (V m c main_arg6 j) (V m c main_v6 j) : EReal) := by
  refine (dats m 0 c).arrAt_eq_of_covers 26 _ (by decide +kernel) fun t hf y => ?_
  blk_simp
  rw [after0_26]
  frame_out
  rw [m1]
  congr 1 <;> blk_ext [iblk, V]
theorem arr27 : (dats m 0 c).arrAt 27 cfg0.N = fun j => (Adam.m2 (V m c main_arg7 j) (V m c main_v7 j) : EReal) := by
  refine (dats m 0 c).arrAt_eq_of_covers 27 _ (by decide +kernel) fun t hf y => ?_
  blk_simp
  rw [after0_27]
  frame_out
  rw [m2]
  congr 1 <;> blk_ext [iblk, V]
theorem arr28 : (dats m 0 c).arrAt 28 cfg0.N = fun j => (Adam.m2 (V m c main_arg8 j) (V m c main_v8 j) : EReal) := by
  refine (dats m 0 c).arrAt_eq_of_covers 28 _ (by decide +kernel) fun t hf y => ?_
  blk_simp
  rw [after0_28]
  frame_out
  rw [m3]
  congr 1 <;> blk_ext [iblk, V]
theorem arr29 : (dats m 0 c).arrAt 29 cfg0.N = fun j => (Adam.m2 (V m c main_arg9 j) (V m c main_v9 j) : EReal) := by
  refine (dats m 0 c).arrAt_eq_of_covers 29 _ (by decide +kernel) fun t hf y => ?_
  blk_simp
  rw [after0_29]
  frame_out
  rw [m4]
  congr 1 <;> blk_ext [iblk, V]
theorem arr30 : (dats m 0 c).arrAt 30 cfg0.N = fun j => (Adam.v2 (V m c main_arg5 j) (V m c main_v10 j) : EReal) := by
  refine (dats m 0 c).arrAt_eq_of_covers 30 _ (by decide +kernel) fun t hf y => ?_
  blk_simp
  rw [after0_30]
  frame_out
  rw [v0]
  congr 1 <;> blk_ext [iblk, V]
theorem arr31 : (dats m 0 c).arrAt 31 cfg0.N = fun j => (Adam.v2 (V m c main_arg6 j) (V m c main_v11 j) : EReal) := by
  refine (dats m 0 c).arrAt_eq_of_covers 31 _ (by decide +kernel) fun t hf y => ?_
  blk_simp
  rw [after0_31]
  frame_out
  rw [v1]
  congr 1 <;> blk_ext [iblk, V]
theorem arr32 : (dats m 0 c).arrAt 32 cfg0.N = fun j => (Adam.v2 (V m c main_arg7 j) (V m c main_v12 j) : EReal) := by
  refine (dats m 0 c).arrAt_eq_of_covers 32 _ (by decide +kernel) fun t hf y => ?_
  blk_simp
  rw [after0_32]
  frame_out
  rw [v2]
  congr 1 <;> blk_ext [iblk, V]
theorem arr33 : (dats m 0 c).arrAt 33 cfg0.N = fun j => (Adam.v2 (V m c main_arg8 j) (V m c main_v13 j) : EReal) := by
  refine (dats m 0 c).arrAt_eq_of_covers 33 _ (by decide +kernel) fun t hf y => ?_
  blk_simp
  rw [after0_33]
  frame_out
  rw [v3]
  congr 1 <;> blk_ext [iblk, V]
theorem arr34 : (dats m 0 c).arrAt 34 cfg0.N = fun j => (Adam.v2 (V m c main_arg9 j) (V m c main_v14 j) : EReal) := by
  refine (dats m 0 c).arrAt_eq_of_covers 34 _ (by decide +kernel) fun t hf y => ?_
  blk_simp
  rw [after0_34]
  frame_out
  rw [v4]
  congr 1 <;> blk_ext [iblk, V]

/-! The results, of the arguments. -/
def R0 : S256x1024.Idx → EReal := fun j => Adam.delta ((shapeCast S256x1024 (m ((c.tc : Thread nD τ).loc main_arg0)) shapeCasts_S1x256x1024_S256x1024 : FVec Ideal S256x1024 .f32) j) (m ((c.tc : Thread nD τ).loc main_arg5) j) ((shapeCast S256x1024 (m ((c.tc : Thread nD τ).loc main_arg10)) shapeCasts_S1x256x1024_S256x1024 : FVec Ideal S256x1024 .f32) j) ((shapeCast S256x1024 (m ((c.tc : Thread nD τ).loc main_arg15)) shapeCasts_S1x256x1024_S256x1024 : FVec Ideal S256x1024 .f32) j)
theorem post0 (r : PUnit × MemSt nD τ sig (Elt Ideal)) (h : Pipeline.FramePost cfgs (dats m) 0 (V m) r) :
    r.2.mem ((c.tc : Thread nD τ).loc main_v15_0) = R0 m c := by
  refine ((h c).1 20).trans ((arr20 m c).trans ?_)
  rw [V0 m c, AdamRest.V_main_arg5 m c, V5 m c, V10 m c]
  rfl
def R1 : S256x1024.Idx → EReal := fun j => Adam.delta ((shapeCast S256x1024 (m ((c.tc : Thread nD τ).loc main_arg1)) shapeCasts_S1x256x1024_S256x1024 : FVec Ideal S256x1024 .f32) j) (m ((c.tc : Thread nD τ).loc main_arg6) j) ((shapeCast S256x1024 (m ((c.tc : Thread nD τ).loc main_arg11)) shapeCasts_S1x256x1024_S256x1024 : FVec Ideal S256x1024 .f32) j) ((shapeCast S256x1024 (m ((c.tc : Thread nD τ).loc main_arg16)) shapeCasts_S1x256x1024_S256x1024 : FVec Ideal S256x1024 .f32) j)
theorem post1 (r : PUnit × MemSt nD τ sig (Elt Ideal)) (h : Pipeline.FramePost cfgs (dats m) 0 (V m) r) :
    r.2.mem ((c.tc : Thread nD τ).loc main_v15_1) = R1 m c := by
  refine ((h c).1 21).trans ((arr21 m c).trans ?_)
  rw [V1 m c, AdamRest.V_main_arg6 m c, V6 m c, V11 m c]
  rfl
def R2 : S128x512.Idx → EReal := fun j => Adam.delta ((shapeCast S128x512 (m ((c.tc : Thread nD τ).loc main_arg2)) shapeCasts_S1x128x512_S128x512 : FVec Ideal S128x512 .f32) j) (m ((c.tc : Thread nD τ).loc main_arg7) j) ((shapeCast S128x512 (m ((c.tc : Thread nD τ).loc main_arg12)) shapeCasts_S1x128x512_S128x512 : FVec Ideal S128x512 .f32) j) ((shapeCast S128x512 (m ((c.tc : Thread nD τ).loc main_arg17)) shapeCasts_S1x128x512_S128x512 : FVec Ideal S128x512 .f32) j)
theorem post2 (r : PUnit × MemSt nD τ sig (Elt Ideal)) (h : Pipeline.FramePost cfgs (dats m) 0 (V m) r) :
    r.2.mem ((c.tc : Thread nD τ).loc main_v15_2) = R2 m c := by
  refine ((h c).1 22).trans ((arr22 m c).trans ?_)
  rw [V2 m c, AdamRest.V_main_arg7 m c, V7 m c, V12 m c]
  rfl
def R3 : S512x256.Idx → EReal := fun j => Adam.delta ((shapeCast S512x256 (m ((c.tc : Thread nD τ).loc main_arg3)) shapeCasts_S1x512x256_S512x256 : FVec Ideal S512x256 .f32) j) (m ((c.tc : Thread nD τ).loc main_arg8) j) ((shapeCast S512x256 (m ((c.tc : Thread nD τ).loc main_arg13)) shapeCasts_S1x512x256_S512x256 : FVec Ideal S512x256 .f32) j) ((shapeCast S512x256 (m ((c.tc : Thread nD τ).loc main_arg18)) shapeCasts_S1x512x256_S512x256 : FVec Ideal S512x256 .f32) j)
theorem post3 (r : PUnit × MemSt nD τ sig (Elt Ideal)) (h : Pipeline.FramePost cfgs (dats m) 0 (V m) r) :
    r.2.mem ((c.tc : Thread nD τ).loc main_v15_3) = R3 m c := by
  refine ((h c).1 23).trans ((arr23 m c).trans ?_)
  rw [V3 m c, AdamRest.V_main_arg8 m c, V8 m c, V13 m c]
  rfl
def R4 : S31x256.Idx → EReal := fun j => Adam.delta ((shapeCast S31x256 (m ((c.tc : Thread nD τ).loc main_arg4)) shapeCasts_S1x31x256_S31x256 : FVec Ideal S31x256 .f32) j) (m ((c.tc : Thread nD τ).loc main_arg9) j) ((shapeCast S31x256 (m ((c.tc : Thread nD τ).loc main_arg14)) shapeCasts_S1x31x256_S31x256 : FVec Ideal S31x256 .f32) j) ((shapeCast S31x256 (m ((c.tc : Thread nD τ).loc main_arg19)) shapeCasts_S1x31x256_S31x256 : FVec Ideal S31x256 .f32) j)
theorem post4 (r : PUnit × MemSt nD τ sig (Elt Ideal)) (h : Pipeline.FramePost cfgs (dats m) 0 (V m) r) :
    r.2.mem ((c.tc : Thread nD τ).loc main_v15_4) = R4 m c := by
  refine ((h c).1 24).trans ((arr24 m c).trans ?_)
  rw [V4 m c, AdamRest.V_main_arg9 m c, V9 m c, V14 m c]
  rfl
def R5 : S256x1024.Idx → EReal := fun j => Adam.m2 (m ((c.tc : Thread nD τ).loc main_arg5) j) ((shapeCast S256x1024 (m ((c.tc : Thread nD τ).loc main_arg10)) shapeCasts_S1x256x1024_S256x1024 : FVec Ideal S256x1024 .f32) j)
theorem post5 (r : PUnit × MemSt nD τ sig (Elt Ideal)) (h : Pipeline.FramePost cfgs (dats m) 0 (V m) r) :
    r.2.mem ((c.tc : Thread nD τ).loc main_v15_5) = R5 m c := by
  refine ((h c).1 25).trans ((arr25 m c).trans ?_)
  rw [AdamRest.V_main_arg5 m c, V5 m c]
  rfl
def R6 : S256x1024.Idx → EReal := fun j => Adam.m2 (m ((c.tc : Thread nD τ).loc main_arg6) j) ((shapeCast S256x1024 (m ((c.tc : Thread nD τ).loc main_arg11)) shapeCasts_S1x256x1024_S256x1024 : FVec Ideal S256x1024 .f32) j)
theorem post6 (r : PUnit × MemSt nD τ sig (Elt Ideal)) (h : Pipeline.FramePost cfgs (dats m) 0 (V m) r) :
    r.2.mem ((c.tc : Thread nD τ).loc main_v15_6) = R6 m c := by
  refine ((h c).1 26).trans ((arr26 m c).trans ?_)
  rw [AdamRest.V_main_arg6 m c, V6 m c]
  rfl
def R7 : S128x512.Idx → EReal := fun j => Adam.m2 (m ((c.tc : Thread nD τ).loc main_arg7) j) ((shapeCast S128x512 (m ((c.tc : Thread nD τ).loc main_arg12)) shapeCasts_S1x128x512_S128x512 : FVec Ideal S128x512 .f32) j)
theorem post7 (r : PUnit × MemSt nD τ sig (Elt Ideal)) (h : Pipeline.FramePost cfgs (dats m) 0 (V m) r) :
    r.2.mem ((c.tc : Thread nD τ).loc main_v15_7) = R7 m c := by
  refine ((h c).1 27).trans ((arr27 m c).trans ?_)
  rw [AdamRest.V_main_arg7 m c, V7 m c]
  rfl
def R8 : S512x256.Idx → EReal := fun j => Adam.m2 (m ((c.tc : Thread nD τ).loc main_arg8) j) ((shapeCast S512x256 (m ((c.tc : Thread nD τ).loc main_arg13)) shapeCasts_S1x512x256_S512x256 : FVec Ideal S512x256 .f32) j)
theorem post8 (r : PUnit × MemSt nD τ sig (Elt Ideal)) (h : Pipeline.FramePost cfgs (dats m) 0 (V m) r) :
    r.2.mem ((c.tc : Thread nD τ).loc main_v15_8) = R8 m c := by
  refine ((h c).1 28).trans ((arr28 m c).trans ?_)
  rw [AdamRest.V_main_arg8 m c, V8 m c]
  rfl
def R9 : S31x256.Idx → EReal := fun j => Adam.m2 (m ((c.tc : Thread nD τ).loc main_arg9) j) ((shapeCast S31x256 (m ((c.tc : Thread nD τ).loc main_arg14)) shapeCasts_S1x31x256_S31x256 : FVec Ideal S31x256 .f32) j)
theorem post9 (r : PUnit × MemSt nD τ sig (Elt Ideal)) (h : Pipeline.FramePost cfgs (dats m) 0 (V m) r) :
    r.2.mem ((c.tc : Thread nD τ).loc main_v15_9) = R9 m c := by
  refine ((h c).1 29).trans ((arr29 m c).trans ?_)
  rw [AdamRest.V_main_arg9 m c, V9 m c]
  rfl
def R10 : S256x1024.Idx → EReal := fun j => Adam.v2 (m ((c.tc : Thread nD τ).loc main_arg5) j) ((shapeCast S256x1024 (m ((c.tc : Thread nD τ).loc main_arg15)) shapeCasts_S1x256x1024_S256x1024 : FVec Ideal S256x1024 .f32) j)
theorem post10 (r : PUnit × MemSt nD τ sig (Elt Ideal)) (h : Pipeline.FramePost cfgs (dats m) 0 (V m) r) :
    r.2.mem ((c.tc : Thread nD τ).loc main_v15_10) = R10 m c := by
  refine ((h c).1 30).trans ((arr30 m c).trans ?_)
  rw [AdamRest.V_main_arg5 m c, V10 m c]
  rfl
def R11 : S256x1024.Idx → EReal := fun j => Adam.v2 (m ((c.tc : Thread nD τ).loc main_arg6) j) ((shapeCast S256x1024 (m ((c.tc : Thread nD τ).loc main_arg16)) shapeCasts_S1x256x1024_S256x1024 : FVec Ideal S256x1024 .f32) j)
theorem post11 (r : PUnit × MemSt nD τ sig (Elt Ideal)) (h : Pipeline.FramePost cfgs (dats m) 0 (V m) r) :
    r.2.mem ((c.tc : Thread nD τ).loc main_v15_11) = R11 m c := by
  refine ((h c).1 31).trans ((arr31 m c).trans ?_)
  rw [AdamRest.V_main_arg6 m c, V11 m c]
  rfl
def R12 : S128x512.Idx → EReal := fun j => Adam.v2 (m ((c.tc : Thread nD τ).loc main_arg7) j) ((shapeCast S128x512 (m ((c.tc : Thread nD τ).loc main_arg17)) shapeCasts_S1x128x512_S128x512 : FVec Ideal S128x512 .f32) j)
theorem post12 (r : PUnit × MemSt nD τ sig (Elt Ideal)) (h : Pipeline.FramePost cfgs (dats m) 0 (V m) r) :
    r.2.mem ((c.tc : Thread nD τ).loc main_v15_12) = R12 m c := by
  refine ((h c).1 32).trans ((arr32 m c).trans ?_)
  rw [AdamRest.V_main_arg7 m c, V12 m c]
  rfl
def R13 : S512x256.Idx → EReal := fun j => Adam.v2 (m ((c.tc : Thread nD τ).loc main_arg8) j) ((shapeCast S512x256 (m ((c.tc : Thread nD τ).loc main_arg18)) shapeCasts_S1x512x256_S512x256 : FVec Ideal S512x256 .f32) j)
theorem post13 (r : PUnit × MemSt nD τ sig (Elt Ideal)) (h : Pipeline.FramePost cfgs (dats m) 0 (V m) r) :
    r.2.mem ((c.tc : Thread nD τ).loc main_v15_13) = R13 m c := by
  refine ((h c).1 33).trans ((arr33 m c).trans ?_)
  rw [AdamRest.V_main_arg8 m c, V13 m c]
  rfl
def R14 : S31x256.Idx → EReal := fun j => Adam.v2 (m ((c.tc : Thread nD τ).loc main_arg9) j) ((shapeCast S31x256 (m ((c.tc : Thread nD τ).loc main_arg19)) shapeCasts_S1x31x256_S31x256 : FVec Ideal S31x256 .f32) j)
theorem post14 (r : PUnit × MemSt nD τ sig (Elt Ideal)) (h : Pipeline.FramePost cfgs (dats m) 0 (V m) r) :
    r.2.mem ((c.tc : Thread nD τ).loc main_v15_14) = R14 m c := by
  refine ((h c).1 34).trans ((arr34 m c).trans ?_)
  rw [AdamRest.V_main_arg9 m c, V14 m c]
  rfl

end

end Cert.RestClaim

end
-- ==== Proof.RestClaim.lean ====
/- The optimiser's step on five weights at once in the reference, and the claim that the kernel computes it. -/
module

public import proofs.«01_k».proof.Defs
public import proofs.«01_k».proof.Proof.RestArrays
public import proofs.«01_k».proof.Proof.Gen.Reference5Ideal.Run
public import Idealize.ShloMosaic.Lib.Quiescent

@[expose] public section

set_option maxRecDepth 16384

noncomputable section

namespace Cert.RestClaim
open Idealize.ShloMosaic Idealize.ShloMosaic.TcCoe Idealize.SL.Sem Idealize.ShloMosaic.StableHlo

section
open Cert.Reference5Ideal Cert.Reference5Ideal.Gen

/-- The reference ends with its arguments unchanged and every semaphore counter at zero, from any memory. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c => (h c).2.2.2.2.2.2.2.2.2.2.2.2.2.2.2, sem_eq_zero_of_no_sems (by decide) r.2⟩)
    (Cert.Reference5Ideal.Value.run (F := Ideal) m g)

end

theorem algebraic : Cert.algebraic_Kernel5Ideal_Reference5Ideal := by
  intro m g m' g' _ hagree
  refine ⟨fun c => R0 m c, fun c => R5 m c, fun c => R10 m c, fun c => R1 m c, fun c => R6 m c, fun c => R11 m c, fun c => R2 m c, fun c => R7 m c, fun c => R12 m c, fun c => R3 m c, fun c => R8 m c, fun c => R13 m c, fun c => R4 m c, fun c => R9 m c, fun c => R14 m c, ?_, ?_⟩
  · refine (θ_run _ _ _).mono (fun r h c => ?_) (θ_run_and (Cert.AdamRest.run_main m g) (Cert.AdamRest.unchanged m g))
    exact ⟨post0 m c r h.1, post5 m c r h.1, post10 m c r h.1, post1 m c r h.1, post6 m c r h.1, post11 m c r h.1, post2 m c r h.1, post7 m c r h.1, post12 m c r h.1, post3 m c r h.1, post8 m c r h.1, post13 m c r h.1, post4 m c r h.1, post9 m c r h.1, post14 m c r h.1, h.2 c⟩
  · refine (θ_run _ _ _).mono (fun r h c => ?_) (Cert.Reference5Ideal.Value.run (F := Ideal) m' g')
    obtain ⟨h0, h1, h2, h3, h4, h5, h6, h7, h8, h9, h10, h11, h12, h13, h14, hk⟩ := h c
    obtain ⟨a0, a1, a2, a3, a4, a5, a6, a7, a8, a9, a10, a11, a12, a13, a14, a15, a16, a17, a18, a19⟩ := hagree c
    refine ⟨h0.trans (funext fun j => ?_),
      h1.trans (funext fun j => ?_),
      h2.trans (funext fun j => ?_),
      h3.trans (funext fun j => ?_),
      h4.trans (funext fun j => ?_),
      h5.trans (funext fun j => ?_),
      h6.trans (funext fun j => ?_),
      h7.trans (funext fun j => ?_),
      h8.trans (funext fun j => ?_),
      h9.trans (funext fun j => ?_),
      h10.trans (funext fun j => ?_),
      h11.trans (funext fun j => ?_),
      h12.trans (funext fun j => ?_),
      h13.trans (funext fun j => ?_),
      h14.trans (funext fun j => ?_), hk⟩
    · refine (Adam.host_delta _ _ _ _ _ j).trans ?_
      rw [a0, a5, a10, a15]
      rfl
    · refine (Adam.host_m2 _ _ _ j).trans ?_
      rw [a5, a10]
      rfl
    · refine (Adam.host_v2 _ _ _ j).trans ?_
      rw [a5, a15]
      rfl
    · refine (Adam.host_delta _ _ _ _ _ j).trans ?_
      rw [a1, a6, a11, a16]
      rfl
    · refine (Adam.host_m2 _ _ _ j).trans ?_
      rw [a6, a11]
      rfl
    · refine (Adam.host_v2 _ _ _ j).trans ?_
      rw [a6, a16]
      rfl
    · refine (Adam.host_delta _ _ _ _ _ j).trans ?_
      rw [a2, a7, a12, a17]
      rfl
    · refine (Adam.host_m2 _ _ _ j).trans ?_
      rw [a7, a12]
      rfl
    · refine (Adam.host_v2 _ _ _ j).trans ?_
      rw [a7, a17]
      rfl
    · refine (Adam.host_delta _ _ _ _ _ j).trans ?_
      rw [a3, a8, a13, a18]
      rfl
    · refine (Adam.host_m2 _ _ _ j).trans ?_
      rw [a8, a13]
      rfl
    · refine (Adam.host_v2 _ _ _ j).trans ?_
      rw [a8, a18]
      rfl
    · refine (Adam.host_delta _ _ _ _ _ j).trans ?_
      rw [a4, a9, a14, a19]
      rfl
    · refine (Adam.host_m2 _ _ _ j).trans ?_
      rw [a9, a14]
      rfl
    · refine (Adam.host_v2 _ _ _ j).trans ?_
      rw [a9, a19]
      rfl

end Cert.RestClaim

end
-- ==== Proof.RestFrame.lean ====
/- The optimiser's step on five weights at once, at machine words: the program has the same text as the one read at extended
   reals, and the run is stated for both. -/
module

public import proofs.«01_k».proof.Defs
public import proofs.«01_k».proof.Proof.RestRun
public import proofs.«01_k».proof.Proof.Gen.Kernel5.Launch

@[expose] public section

set_option maxRecDepth 65536

noncomputable section

namespace Cert.RestFrame
open Idealize.ShloMosaic Idealize.ShloMosaic.TcCoe Idealize.SL.Sem

set_option maxHeartbeats 8000000 in
/-- The two programs' bodies are the same, label by label. -/
theorem bodies : Kernel5.defs₀ (F := Bits) = Kernel5Ideal.defs₀ (F := Bits) := by
  unfold Kernel5.defs₀ Kernel5Ideal.defs₀
  refine congrArg Defs.onTc (funext fun l => funext fun a => ?_)
  change Fin 1 at l
  obtain rfl : l = 0 := Subsingleton.elim _ _
  rfl

set_option maxHeartbeats 2000000 in
theorem programs : Kernel5.defs (F := Bits) = Kernel5Ideal.defs (F := Bits) :=
  congrArg (Pipeline.defs (Kernel5.pcfgs (F := Bits))) bodies

set_option maxHeartbeats 2000000 in
theorem mains : Kernel5.main (F := Bits) = Kernel5Ideal.main (F := Bits) := rfl

set_option maxHeartbeats 2000000 in
theorem frame : Cert.quiescent_Kernel5 := by
  intro m ρ _
  rw [programs]
  exact Cert.AdamRest.frame (F := Bits) m ρ

end Cert.RestFrame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.On_written
public import proofs.«01_k».proof.Proof.Gen.KernelIdeal.Value
public import proofs.«01_k».proof.Proof.Gen.Kernel2Ideal.Value
public import proofs.«01_k».proof.Proof.Gen.Kernel4Ideal.Value
public import proofs.«01_k».proof.Proof.Gen.Kernel6Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.RefFrame
public import proofs.«01_k».proof.Proof.Main
public import proofs.«01_k».proof.Proof.WinRef
public import proofs.«01_k».proof.Proof.ProjRef
public import proofs.«01_k».proof.Proof.AdamWin
public import proofs.«01_k».proof.Proof.AdamGain
public import proofs.«01_k».proof.Proof.Small
public import proofs.«01_k».proof.Proof.RestClaim
public import proofs.«01_k».proof.Proof.RestFrame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.On_written.Gen.facts,
    fun m ρ _ => Cert.Kernel.Gen.frame m ρ, fun m ρ _ => Cert.KernelIdeal.Gen.frame m ρ, fun m ρ _ => Cert.Tail.frame_reference m ρ,
    fun m ρ _ => Cert.Kernel2.Gen.frame m ρ, fun m ρ _ => Cert.Kernel2Ideal.Gen.frame m ρ, fun m ρ _ => Cert.WinGrad.frame_reference m ρ,
    fun m ρ _ => Cert.Kernel3.Gen.frame m ρ (Cert.Proj.ok_words m), fun m ρ _ => Cert.Kernel3Ideal.Gen.frame m ρ (Cert.Proj.ok m), fun m ρ _ => Cert.Proj.frame_reference m ρ,
    fun m ρ _ => Cert.Kernel4.Gen.frame m ρ, fun m ρ _ => Cert.Kernel4Ideal.Gen.frame m ρ, fun m ρ _ => Cert.AdamWin.frame_reference m ρ,
    Cert.RestFrame.frame, fun m ρ _ => Cert.AdamRest.frame m ρ, fun m ρ _ => Cert.RestClaim.frame_reference m ρ,
    fun m ρ _ => Cert.Kernel6.Gen.frame m ρ, fun m ρ _ => Cert.Kernel6Ideal.Gen.frame m ρ, fun m ρ _ => Cert.AdamGain.frame_reference m ρ,
    fun m ρ _ => Cert.Kernel7.Gen.frame m ρ, fun m ρ _ => Cert.Kernel7Ideal.Gen.frame m ρ, fun m ρ _ => Cert.Small.frame_reference m ρ,
    trivial, Cert.Tail.algebraic, trivial, Cert.WinGrad.algebraic, trivial, Cert.Proj.algebraic, trivial, Cert.AdamWin.algebraic, trivial, Cert.RestClaim.algebraic, trivial, Cert.AdamGain.algebraic, trivial, Cert.Small.algebraic⟩

end Cert.Proof

end
